-- ==== Defs.lean ====
def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_scores_finite [hPre_scores_finite : Cert.Pre_scores_finite.Facts] (m : (ℓ : Loc Cert.NaIdeal.nD Cert.NaIdeal.τ Cert.NaIdeal.sig) → Buf (Elt Ideal) ℓ) : Prop :=
  ∀ c : Dev Cert.NaIdeal.nD,
    (Cert.Pre_scores_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))).1 = (fun _ => 1#1)
    ∧ (Cert.Pre_scores_finite.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1))).2 = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_scores_finite [hPre_scores_finite : Cert.Pre_scores_finite.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_scores_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))).1 = (fun _ => 1#1)
    ∧ (Cert.Pre_scores_finite.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Res (m : (ℓ : Loc Cert.Res.nD Cert.Res.τ Cert.Res.sig) → Buf (Elt Bits) ℓ) : Prop :=
  True

def Pre_ResIdeal (m : (ℓ : Loc Cert.ResIdeal.nD Cert.ResIdeal.τ Cert.ResIdeal.sig) → Buf (Elt Ideal) ℓ) : Prop :=
  True

def Pre_ResRefIdeal (m : (ℓ : Loc Cert.ResRefIdeal.nD Cert.ResRefIdeal.τ Cert.ResRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaRefIdeal (m : (ℓ : Loc Cert.SwaRefIdeal.nD Cert.SwaRefIdeal.τ Cert.SwaRefIdeal.sig) → Buf (Elt Ideal) ℓ) : Prop :=
  True

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaIdeal_pre_scores_finite [hNaIdeal : Cert.NaIdeal.Facts] [hPre_scores_finite : Cert.Pre_scores_finite.Facts] : Prop :=
  ∀ (m : (ℓ : Loc Cert.NaIdeal.nD Cert.NaIdeal.τ Cert.NaIdeal.sig) → Buf (Elt Ideal) ℓ) (g : Dev Cert.NaIdeal.nD → PrngReg), Pre_NaIdeal_scores_finite m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_NaRefIdeal_pre_scores_finite [hNaRefIdeal : Cert.NaRefIdeal.Facts] [hPre_scores_finite : Cert.Pre_scores_finite.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_scores_finite m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Res [hRes : Cert.Res.Facts] : Prop :=
  ∀ (m : (ℓ : Loc Cert.Res.nD Cert.Res.τ Cert.Res.sig) → Buf (Elt Bits) ℓ) (g : Dev Cert.Res.nD → PrngReg), Pre_Res m →
    θ_run (Cert.Res.defs (F := Bits)) (onTc (τ := Cert.Res.τ) (Cert.Res.main (F := Bits))) ⟨m, fun _ => 0, g⟩ (fun r => (∀ c : Dev Cert.Res.nD,
      r.2.mem ((c.tc : Thread Cert.Res.nD Cert.Res.τ).loc Cert.Res.main_arg0) = m ((c.tc : Thread Cert.Res.nD Cert.Res.τ).loc Cert.Res.main_arg0)
      ∧ r.2.mem ((c.tc : Thread Cert.Res.nD Cert.Res.τ).loc Cert.Res.main_arg1) = m ((c.tc : Thread Cert.Res.nD Cert.Res.τ).loc Cert.Res.main_arg1)
      ∧ r.2.mem ((c.tc : Thread Cert.Res.nD Cert.Res.τ).loc Cert.Res.main_arg2) = m ((c.tc : Thread Cert.Res.nD Cert.Res.τ).loc Cert.Res.main_arg2))
      ∧ r.2.sem = fun _ => 0)

def quiescent_ResIdeal [hResIdeal : Cert.ResIdeal.Facts] : Prop :=
  ∀ (m : (ℓ : Loc Cert.ResIdeal.nD Cert.ResIdeal.τ Cert.ResIdeal.sig) → Buf (Elt Ideal) ℓ) (g : Dev Cert.ResIdeal.nD → PrngReg), Pre_ResIdeal m →
    θ_run (Cert.ResIdeal.defs (F := Ideal)) (onTc (τ := Cert.ResIdeal.τ) (Cert.ResIdeal.main (F := Ideal))) ⟨m, fun _ => 0, g⟩ (fun r => (∀ c : Dev Cert.ResIdeal.nD,
      r.2.mem ((c.tc : Thread Cert.ResIdeal.nD Cert.ResIdeal.τ).loc Cert.ResIdeal.main_arg0) = m ((c.tc : Thread Cert.ResIdeal.nD Cert.ResIdeal.τ).loc Cert.ResIdeal.main_arg0)
      ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
      ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ r.2.sem = fun _ => 0)

def quiescent_ResRefIdeal [hResRefIdeal : Cert.ResRefIdeal.Facts] : Prop :=
  ∀ (m : (ℓ : Loc Cert.ResRefIdeal.nD Cert.ResRefIdeal.τ Cert.ResRefIdeal.sig) → Buf (Elt Ideal) ℓ) (g : Dev Cert.ResRefIdeal.nD → PrngReg), Pre_ResRefIdeal m →
    θ_run (Cert.ResRefIdeal.defs (F := Ideal)) (onTc (τ := Cert.ResRefIdeal.τ) (Cert.ResRefIdeal.main (F := Ideal))) ⟨m, fun _ => 0, g⟩ (fun r => (∀ c : Dev Cert.ResRefIdeal.nD,
      r.2.mem ((c.tc : Thread Cert.ResRefIdeal.nD Cert.ResRefIdeal.τ).loc Cert.ResRefIdeal.main_arg0) = m ((c.tc : Thread Cert.ResRefIdeal.nD Cert.ResRefIdeal.τ).loc Cert.ResRefIdeal.main_arg0)
      ∧ r.2.mem ((c.tc : Thread Cert.ResRefIdeal.nD Cert.ResRefIdeal.τ).loc Cert.ResRefIdeal.main_arg1) = m ((c.tc : Thread Cert.ResRefIdeal.nD Cert.ResRefIdeal.τ).loc Cert.ResRefIdeal.main_arg1)
      ∧ r.2.mem ((c.tc : Thread Cert.ResRefIdeal.nD Cert.ResRefIdeal.τ).loc Cert.ResRefIdeal.main_arg2) = m ((c.tc : Thread Cert.ResRefIdeal.nD Cert.ResRefIdeal.τ).loc Cert.ResRefIdeal.main_arg2))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4)
      ∧ r.2.mem ((c.tc : Thread Cert.MixOut.nD Cert.MixOut.τ).loc Cert.MixOut.main_arg5) = m ((c.tc : Thread Cert.MixOut.nD Cert.MixOut.τ).loc Cert.MixOut.main_arg5)
      ∧ r.2.mem ((c.tc : Thread Cert.MixOut.nD Cert.MixOut.τ).loc Cert.MixOut.main_arg6) = m ((c.tc : Thread Cert.MixOut.nD Cert.MixOut.τ).loc Cert.MixOut.main_arg6))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
      ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
      ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4)
      ∧ r.2.mem ((c.tc : Thread Cert.MixOutRefIdeal.nD Cert.MixOutRefIdeal.τ).loc Cert.MixOutRefIdeal.main_arg5) = m ((c.tc : Thread Cert.MixOutRefIdeal.nD Cert.MixOutRefIdeal.τ).loc Cert.MixOutRefIdeal.main_arg5)
      ∧ r.2.mem ((c.tc : Thread Cert.MixOutRefIdeal.nD Cert.MixOutRefIdeal.τ).loc Cert.MixOutRefIdeal.main_arg6) = m ((c.tc : Thread Cert.MixOutRefIdeal.nD Cert.MixOutRefIdeal.τ).loc Cert.MixOutRefIdeal.main_arg6))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def preserves_Na_NaIdeal : Prop :=
  True

def algebraic_NaIdeal_NaRefIdeal_pre_scores_finite [hNaIdeal : Cert.NaIdeal.Facts] [hNaRefIdeal : Cert.NaRefIdeal.Facts] [hPre_scores_finite : Cert.Pre_scores_finite.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_scores_finite m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)) →
    ∃ (v0 : (c : Dev Cert.NaIdeal.nD) → Buf (Elt Ideal) ((c.tc : Thread Cert.NaIdeal.nD Cert.NaIdeal.τ).loc Cert.NaIdeal.main_v0)),
      θ_run (Cert.NaIdeal.defs (F := Ideal)) (onTc (τ := Cert.NaIdeal.τ) (Cert.NaIdeal.main (F := Ideal))) ⟨m, fun _ => 0, g⟩ (fun r => ∀ c : Dev Cert.NaIdeal.nD,
          r.2.mem ((c.tc : Thread Cert.NaIdeal.nD Cert.NaIdeal.τ).loc Cert.NaIdeal.main_v0) = v0 c
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          r.2.mem ((c.tc : Thread Cert.NaRefIdeal.nD Cert.NaRefIdeal.τ).loc Cert.NaRefIdeal.main_v70) = v0 c
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v22) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Res_ResIdeal : Prop :=
  True

def algebraic_ResIdeal_ResRefIdeal [hResIdeal : Cert.ResIdeal.Facts] [hResRefIdeal : Cert.ResRefIdeal.Facts] : Prop :=
  ∀ (m : (ℓ : Loc Cert.ResIdeal.nD Cert.ResIdeal.τ Cert.ResIdeal.sig) → Buf (Elt Ideal) ℓ) (g : Dev Cert.ResIdeal.nD → PrngReg)
    (m' : (ℓ : Loc Cert.ResRefIdeal.nD Cert.ResRefIdeal.τ Cert.ResRefIdeal.sig) → Buf (Elt Ideal) ℓ) (g' : Dev Cert.ResRefIdeal.nD → PrngReg), Pre_ResIdeal m →
    (∀ c : Dev Cert.ResIdeal.nD,
      m' ((c.tc : Thread Cert.ResRefIdeal.nD Cert.ResRefIdeal.τ).loc Cert.ResRefIdeal.main_arg0) = m ((c.tc : Thread Cert.ResIdeal.nD Cert.ResIdeal.τ).loc Cert.ResIdeal.main_arg0)
      ∧ m' ((c.tc : Thread Cert.ResRefIdeal.nD Cert.ResRefIdeal.τ).loc Cert.ResRefIdeal.main_arg1) = m ((c.tc : Thread Cert.ResIdeal.nD Cert.ResIdeal.τ).loc Cert.ResIdeal.main_arg1)
      ∧ m' ((c.tc : Thread Cert.ResRefIdeal.nD Cert.ResRefIdeal.τ).loc Cert.ResRefIdeal.main_arg2) = m ((c.tc : Thread Cert.ResIdeal.nD Cert.ResIdeal.τ).loc Cert.ResIdeal.main_arg2)) →
    ∃ (v0 : (c : Dev Cert.ResIdeal.nD) → Buf (Elt Ideal) ((c.tc : Thread Cert.ResIdeal.nD Cert.ResIdeal.τ).loc Cert.ResIdeal.main_v1_0)) (v1 : (c : Dev Cert.ResIdeal.nD) → Buf (Elt Ideal) ((c.tc : Thread Cert.ResIdeal.nD Cert.ResIdeal.τ).loc Cert.ResIdeal.main_v1_1)) (v2 : (c : Dev Cert.ResIdeal.nD) → Buf (Elt Ideal) ((c.tc : Thread Cert.ResIdeal.nD Cert.ResIdeal.τ).loc Cert.ResIdeal.main_v1_2)),
      θ_run (Cert.ResIdeal.defs (F := Ideal)) (onTc (τ := Cert.ResIdeal.τ) (Cert.ResIdeal.main (F := Ideal))) ⟨m, fun _ => 0, g⟩ (fun r => ∀ c : Dev Cert.ResIdeal.nD,
          r.2.mem ((c.tc : Thread Cert.ResIdeal.nD Cert.ResIdeal.τ).loc Cert.ResIdeal.main_v1_0) = v0 c
          ∧ r.2.mem ((c.tc : Thread Cert.ResIdeal.nD Cert.ResIdeal.τ).loc Cert.ResIdeal.main_v1_1) = v1 c
          ∧ r.2.mem ((c.tc : Thread Cert.ResIdeal.nD Cert.ResIdeal.τ).loc Cert.ResIdeal.main_v1_2) = v2 c
          ∧ r.2.mem ((c.tc : Thread Cert.ResIdeal.nD Cert.ResIdeal.τ).loc Cert.ResIdeal.main_arg0) = m ((c.tc : Thread Cert.ResIdeal.nD Cert.ResIdeal.τ).loc Cert.ResIdeal.main_arg0)
          ∧ r.2.mem ((c.tc : Thread Cert.ResIdeal.nD Cert.ResIdeal.τ).loc Cert.ResIdeal.main_arg1) = m ((c.tc : Thread Cert.ResIdeal.nD Cert.ResIdeal.τ).loc Cert.ResIdeal.main_arg1)
          ∧ r.2.mem ((c.tc : Thread Cert.ResIdeal.nD Cert.ResIdeal.τ).loc Cert.ResIdeal.main_arg2) = m ((c.tc : Thread Cert.ResIdeal.nD Cert.ResIdeal.τ).loc Cert.ResIdeal.main_arg2))
      ∧ θ_run (Cert.ResRefIdeal.defs (F := Ideal)) (onTc (τ := Cert.ResRefIdeal.τ) (Cert.ResRefIdeal.main (F := Ideal))) ⟨m', fun _ => 0, g'⟩ (fun r => ∀ c : Dev Cert.ResRefIdeal.nD,
          r.2.mem ((c.tc : Thread Cert.ResRefIdeal.nD Cert.ResRefIdeal.τ).loc Cert.ResRefIdeal.main_v6) = v0 c
          ∧ r.2.mem ((c.tc : Thread Cert.ResRefIdeal.nD Cert.ResRefIdeal.τ).loc Cert.ResRefIdeal.main_v7) = v1 c
          ∧ r.2.mem ((c.tc : Thread Cert.ResRefIdeal.nD Cert.ResRefIdeal.τ).loc Cert.ResRefIdeal.main_v11) = v2 c
          ∧ r.2.mem ((c.tc : Thread Cert.ResRefIdeal.nD Cert.ResRefIdeal.τ).loc Cert.ResRefIdeal.main_arg0) = m' ((c.tc : Thread Cert.ResRefIdeal.nD Cert.ResRefIdeal.τ).loc Cert.ResRefIdeal.main_arg0)
          ∧ r.2.mem ((c.tc : Thread Cert.ResRefIdeal.nD Cert.ResRefIdeal.τ).loc Cert.ResRefIdeal.main_arg1) = m' ((c.tc : Thread Cert.ResRefIdeal.nD Cert.ResRefIdeal.τ).loc Cert.ResRefIdeal.main_arg1)
          ∧ r.2.mem ((c.tc : Thread Cert.ResRefIdeal.nD Cert.ResRefIdeal.τ).loc Cert.ResRefIdeal.main_arg2) = m' ((c.tc : Thread Cert.ResRefIdeal.nD Cert.ResRefIdeal.τ).loc Cert.ResRefIdeal.main_arg2))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)) →
    ∃ (v0 : (c : Dev Cert.MixInIdeal.nD) → Buf (Elt Ideal) ((c.tc : Thread Cert.MixInIdeal.nD Cert.MixInIdeal.τ).loc Cert.MixInIdeal.main_v5)) (v1 : (c : Dev Cert.MixInIdeal.nD) → Buf (Elt Ideal) ((c.tc : Thread Cert.MixInIdeal.nD Cert.MixInIdeal.τ).loc Cert.MixInIdeal.main_v6)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v5) = v0 c
          ∧ r.2.mem ((c.tc : Thread Cert.MixInIdeal.nD Cert.MixInIdeal.τ).loc Cert.MixInIdeal.main_v6) = v1 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v23) = v0 c
          ∧ r.2.mem ((c.tc : Thread Cert.MixInRefIdeal.nD Cert.MixInRefIdeal.τ).loc Cert.MixInRefIdeal.main_v24) = v1 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)
      ∧ m' ((c.tc : Thread Cert.MixOutRefIdeal.nD Cert.MixOutRefIdeal.τ).loc Cert.MixOutRefIdeal.main_arg5) = m ((c.tc : Thread Cert.MixOutIdeal.nD Cert.MixOutIdeal.τ).loc Cert.MixOutIdeal.main_arg5)
      ∧ m' ((c.tc : Thread Cert.MixOutRefIdeal.nD Cert.MixOutRefIdeal.τ).loc Cert.MixOutRefIdeal.main_arg6) = m ((c.tc : Thread Cert.MixOutIdeal.nD Cert.MixOutIdeal.τ).loc Cert.MixOutIdeal.main_arg6)) →
    ∃ (v0 : (c : Dev Cert.MixOutIdeal.nD) → Buf (Elt Ideal) ((c.tc : Thread Cert.MixOutIdeal.nD Cert.MixOutIdeal.τ).loc Cert.MixOutIdeal.main_v5_0)) (v1 : (c : Dev Cert.MixOutIdeal.nD) → Buf (Elt Ideal) ((c.tc : Thread Cert.MixOutIdeal.nD Cert.MixOutIdeal.τ).loc Cert.MixOutIdeal.main_v5_1)) (v2 : (c : Dev Cert.MixOutIdeal.nD) → Buf (Elt Ideal) ((c.tc : Thread Cert.MixOutIdeal.nD Cert.MixOutIdeal.τ).loc Cert.MixOutIdeal.main_v5_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v5_0) = v0 c
          ∧ r.2.mem ((c.tc : Thread Cert.MixOutIdeal.nD Cert.MixOutIdeal.τ).loc Cert.MixOutIdeal.main_v5_1) = v1 c
          ∧ r.2.mem ((c.tc : Thread Cert.MixOutIdeal.nD Cert.MixOutIdeal.τ).loc Cert.MixOutIdeal.main_v5_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4)
          ∧ r.2.mem ((c.tc : Thread Cert.MixOutIdeal.nD Cert.MixOutIdeal.τ).loc Cert.MixOutIdeal.main_arg5) = m ((c.tc : Thread Cert.MixOutIdeal.nD Cert.MixOutIdeal.τ).loc Cert.MixOutIdeal.main_arg5)
          ∧ r.2.mem ((c.tc : Thread Cert.MixOutIdeal.nD Cert.MixOutIdeal.τ).loc Cert.MixOutIdeal.main_arg6) = m ((c.tc : Thread Cert.MixOutIdeal.nD Cert.MixOutIdeal.τ).loc Cert.MixOutIdeal.main_arg6))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v76) = v0 c
          ∧ r.2.mem ((c.tc : Thread Cert.MixOutRefIdeal.nD Cert.MixOutRefIdeal.τ).loc Cert.MixOutRefIdeal.main_v77) = v1 c
          ∧ r.2.mem ((c.tc : Thread Cert.MixOutRefIdeal.nD Cert.MixOutRefIdeal.τ).loc Cert.MixOutRefIdeal.main_v81) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4)
          ∧ r.2.mem ((c.tc : Thread Cert.MixOutRefIdeal.nD Cert.MixOutRefIdeal.τ).loc Cert.MixOutRefIdeal.main_arg5) = m' ((c.tc : Thread Cert.MixOutRefIdeal.nD Cert.MixOutRefIdeal.τ).loc Cert.MixOutRefIdeal.main_arg5)
          ∧ r.2.mem ((c.tc : Thread Cert.MixOutRefIdeal.nD Cert.MixOutRefIdeal.τ).loc Cert.MixOutRefIdeal.main_arg6) = m' ((c.tc : Thread Cert.MixOutRefIdeal.nD Cert.MixOutRefIdeal.τ).loc Cert.MixOutRefIdeal.main_arg6))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v56) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def preserves_Swa_SwaIdeal : Prop :=
  True

def algebraic_SwaIdeal_SwaRefIdeal [hSwaIdeal : Cert.SwaIdeal.Facts] [hSwaRefIdeal : Cert.SwaRefIdeal.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v99) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def Claim : Prop :=
  ∃ (hNa : Cert.Na.Facts) (hNaIdeal : Cert.NaIdeal.Facts) (hNaRefIdeal : Cert.NaRefIdeal.Facts) (hFfn : Cert.Ffn.Facts) (hFfnIdeal : Cert.FfnIdeal.Facts) (hFfnRefIdeal : Cert.FfnRefIdeal.Facts) (hRes : Cert.Res.Facts) (hResIdeal : Cert.ResIdeal.Facts) (hResRefIdeal : Cert.ResRefIdeal.Facts) (hMixIn : Cert.MixIn.Facts) (hMixInIdeal : Cert.MixInIdeal.Facts) (hMixInRefIdeal : Cert.MixInRefIdeal.Facts) (hMixOut : Cert.MixOut.Facts) (hMixOutIdeal : Cert.MixOutIdeal.Facts) (hMixOutRefIdeal : Cert.MixOutRefIdeal.Facts) (hFinal : Cert.Final.Facts) (hFinalIdeal : Cert.FinalIdeal.Facts) (hFinalRefIdeal : Cert.FinalRefIdeal.Facts) (hConv : Cert.Conv.Facts) (hConvIdeal : Cert.ConvIdeal.Facts) (hConvRefIdeal : Cert.ConvRefIdeal.Facts) (hSwa : Cert.Swa.Facts) (hSwaIdeal : Cert.SwaIdeal.Facts) (hSwaRefIdeal : Cert.SwaRefIdeal.Facts) (hPre_scores_finite : Cert.Pre_scores_finite.Facts),
    quiescent_Na (hNa := hNa)
    ∧ quiescent_NaIdeal (hNaIdeal := hNaIdeal)
    ∧ quiescent_NaIdeal_pre_scores_finite (hNaIdeal := hNaIdeal) (hPre_scores_finite := hPre_scores_finite)
    ∧ quiescent_NaRefIdeal (hNaRefIdeal := hNaRefIdeal)
    ∧ quiescent_NaRefIdeal_pre_scores_finite (hNaRefIdeal := hNaRefIdeal) (hPre_scores_finite := hPre_scores_finite)
    ∧ quiescent_Ffn (hFfn := hFfn)
    ∧ quiescent_FfnIdeal (hFfnIdeal := hFfnIdeal)
    ∧ quiescent_FfnRefIdeal (hFfnRefIdeal := hFfnRefIdeal)
    ∧ quiescent_Res (hRes := hRes)
    ∧ quiescent_ResIdeal (hResIdeal := hResIdeal)
    ∧ quiescent_ResRefIdeal (hResRefIdeal := hResRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_Final (hFinal := hFinal)
    ∧ quiescent_FinalIdeal (hFinalIdeal := hFinalIdeal)
    ∧ quiescent_FinalRefIdeal (hFinalRefIdeal := hFinalRefIdeal)
    ∧ quiescent_Conv (hConv := hConv)
    ∧ quiescent_ConvIdeal (hConvIdeal := hConvIdeal)
    ∧ quiescent_ConvRefIdeal (hConvRefIdeal := hConvRefIdeal)
    ∧ quiescent_Swa (hSwa := hSwa)
    ∧ quiescent_SwaIdeal (hSwaIdeal := hSwaIdeal)
    ∧ quiescent_SwaRefIdeal (hSwaRefIdeal := hSwaRefIdeal)
    ∧ preserves_Na_NaIdeal
    ∧ algebraic_NaIdeal_NaRefIdeal_pre_scores_finite (hNaIdeal := hNaIdeal) (hNaRefIdeal := hNaRefIdeal) (hPre_scores_finite := hPre_scores_finite)
    ∧ preserves_Ffn_FfnIdeal
    ∧ algebraic_FfnIdeal_FfnRefIdeal (hFfnIdeal := hFfnIdeal) (hFfnRefIdeal := hFfnRefIdeal)
    ∧ preserves_Res_ResIdeal
    ∧ algebraic_ResIdeal_ResRefIdeal (hResIdeal := hResIdeal) (hResRefIdeal := hResRefIdeal)
    ∧ preserves_MixIn_MixInIdeal
    ∧ algebraic_MixInIdeal_MixInRefIdeal (hMixInIdeal := hMixInIdeal) (hMixInRefIdeal := hMixInRefIdeal)
    ∧ preserves_MixOut_MixOutIdeal
    ∧ algebraic_MixOutIdeal_MixOutRefIdeal (hMixOutIdeal := hMixOutIdeal) (hMixOutRefIdeal := hMixOutRefIdeal)
    ∧ preserves_Final_FinalIdeal
    ∧ algebraic_FinalIdeal_FinalRefIdeal (hFinalIdeal := hFinalIdeal) (hFinalRefIdeal := hFinalRefIdeal)
    ∧ preserves_Conv_ConvIdeal
    ∧ algebraic_ConvIdeal_ConvRefIdeal (hConvIdeal := hConvIdeal) (hConvRefIdeal := hConvRefIdeal)
    ∧ preserves_Swa_SwaIdeal
    ∧ algebraic_SwaIdeal_SwaRefIdeal (hSwaIdeal := hSwaIdeal) (hSwaRefIdeal := hSwaRefIdeal)
-- ==== Pre_scores_finite.lean ====
abbrev S60x8x2048x128 : Shape := ⟨4, ![60, 8, 2048, 128]⟩
abbrev S8x8x64x512 : Shape := ⟨4, ![8, 8, 64, 512]⟩
abbrev S16x8x2048x128 : Shape := ⟨4, ![16, 8, 2048, 128]⟩
abbrev S_ : Shape := ⟨0, ![]⟩

class Facts : Prop where
  slices_S60x8x2048x128_S16x8x2048x128_0_0_0_0 : S60x8x2048x128.Slices ![0, 0, 0, 0] S16x8x2048x128
  bitsLt_bf16_f32 : FTy.bits .bf16 < FTy.bits .f32
  bcast_S_S16x8x2048x128 : S_.BroadcastsInDim S16x8x2048x128 (![] : Fin 0 → Fin S16x8x2048x128.rank)
  bcast_S_S8x8x64x512 : S_.BroadcastsInDim S8x8x64x512 (![] : Fin 0 → Fin S8x8x64x512.rank)

variable [Facts]

def fn {F : FTy → Type} [FloatOps F] (main_arg0 : FVec F S60x8x2048x128 .bf16) (main_arg1 : FVec F S8x8x64x512 .f32) : IVec S16x8x2048x128 1 × IVec S8x8x64x512 1 :=
  let main_v0 : FVec F S16x8x2048x128 .bf16 := (extractStridedSlice S16x8x2048x128 ![0, 0, 0, 0] · slices_S60x8x2048x128_S16x8x2048x128_0_0_0_0) main_arg0
  let main_v1 : FVec F S16x8x2048x128 .f32 := (extf .f32 · bitsLt_bf16_f32) main_v0
  let main_v2 : FVec F S16x8x2048x128 .f32 := Host.absf main_v1
  let main_cst : FVec F S_ .f32 := constant S_ .f32 0x7F800000#32
  let main_v3 : FVec F S16x8x2048x128 .f32 := broadcastInDim S16x8x2048x128 ![] bcast_S_S16x8x2048x128 main_cst
  let main_v4 : IVec S16x8x2048x128 1 := cmpf .olt main_v2 main_v3
  let main_v5 : FVec F S8x8x64x512 .f32 := Host.absf main_arg1
  let main_cst_0 : FVec F S_ .f32 := constant S_ .f32 0x7F800000#32
  let main_v6 : FVec F S8x8x64x512 .f32 := broadcastInDim S8x8x64x512 ![] bcast_S_S8x8x64x512 main_cst_0
  let main_v7 : IVec S8x8x64x512 1 := cmpf .olt main_v5 main_v6
  (main_v4, main_v7)
-- ==== Na.lean ====
abbrev S60x8x2048x128 : Shape := ⟨4, ![60, 8, 2048, 128]⟩
abbrev S8x8x64x512 : Shape := ⟨4, ![8, 8, 64, 512]⟩
abbrev S8x2048x1024 : Shape := ⟨3, ![8, 2048, 1024]⟩
abbrev S1x1x2048x128 : Shape := ⟨4, ![1, 1, 2048, 128]⟩
abbrev S1x8x64x512 : Shape := ⟨4, ![1, 8, 64, 512]⟩
abbrev S1x2048x128 : Shape := ⟨3, ![1, 2048, 128]⟩
abbrev S1x1x64x128 : Shape := ⟨4, ![1, 1, 64, 128]⟩
abbrev S64x128 : Shape := ⟨2, ![64, 128]⟩
abbrev S1x1x512x128 : Shape := ⟨4, ![1, 1, 512, 128]⟩
abbrev S512x128 : Shape := ⟨2, ![512, 128]⟩
abbrev S64x512 : Shape := ⟨2, ![64, 512]⟩
abbrev S1x1x64x512 : Shape := ⟨4, ![1, 1, 64, 512]⟩
abbrev S64 : Shape := ⟨1, ![64]⟩
abbrev S64x1 : Shape := ⟨2, ![64, 1]⟩
abbrev S1x64x128 : Shape := ⟨3, ![1, 64, 128]⟩

abbrev nBuf : Space → Nat
  | .hbm => 3
  | .vmem => 10
  | .smem => 0
  | _ => 0

abbrev bufTy : (tb : Table) → Fin (tcTables nBuf tb) → BufTy
  | .hbm, ⟨0, _⟩ => ⟨S60x8x2048x128, .bf16⟩
  | .hbm, ⟨1, _⟩ => ⟨S8x8x64x512, .f32⟩
  | .hbm, ⟨2, _⟩ => ⟨S8x2048x1024, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x8x64x512, .f32⟩
  | .local _ .vmem, ⟨7, _⟩ => ⟨S1x8x64x512, .f32⟩
  | .local _ .vmem, ⟨8, _⟩ => ⟨S1x2048x128, .bf16⟩
  | .local _ .vmem, ⟨9, _⟩ => ⟨S1x2048x128, .bf16⟩
  | _, _ => ⟨S60x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c24_i32 : BitVec 32 := 24#32
  let c0_i32_2 : BitVec 32 := 0#32
  let c0_i32 : BitVec 32 := 0#32
  let c1_i32 : BitVec 32 := 1#32
  let arg7 : BitVec 32 := Scf.iv c0_i32 c1_i32 k0_t1
  let c16_i32 : BitVec 32 := 16#32
  let v1 : BitVec 32 := Scalar.muli arg7 c16_i32
  let c0_i32_1 : BitVec 32 := 0#32
  let v2 : BitVec 32 := Scalar.addi v1 c0_i32_1
  let c4_i32 : BitVec 32 := 4#32
  let v3 : BitVec 32 := Scalar.subi v2 c4_i32
  let v4 : BitVec 32 := Scalar.maxsi c0_i32_2 v3
  let v5 : BitVec 32 := Scalar.minsi c24_i32 v4
  let c64_i32 : BitVec 32 := 64#32
  let v6 : BitVec 32 := Scalar.muli v5 c64_i32
  v6
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32 : BitVec 32 := 16#32
  let v1 : BitVec 32 := Scalar.muli arg7 c16_i32
  let c0_i32_1 : BitVec 32 := 0#32
  let v2 : BitVec 32 := Scalar.addi v1 c0_i32_1
  let c64_i32_3 : BitVec 32 := 64#32
  let v8 : BitVec 32 := Scalar.muli v2 c64_i32_3
  v8
def k0_off1 (k0_t1 : Fin k0_t1_loop.trips) (c0_i32_1 : BitVec 32) : Fin 4 → Nat :=
  let c0 : Index := 0#32
  let c0_4 : Index := 0#32
  let c0_i32 : BitVec 32 := 0#32
  let c1_i32 : BitVec 32 := 1#32
  let arg7 : BitVec 32 := Scf.iv c0_i32 c1_i32 k0_t1
  let c16_i32 : BitVec 32 := 16#32
  let v1 : BitVec 32 := Scalar.muli arg7 c16_i32
  let v2 : BitVec 32 := Scalar.addi v1 c0_i32_1
  let c64_i32_3 : BitVec 32 := 64#32
  let v8 : BitVec 32 := Scalar.muli v2 c64_i32_3
  let v9 : BitVec 32 := v8
  let v10 : Index := Scalar.indexCast v9
  let c0_5 : Index := 0#32
  ![0, 0, v10.toNat, 0]
def k0_off2 (k0_t1 : Fin k0_t1_loop.trips) (c0_i32_1 : BitVec 32) : Fin 4 → Nat :=
  let c0_6 : Index := 0#32
  let c0_7 : Index := 0#32
  let c24_i32 : BitVec 32 := 24#32
  let c0_i32_2 : BitVec 32 := 0#32
  let c0_i32 : BitVec 32 := 0#32
  let c1_i32 : BitVec 32 := 1#32
  let arg7 : BitVec 32 := Scf.iv c0_i32 c1_i32 k0_t1
  let c16_i32 : BitVec 32 := 16#32
  let v1 : BitVec 32 := Scalar.muli arg7 c16_i32
  let v2 : BitVec 32 := Scalar.addi v1 c0_i32_1
  let c4_i32 : BitVec 32 := 4#32
  let v3 : BitVec 32 := Scalar.subi v2 c4_i32
  let v4 : BitVec 32 := Scalar.maxsi c0_i32_2 v3
  let v5 : BitVec 32 := Scalar.minsi c24_i32 v4
  let c64_i32 : BitVec 32 := 64#32
  let v6 : BitVec 32 := Scalar.muli v5 c64_i32
  let v7 : BitVec 32 := v6
  let v13 : Index := Scalar.indexCast v7
  let c0_8 : Index := 0#32
  ![0, 0, v13.toNat, 0]
def k0_off3 (k0_t1 : Fin k0_t1_loop.trips) (c0_i32_1 : BitVec 32) : Fin 4 → Nat :=
  let c0_13 : Index := 0#32
  let c0_i32 : BitVec 32 := 0#32
  let c1_i32 : BitVec 32 := 1#32
  let arg7 : BitVec 32 := Scf.iv c0_i32 c1_i32 k0_t1
  let c16_i32 : BitVec 32 := 16#32
  let v1 : BitVec 32 := Scalar.muli arg7 c16_i32
  let v2 : BitVec 32 := Scalar.addi v1 c0_i32_1
  let c24_i32 : BitVec 32 := 24#32
  let c0_i32_2 : BitVec 32 := 0#32
  let c4_i32 : BitVec 32 := 4#32
  let v3 : BitVec 32 := Scalar.subi v2 c4_i32
  let v4 : BitVec 32 := Scalar.maxsi c0_i32_2 v3
  let v5 : BitVec 32 := Scalar.minsi c24_i32 v4
  let v22 : BitVec 32 := Scalar.subi v2 v5
  let v23 : Index := Scalar.indexCast v22
  let c0_14 : Index := 0#32
  let c0_15 : Index := 0#32
  ![0, v23.toNat, 0, 0]
def k0_mult3 (k0_t1 : Fin k0_t1_loop.trips) : BitVec 32 :=
  let c24_i32_20 : BitVec 32 := 24#32
  let c0_i32_19 : BitVec 32 := 0#32
  let c0_i32 : BitVec 32 := 0#32
  let c1_i32 : BitVec 32 := 1#32
  let arg7 : BitVec 32 := Scf.iv c0_i32 c1_i32 k0_t1
  let c16_i32_16 : BitVec 32 := 16#32
  let v27 : BitVec 32 := Scalar.muli arg7 c16_i32_16
  let c1_i32_17 : BitVec 32 := 1#32
  let v28 : BitVec 32 := Scalar.addi v27 c1_i32_17
  let c4_i32_18 : BitVec 32 := 4#32
  let v29 : BitVec 32 := Scalar.subi v28 c4_i32_18
  let v30 : BitVec 32 := Scalar.maxsi c0_i32_19 v29
  let v31 : BitVec 32 := Scalar.minsi c24_i32_20 v30
  let c64_i32_21 : BitVec 32 := 64#32
  let v32 : BitVec 32 := Scalar.muli v31 c64_i32_21
  v32
def k0_mult4 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_16 : BitVec 32 := 16#32
  let v27 : BitVec 32 := Scalar.muli arg7 c16_i32_16
  let c1_i32_17 : BitVec 32 := 1#32
  let v28 : BitVec 32 := Scalar.addi v27 c1_i32_17
  let c64_i32_22 : BitVec 32 := 64#32
  let v34 : BitVec 32 := Scalar.muli v28 c64_i32_22
  v34
def k0_mult5 (k0_t1 : Fin k0_t1_loop.trips) : BitVec 32 :=
  let c24_i32_41 : BitVec 32 := 24#32
  let c0_i32_40 : BitVec 32 := 0#32
  let c0_i32 : BitVec 32 := 0#32
  let c1_i32 : BitVec 32 := 1#32
  let arg7 : BitVec 32 := Scf.iv c0_i32 c1_i32 k0_t1
  let c16_i32_37 : BitVec 32 := 16#32
  let v53 : BitVec 32 := Scalar.muli arg7 c16_i32_37
  let c2_i32_38 : BitVec 32 := 2#32
  let v54 : BitVec 32 := Scalar.addi v53 c2_i32_38
  let c4_i32_39 : BitVec 32 := 4#32
  let v55 : BitVec 32 := Scalar.subi v54 c4_i32_39
  let v56 : BitVec 32 := Scalar.maxsi c0_i32_40 v55
  let v57 : BitVec 32 := Scalar.minsi c24_i32_41 v56
  let c64_i32_42 : BitVec 32 := 64#32
  let v58 : BitVec 32 := Scalar.muli v57 c64_i32_42
  v58
def k0_mult6 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_37 : BitVec 32 := 16#32
  let v53 : BitVec 32 := Scalar.muli arg7 c16_i32_37
  let c2_i32_38 : BitVec 32 := 2#32
  let v54 : BitVec 32 := Scalar.addi v53 c2_i32_38
  let c64_i32_43 : BitVec 32 := 64#32
  let v60 : BitVec 32 := Scalar.muli v54 c64_i32_43
  v60
def k0_mult7 (k0_t1 : Fin k0_t1_loop.trips) : BitVec 32 :=
  let c24_i32_61 : BitVec 32 := 24#32
  let c0_i32_60 : BitVec 32 := 0#32
  let c0_i32 : BitVec 32 := 0#32
  let c1_i32 : BitVec 32 := 1#32
  let arg7 : BitVec 32 := Scf.iv c0_i32 c1_i32 k0_t1
  let c16_i32_58 : BitVec 32 := 16#32
  let v79 : BitVec 32 := Scalar.muli arg7 c16_i32_58
  let c3_i32 : BitVec 32 := 3#32
  let v80 : BitVec 32 := Scalar.addi v79 c3_i32
  let c4_i32_59 : BitVec 32 := 4#32
  let v81 : BitVec 32 := Scalar.subi v80 c4_i32_59
  let v82 : BitVec 32 := Scalar.maxsi c0_i32_60 v81
  let v83 : BitVec 32 := Scalar.minsi c24_i32_61 v82
  let c64_i32_62 : BitVec 32 := 64#32
  let v84 : BitVec 32 := Scalar.muli v83 c64_i32_62
  v84
def k0_mult8 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_58 : BitVec 32 := 16#32
  let v79 : BitVec 32 := Scalar.muli arg7 c16_i32_58
  let c3_i32 : BitVec 32 := 3#32
  let v80 : BitVec 32 := Scalar.addi v79 c3_i32
  let c64_i32_63 : BitVec 32 := 64#32
  let v86 : BitVec 32 := Scalar.muli v80 c64_i32_63
  v86
def k0_mult9 (k0_t1 : Fin k0_t1_loop.trips) : BitVec 32 :=
  let c24_i32_82 : BitVec 32 := 24#32
  let c0_i32_81 : BitVec 32 := 0#32
  let c0_i32 : BitVec 32 := 0#32
  let c1_i32 : BitVec 32 := 1#32
  let arg7 : BitVec 32 := Scf.iv c0_i32 c1_i32 k0_t1
  let c16_i32_78 : BitVec 32 := 16#32
  let v105 : BitVec 32 := Scalar.muli arg7 c16_i32_78
  let c4_i32_79 : BitVec 32 := 4#32
  let v106 : BitVec 32 := Scalar.addi v105 c4_i32_79
  let c4_i32_80 : BitVec 32 := 4#32
  let v107 : BitVec 32 := Scalar.subi v106 c4_i32_80
  let v108 : BitVec 32 := Scalar.maxsi c0_i32_81 v107
  let v109 : BitVec 32 := Scalar.minsi c24_i32_82 v108
  let c64_i32_83 : BitVec 32 := 64#32
  let v110 : BitVec 32 := Scalar.muli v109 c64_i32_83
  v110
def k0_mult10 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_78 : BitVec 32 := 16#32
  let v105 : BitVec 32 := Scalar.muli arg7 c16_i32_78
  let c4_i32_79 : BitVec 32 := 4#32
  let v106 : BitVec 32 := Scalar.addi v105 c4_i32_79
  let c64_i32_84 : BitVec 32 := 64#32
  let v112 : BitVec 32 := Scalar.muli v106 c64_i32_84
  v112
def k0_mult11 (k0_t1 : Fin k0_t1_loop.trips) : BitVec 32 :=
  let c24_i32_102 : BitVec 32 := 24#32
  let c0_i32_101 : BitVec 32 := 0#32
  let c0_i32 : BitVec 32 := 0#32
  let c1_i32 : BitVec 32 := 1#32
  let arg7 : BitVec 32 := Scf.iv c0_i32 c1_i32 k0_t1
  let c16_i32_99 : BitVec 32 := 16#32
  let v131 : BitVec 32 := Scalar.muli arg7 c16_i32_99
  let c5_i32 : BitVec 32 := 5#32
  let v132 : BitVec 32 := Scalar.addi v131 c5_i32
  let c4_i32_100 : BitVec 32 := 4#32
  let v133 : BitVec 32 := Scalar.subi v132 c4_i32_100
  let v134 : BitVec 32 := Scalar.maxsi c0_i32_101 v133
  let v135 : BitVec 32 := Scalar.minsi c24_i32_102 v134
  let c64_i32_103 : BitVec 32 := 64#32
  let v136 : BitVec 32 := Scalar.muli v135 c64_i32_103
  v136
def k0_mult12 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_99 : BitVec 32 := 16#32
  let v131 : BitVec 32 := Scalar.muli arg7 c16_i32_99
  let c5_i32 : BitVec 32 := 5#32
  let v132 : BitVec 32 := Scalar.addi v131 c5_i32
  let c64_i32_104 : BitVec 32 := 64#32
  let v138 : BitVec 32 := Scalar.muli v132 c64_i32_104
  v138
def k0_mult13 (k0_t1 : Fin k0_t1_loop.trips) : BitVec 32 :=
  let c24_i32_122 : BitVec 32 := 24#32
  let c0_i32_121 : BitVec 32 := 0#32
  let c0_i32 : BitVec 32 := 0#32
  let c1_i32 : BitVec 32 := 1#32
  let arg7 : BitVec 32 := Scf.iv c0_i32 c1_i32 k0_t1
  let c16_i32_119 : BitVec 32 := 16#32
  let v157 : BitVec 32 := Scalar.muli arg7 c16_i32_119
  let c6_i32 : BitVec 32 := 6#32
  let v158 : BitVec 32 := Scalar.addi v157 c6_i32
  let c4_i32_120 : BitVec 32 := 4#32
  let v159 : BitVec 32 := Scalar.subi v158 c4_i32_120
  let v160 : BitVec 32 := Scalar.maxsi c0_i32_121 v159
  let v161 : BitVec 32 := Scalar.minsi c24_i32_122 v160
  let c64_i32_123 : BitVec 32 := 64#32
  let v162 : BitVec 32 := Scalar.muli v161 c64_i32_123
  v162
def k0_mult14 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_119 : BitVec 32 := 16#32
  let v157 : BitVec 32 := Scalar.muli arg7 c16_i32_119
  let c6_i32 : BitVec 32 := 6#32
  let v158 : BitVec 32 := Scalar.addi v157 c6_i32
  let c64_i32_124 : BitVec 32 := 64#32
  let v164 : BitVec 32 := Scalar.muli v158 c64_i32_124
  v164
def k0_mult15 (k0_t1 : Fin k0_t1_loop.trips) : BitVec 32 :=
  let c24_i32_142 : BitVec 32 := 24#32
  let c0_i32_141 : BitVec 32 := 0#32
  let c0_i32 : BitVec 32 := 0#32
  let c1_i32 : BitVec 32 := 1#32
  let arg7 : BitVec 32 := Scf.iv c0_i32 c1_i32 k0_t1
  let c16_i32_139 : BitVec 32 := 16#32
  let v183 : BitVec 32 := Scalar.muli arg7 c16_i32_139
  let c7_i32 : BitVec 32 := 7#32
  let v184 : BitVec 32 := Scalar.addi v183 c7_i32
  let c4_i32_140 : BitVec 32 := 4#32
  let v185 : BitVec 32 := Scalar.subi v184 c4_i32_140
  let v186 : BitVec 32 := Scalar.maxsi c0_i32_141 v185
  let v187 : BitVec 32 := Scalar.minsi c24_i32_142 v186
  let c64_i32_143 : BitVec 32 := 64#32
  let v188 : BitVec 32 := Scalar.muli v187 c64_i32_143
  v188
def k0_mult16 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_139 : BitVec 32 := 16#32
  let v183 : BitVec 32 := Scalar.muli arg7 c16_i32_139
  let c7_i32 : BitVec 32 := 7#32
  let v184 : BitVec 32 := Scalar.addi v183 c7_i32
  let c64_i32_144 : BitVec 32 := 64#32
  let v190 : BitVec 32 := Scalar.muli v184 c64_i32_144
  v190
def k0_mult17 (k0_t1 : Fin k0_t1_loop.trips) : BitVec 32 :=
  let c24_i32_162 : BitVec 32 := 24#32
  let c0_i32_161 : BitVec 32 := 0#32
  let c0_i32 : BitVec 32 := 0#32
  let c1_i32 : BitVec 32 := 1#32
  let arg7 : BitVec 32 := Scf.iv c0_i32 c1_i32 k0_t1
  let c16_i32_159 : BitVec 32 := 16#32
  let v209 : BitVec 32 := Scalar.muli arg7 c16_i32_159
  let c8_i32 : BitVec 32 := 8#32
  let v210 : BitVec 32 := Scalar.addi v209 c8_i32
  let c4_i32_160 : BitVec 32 := 4#32
  let v211 : BitVec 32 := Scalar.subi v210 c4_i32_160
  let v212 : BitVec 32 := Scalar.maxsi c0_i32_161 v211
  let v213 : BitVec 32 := Scalar.minsi c24_i32_162 v212
  let c64_i32_163 : BitVec 32 := 64#32
  let v214 : BitVec 32 := Scalar.muli v213 c64_i32_163
  v214
def k0_mult18 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_159 : BitVec 32 := 16#32
  let v209 : BitVec 32 := Scalar.muli arg7 c16_i32_159
  let c8_i32 : BitVec 32 := 8#32
  let v210 : BitVec 32 := Scalar.addi v209 c8_i32
  let c64_i32_164 : BitVec 32 := 64#32
  let v216 : BitVec 32 := Scalar.muli v210 c64_i32_164
  v216
def k0_mult19 (k0_t1 : Fin k0_t1_loop.trips) : BitVec 32 :=
  let c24_i32_182 : BitVec 32 := 24#32
  let c0_i32_181 : BitVec 32 := 0#32
  let c0_i32 : BitVec 32 := 0#32
  let c1_i32 : BitVec 32 := 1#32
  let arg7 : BitVec 32 := Scf.iv c0_i32 c1_i32 k0_t1
  let c16_i32_179 : BitVec 32 := 16#32
  let v235 : BitVec 32 := Scalar.muli arg7 c16_i32_179
  let c9_i32 : BitVec 32 := 9#32
  let v236 : BitVec 32 := Scalar.addi v235 c9_i32
  let c4_i32_180 : BitVec 32 := 4#32
  let v237 : BitVec 32 := Scalar.subi v236 c4_i32_180
  let v238 : BitVec 32 := Scalar.maxsi c0_i32_181 v237
  let v239 : BitVec 32 := Scalar.minsi c24_i32_182 v238
  let c64_i32_183 : BitVec 32 := 64#32
  let v240 : BitVec 32 := Scalar.muli v239 c64_i32_183
  v240
def k0_mult20 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_179 : BitVec 32 := 16#32
  let v235 : BitVec 32 := Scalar.muli arg7 c16_i32_179
  let c9_i32 : BitVec 32 := 9#32
  let v236 : BitVec 32 := Scalar.addi v235 c9_i32
  let c64_i32_184 : BitVec 32 := 64#32
  let v242 : BitVec 32 := Scalar.muli v236 c64_i32_184
  v242
def k0_mult21 (k0_t1 : Fin k0_t1_loop.trips) : BitVec 32 :=
  let c24_i32_202 : BitVec 32 := 24#32
  let c0_i32_201 : BitVec 32 := 0#32
  let c0_i32 : BitVec 32 := 0#32
  let c1_i32 : BitVec 32 := 1#32
  let arg7 : BitVec 32 := Scf.iv c0_i32 c1_i32 k0_t1
  let c16_i32_199 : BitVec 32 := 16#32
  let v261 : BitVec 32 := Scalar.muli arg7 c16_i32_199
  let c10_i32 : BitVec 32 := 10#32
  let v262 : BitVec 32 := Scalar.addi v261 c10_i32
  let c4_i32_200 : BitVec 32 := 4#32
  let v263 : BitVec 32 := Scalar.subi v262 c4_i32_200
  let v264 : BitVec 32 := Scalar.maxsi c0_i32_201 v263
  let v265 : BitVec 32 := Scalar.minsi c24_i32_202 v264
  let c64_i32_203 : BitVec 32 := 64#32
  let v266 : BitVec 32 := Scalar.muli v265 c64_i32_203
  v266
def k0_mult22 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_199 : BitVec 32 := 16#32
  let v261 : BitVec 32 := Scalar.muli arg7 c16_i32_199
  let c10_i32 : BitVec 32 := 10#32
  let v262 : BitVec 32 := Scalar.addi v261 c10_i32
  let c64_i32_204 : BitVec 32 := 64#32
  let v268 : BitVec 32 := Scalar.muli v262 c64_i32_204
  v268
def k0_mult23 (k0_t1 : Fin k0_t1_loop.trips) : BitVec 32 :=
  let c24_i32_222 : BitVec 32 := 24#32
  let c0_i32_221 : BitVec 32 := 0#32
  let c0_i32 : BitVec 32 := 0#32
  let c1_i32 : BitVec 32 := 1#32
  let arg7 : BitVec 32 := Scf.iv c0_i32 c1_i32 k0_t1
  let c16_i32_219 : BitVec 32 := 16#32
  let v287 : BitVec 32 := Scalar.muli arg7 c16_i32_219
  let c11_i32 : BitVec 32 := 11#32
  let v288 : BitVec 32 := Scalar.addi v287 c11_i32
  let c4_i32_220 : BitVec 32 := 4#32
  let v289 : BitVec 32 := Scalar.subi v288 c4_i32_220
  let v290 : BitVec 32 := Scalar.maxsi c0_i32_221 v289
  let v291 : BitVec 32 := Scalar.minsi c24_i32_222 v290
  let c64_i32_223 : BitVec 32 := 64#32
  let v292 : BitVec 32 := Scalar.muli v291 c64_i32_223
  v292
def k0_mult24 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_219 : BitVec 32 := 16#32
  let v287 : BitVec 32 := Scalar.muli arg7 c16_i32_219
  let c11_i32 : BitVec 32 := 11#32
  let v288 : BitVec 32 := Scalar.addi v287 c11_i32
  let c64_i32_224 : BitVec 32 := 64#32
  let v294 : BitVec 32 := Scalar.muli v288 c64_i32_224
  v294
def k0_mult25 (k0_t1 : Fin k0_t1_loop.trips) : BitVec 32 :=
  let c24_i32_242 : BitVec 32 := 24#32
  let c0_i32_241 : BitVec 32 := 0#32
  let c0_i32 : BitVec 32 := 0#32
  let c1_i32 : BitVec 32 := 1#32
  let arg7 : BitVec 32 := Scf.iv c0_i32 c1_i32 k0_t1
  let c16_i32_239 : BitVec 32 := 16#32
  let v313 : BitVec 32 := Scalar.muli arg7 c16_i32_239
  let c12_i32 : BitVec 32 := 12#32
  let v314 : BitVec 32 := Scalar.addi v313 c12_i32
  let c4_i32_240 : BitVec 32 := 4#32
  let v315 : BitVec 32 := Scalar.subi v314 c4_i32_240
  let v316 : BitVec 32 := Scalar.maxsi c0_i32_241 v315
  let v317 : BitVec 32 := Scalar.minsi c24_i32_242 v316
  let c64_i32_243 : BitVec 32 := 64#32
  let v318 : BitVec 32 := Scalar.muli v317 c64_i32_243
  v318
def k0_mult26 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_239 : BitVec 32 := 16#32
  let v313 : BitVec 32 := Scalar.muli arg7 c16_i32_239
  let c12_i32 : BitVec 32 := 12#32
  let v314 : BitVec 32 := Scalar.addi v313 c12_i32
  let c64_i32_244 : BitVec 32 := 64#32
  let v320 : BitVec 32 := Scalar.muli v314 c64_i32_244
  v320
def k0_mult27 (k0_t1 : Fin k0_t1_loop.trips) : BitVec 32 :=
  let c24_i32_262 : BitVec 32 := 24#32
  let c0_i32_261 : BitVec 32 := 0#32
  let c0_i32 : BitVec 32 := 0#32
  let c1_i32 : BitVec 32 := 1#32
  let arg7 : BitVec 32 := Scf.iv c0_i32 c1_i32 k0_t1
  let c16_i32_259 : BitVec 32 := 16#32
  let v339 : BitVec 32 := Scalar.muli arg7 c16_i32_259
  let c13_i32 : BitVec 32 := 13#32
  let v340 : BitVec 32 := Scalar.addi v339 c13_i32
  let c4_i32_260 : BitVec 32 := 4#32
  let v341 : BitVec 32 := Scalar.subi v340 c4_i32_260
  let v342 : BitVec 32 := Scalar.maxsi c0_i32_261 v341
  let v343 : BitVec 32 := Scalar.minsi c24_i32_262 v342
  let c64_i32_263 : BitVec 32 := 64#32
  let v344 : BitVec 32 := Scalar.muli v343 c64_i32_263
  v344
def k0_mult28 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_259 : BitVec 32 := 16#32
  let v339 : BitVec 32 := Scalar.muli arg7 c16_i32_259
  let c13_i32 : BitVec 32 := 13#32
  let v340 : BitVec 32 := Scalar.addi v339 c13_i32
  let c64_i32_264 : BitVec 32 := 64#32
  let v346 : BitVec 32 := Scalar.muli v340 c64_i32_264
  v346
def k0_mult29 (k0_t1 : Fin k0_t1_loop.trips) : BitVec 32 :=
  let c24_i32_282 : BitVec 32 := 24#32
  let c0_i32_281 : BitVec 32 := 0#32
  let c0_i32 : BitVec 32 := 0#32
  let c1_i32 : BitVec 32 := 1#32
  let arg7 : BitVec 32 := Scf.iv c0_i32 c1_i32 k0_t1
  let c16_i32_279 : BitVec 32 := 16#32
  let v365 : BitVec 32 := Scalar.muli arg7 c16_i32_279
  let c14_i32 : BitVec 32 := 14#32
  let v366 : BitVec 32 := Scalar.addi v365 c14_i32
  let c4_i32_280 : BitVec 32 := 4#32
  let v367 : BitVec 32 := Scalar.subi v366 c4_i32_280
  let v368 : BitVec 32 := Scalar.maxsi c0_i32_281 v367
  let v369 : BitVec 32 := Scalar.minsi c24_i32_282 v368
  let c64_i32_283 : BitVec 32 := 64#32
  let v370 : BitVec 32 := Scalar.muli v369 c64_i32_283
  v370
def k0_mult30 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_279 : BitVec 32 := 16#32
  let v365 : BitVec 32 := Scalar.muli arg7 c16_i32_279
  let c14_i32 : BitVec 32 := 14#32
  let v366 : BitVec 32 := Scalar.addi v365 c14_i32
  let c64_i32_284 : BitVec 32 := 64#32
  let v372 : BitVec 32 := Scalar.muli v366 c64_i32_284
  v372
def k0_mult31 (k0_t1 : Fin k0_t1_loop.trips) : BitVec 32 :=
  let c24_i32_302 : BitVec 32 := 24#32
  let c0_i32_301 : BitVec 32 := 0#32
  let c0_i32 : BitVec 32 := 0#32
  let c1_i32 : BitVec 32 := 1#32
  let arg7 : BitVec 32 := Scf.iv c0_i32 c1_i32 k0_t1
  let c16_i32_299 : BitVec 32 := 16#32
  let v391 : BitVec 32 := Scalar.muli arg7 c16_i32_299
  let c15_i32 : BitVec 32 := 15#32
  let v392 : BitVec 32 := Scalar.addi v391 c15_i32
  let c4_i32_300 : BitVec 32 := 4#32
  let v393 : BitVec 32 := Scalar.subi v392 c4_i32_300
  let v394 : BitVec 32 := Scalar.maxsi c0_i32_301 v393
  let v395 : BitVec 32 := Scalar.minsi c24_i32_302 v394
  let c64_i32_303 : BitVec 32 := 64#32
  let v396 : BitVec 32 := Scalar.muli v395 c64_i32_303
  v396
def k0_mult32 (k0_t1 : Fin k0_t1_loop.trips) : BitVec 32 :=
  let c0_i32 : BitVec 32 := 0#32
  let c1_i32 : BitVec 32 := 1#32
  let arg7 : BitVec 32 := Scf.iv c0_i32 c1_i32 k0_t1
  let c16_i32_299 : BitVec 32 := 16#32
  let v391 : BitVec 32 := Scalar.muli arg7 c16_i32_299
  let c15_i32 : BitVec 32 := 15#32
  let v392 : BitVec 32 := Scalar.addi v391 c15_i32
  let c64_i32_304 : BitVec 32 := 64#32
  let v398 : BitVec 32 := Scalar.muli v392 c64_i32_304
  v398
def k0_off4 (k0_t1 : Fin k0_t1_loop.trips) (c0_i32_1 : BitVec 32) : Fin 3 → Nat :=
  let c0_352 : Index := 0#32
  let c0_i32 : BitVec 32 := 0#32
  let c1_i32 : BitVec 32 := 1#32
  let arg7 : BitVec 32 := Scf.iv c0_i32 c1_i32 k0_t1
  let c16_i32 : BitVec 32 := 16#32
  let v1 : BitVec 32 := Scalar.muli arg7 c16_i32
  let v2 : BitVec 32 := Scalar.addi v1 c0_i32_1
  let c64_i32_3 : BitVec 32 := 64#32
  let v8 : BitVec 32 := Scalar.muli v2 c64_i32_3
  let v9 : BitVec 32 := v8
  let v549 : Index := Scalar.indexCast v9
  let c0_353 : Index := 0#32
  ![0, v549.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, arg1.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NaRefIdeal.lean ====
abbrev S60x8x2048x128 : Shape := ⟨4, ![60, 8, 2048, 128]⟩
abbrev S8x8x64x512 : Shape := ⟨4, ![8, 8, 64, 512]⟩
abbrev S8x8x2048x128 : Shape := ⟨4, ![8, 8, 2048, 128]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S8x8x32x64x128 : Shape := ⟨5, ![8, 8, 32, 64, 128]⟩
abbrev S32x8x1 : Shape := ⟨3, ![32, 8, 1]⟩
abbrev S8x8x32x8x64x128 : Shape := ⟨6, ![8, 8, 32, 8, 64, 128]⟩
abbrev S8x32x64x512 : Shape := ⟨4, ![8, 32, 64, 512]⟩
abbrev S8x32x64x8x64 : Shape := ⟨5, ![8, 32, 64, 8, 64]⟩
abbrev S8x8x32x64x8x64 : Shape := ⟨6, ![8, 8, 32, 64, 8, 64]⟩
abbrev S1x8x32x64x8x64 : Shape := ⟨6, ![1, 8, 32, 64, 8, 64]⟩
abbrev S8x8x32x64x512 : Shape := ⟨5, ![8, 8, 32, 64, 512]⟩
abbrev S8x8x32x64 : Shape := ⟨4, ![8, 8, 32, 64]⟩
abbrev S8x8x32x64x1 : Shape := ⟨5, ![8, 8, 32, 64, 1]⟩
abbrev S8x2048x8x128 : Shape := ⟨4, ![8, 2048, 8, 128]⟩
abbrev S8x2048x1024 : Shape := ⟨3, ![8, 2048, 1024]⟩

abbrev nBuf : Space → Nat
  | .hbm => 91
  | .vmem => 0
  | .smem => 0
  | _ => 0

abbrev bufTy : (tb : Table) → Fin (tcTables nBuf tb) → BufTy
  | .hbm, ⟨0, _⟩ => ⟨S60x8x2048x128, .bf16⟩
  | .hbm, ⟨1, _⟩ => ⟨S8x8x64x512, .f32⟩
  | .hbm, ⟨2, _⟩ => ⟨S8x8x2048x128, .bf16⟩
  | .hbm, ⟨3, _⟩ => ⟨S8x8x2048x128, .bf16⟩
  | .hbm, ⟨4, _⟩ => ⟨S8x8x2048x128, .f32⟩
  | .hbm, ⟨5, _⟩ => ⟨S8x8x2048x128, .bf16⟩
  | .hbm, ⟨6, _⟩ => ⟨S8x8x2048x128, .bf16⟩
  | .hbm, ⟨7, _⟩ => ⟨S8x8x2048x128, .f32⟩
  | .hbm, ⟨8, _⟩ => ⟨S8x8x2048x128, .bf16⟩
  | .hbm, ⟨9, _⟩ => ⟨S8x8x2048x128, .bf16⟩
  | .hbm, ⟨10, _⟩ => ⟨S8x8x2048x128, .f32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S32x1, .i32⟩
  | .hbm, ⟨24, _⟩ => ⟨S8, .i32⟩
  | .hbm, ⟨25, _⟩ => ⟨S1x8, .i32⟩
  | .hbm, ⟨26, _⟩ => ⟨S32x8, .i32⟩
  | .hbm, ⟨27, _⟩ => ⟨S32x8, .i32⟩
  | .hbm, ⟨28, _⟩ => ⟨S32x8, .i32⟩
  | .hbm, ⟨29, _⟩ => ⟨S8x8x32x64x128, .f32⟩
  | .hbm, ⟨30, _⟩ => ⟨S_, .i32⟩
  | .hbm, ⟨31, _⟩ => ⟨S32x8, .i32⟩
  | .hbm, ⟨32, _⟩ => ⟨S32x8, .i1⟩
  | .hbm, ⟨33, _⟩ => ⟨S_, .i32⟩
  | .hbm, ⟨34, _⟩ => ⟨S32x8, .i32⟩
  | .hbm, ⟨35, _⟩ => ⟨S32x8, .i32⟩
  | .hbm, ⟨36, _⟩ => ⟨S32x8, .i32⟩
  | .hbm, ⟨37, _⟩ => ⟨S32x8x1, .i32⟩
  | .hbm, ⟨38, _⟩ => ⟨S8x8x32x8x64x128, .f32⟩
  | .hbm, ⟨39, _⟩ => ⟨S8x8x32x64x128, .f32⟩
  | .hbm, ⟨40, _⟩ => ⟨S_, .i32⟩
  | .hbm, ⟨41, _⟩ => ⟨S32x8, .i32⟩
  | .hbm, ⟨42, _⟩ => ⟨S32x8, .i1⟩
  | .hbm, ⟨43, _⟩ => ⟨S_, .i32⟩
  | .hbm, ⟨44, _⟩ => ⟨S32x8, .i32⟩
  | .hbm, ⟨45, _⟩ => ⟨S32x8, .i32⟩
  | .hbm, ⟨46, _⟩ => ⟨S32x8, .i32⟩
  | .hbm, ⟨47, _⟩ => ⟨S32x8x1, .i32⟩
  | .hbm, ⟨48, _⟩ => ⟨S8x8x32x8x64x128, .f32⟩
  | .hbm, ⟨49, _⟩ => ⟨S32x1, .i32⟩
  | .hbm, ⟨50, _⟩ => ⟨S32, .i32⟩
  | .hbm, ⟨51, _⟩ => ⟨S32, .i32⟩
  | .hbm, ⟨52, _⟩ => ⟨S_, .i32⟩
  | .hbm, ⟨53, _⟩ => ⟨S32, .i32⟩
  | .hbm, ⟨54, _⟩ => ⟨S32, .i1⟩
  | .hbm, ⟨55, _⟩ => ⟨S_, .i32⟩
  | .hbm, ⟨56, _⟩ => ⟨S32, .i32⟩
  | .hbm, ⟨57, _⟩ => ⟨S32, .i32⟩
  | .hbm, ⟨58, _⟩ => ⟨S32, .i32⟩
  | .hbm, ⟨59, _⟩ => ⟨S32x1, .i32⟩
  | .hbm, ⟨60, _⟩ => ⟨S8x32x64x512, .f32⟩
  | .hbm, ⟨61, _⟩ => ⟨S8x32x64x8x64, .f32⟩
  | .hbm, ⟨62, _⟩ => ⟨S8x8x32x64x128, .f32⟩
  | .hbm, ⟨63, _⟩ => ⟨S8x8x32x64x8x64, .f32⟩
  | .hbm, ⟨64, _⟩ => ⟨S_, .f32⟩
  | .hbm, ⟨65, _⟩ => ⟨S8x8x32x64x8x64, .f32⟩
  | .hbm, ⟨66, _⟩ => ⟨S8x8x32x64x8x64, .f32⟩
  | .hbm, ⟨67, _⟩ => ⟨S1x8x32x64x8x64, .f32⟩
  | .hbm, ⟨68, _⟩ => ⟨S8x8x32x64x8x64, .f32⟩
  | .hbm, ⟨69, _⟩ => ⟨S8x8x32x64x8x64, .f32⟩
  | .hbm, ⟨70, _⟩ => ⟨S8x8x32x64x512, .f32⟩
  | .hbm, ⟨71, _⟩ => ⟨S_, .f32⟩
  | .hbm, ⟨72, _⟩ => ⟨S8x8x32x64, .f32⟩
  | .hbm, ⟨73, _⟩ => ⟨S_, .f32⟩
  | .hbm, ⟨74, _⟩ => ⟨S8x8x32x64, .f32⟩
  | .hbm, ⟨75, _⟩ => ⟨S8x8x32x64, .f32⟩
  | .hbm, ⟨76, _⟩ => ⟨S8x8x32x64x1, .f32⟩
  | .hbm, ⟨77, _⟩ => ⟨S8x8x32x64x512, .f32⟩
  | .hbm, ⟨78, _⟩ => ⟨S8x8x32x64x512, .f32⟩
  | .hbm, ⟨79, _⟩ => ⟨S8x8x32x64x512, .f32⟩
  | .hbm, ⟨80, _⟩ => ⟨S_, .f32⟩
  | .hbm, ⟨81, _⟩ => ⟨S8x8x32x64, .f32⟩
  | .hbm, ⟨82, _⟩ => ⟨S8x8x32x64x1, .f32⟩
  | .hbm, ⟨83, _⟩ => ⟨S8x8x32x64x512, .f32⟩
  | .hbm, ⟨84, _⟩ => ⟨S8x8x32x64x512, .f32⟩
  | .hbm, ⟨85, _⟩ => ⟨S8x8x32x64x8x64, .f32⟩
  | .hbm, ⟨86, _⟩ => ⟨S8x8x32x64x128, .f32⟩
  | .hbm, ⟨87, _⟩ => ⟨S8x8x2048x128, .f32⟩
  | .hbm, ⟨88, _⟩ => ⟨S8x2048x8x128, .f32⟩
  | .hbm, ⟨89, _⟩ => ⟨S8x2048x1024, .f32⟩
  | .hbm, ⟨90, _⟩ => ⟨S8x2048x1024, .bf16⟩
  | _, _ => ⟨S60x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_c_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_10 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]
-- ==== Ffn.lean ====
abbrev S16384x4096 : Shape := ⟨2, ![16384, 4096]⟩
abbrev S4x4096 : Shape := ⟨2, ![4, 4096]⟩
abbrev S4x4096x12288 : Shape := ⟨3, ![4, 4096, 12288]⟩
abbrev S16384x128 : Shape := ⟨2, ![16384, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S4x4096x1 : Shape := ⟨3, ![4, 4096, 1]⟩
abbrev S16384x6144 : Shape := ⟨2, ![16384, 6144]⟩
abbrev S1024x4096 : Shape := ⟨2, ![1024, 4096]⟩
abbrev S1024x128 : Shape := ⟨2, ![1024, 128]⟩
abbrev S1x4096x512 : Shape := ⟨3, ![1, 4096, 512]⟩
abbrev S1024x512 : Shape := ⟨2, ![1024, 512]⟩
abbrev S1024x1 : Shape := ⟨2, ![1024, 1]⟩
abbrev S4096x512 : Shape := ⟨2, ![4096, 512]⟩

abbrev nBuf : Space → Nat
  | .hbm => 10
  | .vmem => 16
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x12288, .f32⟩
  | .hbm, ⟨3, _⟩ => ⟨S16384x4096, .bf16⟩
  | .hbm, ⟨4, _⟩ => ⟨S16384x128, .f32⟩
  | .hbm, ⟨5, _⟩ => ⟨S4x4096x1, .f32⟩
  | .hbm, ⟨6, _⟩ => ⟨S4x4096x12288, .f32⟩
  | .hbm, ⟨7, _⟩ => ⟨S4x4096x12288, .f32⟩
  | .hbm, ⟨8, _⟩ => ⟨S4x4096x12288, .bf16⟩
  | .hbm, ⟨9, _⟩ => ⟨S16384x6144, .bf16⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x128, .f32⟩
  | .local _ .vmem, ⟨5, _⟩ => ⟨S512x128, .f32⟩
  | .local _ .vmem, ⟨6, _⟩ => ⟨S1024x4096, .bf16⟩
  | .local _ .vmem, ⟨7, _⟩ => ⟨S1024x4096, .bf16⟩
  | .local _ .vmem, ⟨8, _⟩ => ⟨S1024x128, .f32⟩
  | .local _ .vmem, ⟨9, _⟩ => ⟨S1024x128, .f32⟩
  | .local _ .vmem, ⟨10, _⟩ => ⟨S1x4096x512, .bf16⟩
  | .local _ .vmem, ⟨11, _⟩ => ⟨S1x4096x512, .bf16⟩
  | .local _ .vmem, ⟨12, _⟩ => ⟨S1x4096x512, .bf16⟩
  | .local _ .vmem, ⟨13, _⟩ => ⟨S1x4096x512, .bf16⟩
  | .local _ .vmem, ⟨14, _⟩ => ⟨S1024x512, .bf16⟩
  | .local _ .vmem, ⟨15, _⟩ => ⟨S1024x512, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi arg1 c12_i32
  let c0_i32 : BitVec 32 := 0#32
  let c0_i32_0 : BitVec 32 := 0#32
  let c0_i32_1 : BitVec 32 := 0#32
  ![c0_i32.toNat, c0_i32_0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x4096x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== FfnRefIdeal.lean ====
abbrev S16384x4096 : Shape := ⟨2, ![16384, 4096]⟩
abbrev S4x4096 : Shape := ⟨2, ![4, 4096]⟩
abbrev S4x4096x12288 : Shape := ⟨3, ![4, 4096, 12288]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096x12288 : Shape := ⟨3, ![1, 4096, 12288]⟩
abbrev S4096x12288 : Shape := ⟨2, ![4096, 12288]⟩
abbrev S16384x12288 : Shape := ⟨2, ![16384, 12288]⟩
abbrev S16384x6144 : Shape := ⟨2, ![16384, 6144]⟩

abbrev nBuf : Space → Nat
  | .hbm => 37
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x12288, .f32⟩
  | .hbm, ⟨3, _⟩ => ⟨S1x4096, .f32⟩
  | .hbm, ⟨4, _⟩ => ⟨S4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S1x4096x12288, .f32⟩
  | .hbm, ⟨22, _⟩ => ⟨S4096x12288, .f32⟩
  | .hbm, ⟨23, _⟩ => ⟨S16384x12288, .f32⟩
  | .hbm, ⟨24, _⟩ => ⟨S16384x6144, .f32⟩
  | .hbm, ⟨25, _⟩ => ⟨S16384x6144, .f32⟩
  | .hbm, ⟨26, _⟩ => ⟨S16384x6144, .f32⟩
  | .hbm, ⟨27, _⟩ => ⟨S16384x6144, .f32⟩
  | .hbm, ⟨28, _⟩ => ⟨S_, .f32⟩
  | .hbm, ⟨29, _⟩ => ⟨S16384x6144, .f32⟩
  | .hbm, ⟨30, _⟩ => ⟨S16384x6144, .f32⟩
  | .hbm, ⟨31, _⟩ => ⟨S_, .f32⟩
  | .hbm, ⟨32, _⟩ => ⟨S16384x6144, .f32⟩
  | .hbm, ⟨33, _⟩ => ⟨S16384x6144, .f32⟩
  | .hbm, ⟨34, _⟩ => ⟨S16384x6144, .f32⟩
  | .hbm, ⟨35, _⟩ => ⟨S16384x6144, .f32⟩
  | .hbm, ⟨36, _⟩ => ⟨S16384x6144, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Res.lean ====
abbrev S16384x6144 : Shape := ⟨2, ![16384, 6144]⟩
abbrev S4x6144x4096 : Shape := ⟨3, ![4, 6144, 4096]⟩
abbrev S16384x4096 : Shape := ⟨2, ![16384, 4096]⟩
abbrev S16384x128 : Shape := ⟨2, ![16384, 128]⟩
abbrev S1024x6144 : Shape := ⟨2, ![1024, 6144]⟩
abbrev S1x6144x512 : Shape := ⟨3, ![1, 6144, 512]⟩
abbrev S1024x512 : Shape := ⟨2, ![1024, 512]⟩
abbrev S1024x128 : Shape := ⟨2, ![1024, 128]⟩
abbrev S6144x512 : Shape := ⟨2, ![6144, 512]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S16384x6144, .bf16⟩
  | .hbm, ⟨1, _⟩ => ⟨S4x6144x4096, .f32⟩
  | .hbm, ⟨2, _⟩ => ⟨S16384x4096, .f32⟩
  | .hbm, ⟨3, _⟩ => ⟨S4x6144x4096, .bf16⟩
  | .hbm, ⟨4, _⟩ => ⟨S16384x4096, .f32⟩
  | .hbm, ⟨5, _⟩ => ⟨S16384x4096, .bf16⟩
  | .hbm, ⟨6, _⟩ => ⟨S16384x128, .f32⟩
  | .local _ .vmem, ⟨0, _⟩ => ⟨S1024x6144, .bf16⟩
  | .local _ .vmem, ⟨1, _⟩ => ⟨S1024x6144, .bf16⟩
  | .local _ .vmem, ⟨2, _⟩ => ⟨S1x6144x512, .bf16⟩
  | .local _ .vmem, ⟨3, _⟩ => ⟨S1x6144x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_12 : BitVec 32 := 0#32
  let v18 : BitVec 1 := Scalar.cmpi .ne v17 c0_i32_12
  v18

def k0_cond2 (i : grid0.Coords) : BitVec 1 :=
  let arg1 : BitVec 32 := BitVec.ofNat 32 (i 1).val
  let c0_i32_13 : BitVec 32 := 0#32
  let v19 : BitVec 1 := Scalar.cmpi .sgt arg1 c0_i32_13
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x6144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ResRefIdeal.lean ====
abbrev S16384x6144 : Shape := ⟨2, ![16384, 6144]⟩
abbrev S4x6144x4096 : Shape := ⟨3, ![4, 6144, 4096]⟩
abbrev S16384x4096 : Shape := ⟨2, ![16384, 4096]⟩
abbrev S1x6144x4096 : Shape := ⟨3, ![1, 6144, 4096]⟩
abbrev S6144x4096 : Shape := ⟨2, ![6144, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 17
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S4x6144x4096, .f32⟩
  | .hbm, ⟨2, _⟩ => ⟨S16384x4096, .f32⟩
  | .hbm, ⟨3, _⟩ => ⟨S16384x6144, .f32⟩
  | .hbm, ⟨4, _⟩ => ⟨S1x6144x4096, .f32⟩
  | .hbm, ⟨5, _⟩ => ⟨S6144x4096, .f32⟩
  | .hbm, ⟨6, _⟩ => ⟨S16384x4096, .f32⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S16384x4096, .bf16⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x128, .f32⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== MixIn.lean ====
abbrev S16384x4096 : Shape := ⟨2, ![16384, 4096]⟩
abbrev S4x4096 : Shape := ⟨2, ![4, 4096]⟩
abbrev S4x4096x9728 : Shape := ⟨3, ![4, 4096, 9728]⟩
abbrev S16384x128 : Shape := ⟨2, ![16384, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩
abbrev S4x4096x1 : Shape := ⟨3, ![4, 4096, 1]⟩
abbrev S60x16384x128 : Shape := ⟨3, ![60, 16384, 128]⟩
abbrev S2048x4096 : Shape := ⟨2, ![2048, 4096]⟩
abbrev S2048x128 : Shape := ⟨2, ![2048, 128]⟩
abbrev S1x4096x512 : Shape := ⟨3, ![1, 4096, 512]⟩
abbrev S4x2048x128 : Shape := ⟨3, ![4, 2048, 128]⟩
abbrev S4096x512 : Shape := ⟨2, ![4096, 512]⟩
abbrev S2048x512 : Shape := ⟨2, ![2048, 512]⟩
abbrev S2048x1 : Shape := ⟨2, ![2048, 1]⟩
abbrev S1x2048x128 : Shape := ⟨3, ![1, 2048, 128]⟩
abbrev S16384x2048 : Shape := ⟨2, ![16384, 2048]⟩

abbrev nBuf : Space → Nat
  | .hbm => 11
  | .vmem => 22
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x9728, .f32⟩
  | .hbm, ⟨3, _⟩ => ⟨S16384x4096, .bf16⟩
  | .hbm, ⟨4, _⟩ => ⟨S16384x128, .f32⟩
  | .hbm, ⟨5, _⟩ => ⟨S4x4096x1, .f32⟩
  | .hbm, ⟨6, _⟩ => ⟨S4x4096x9728, .f32⟩
  | .hbm, ⟨7, _⟩ => ⟨S4x4096x9728, .f32⟩
  | .hbm, ⟨8, _⟩ => ⟨S4x4096x9728, .bf16⟩
  | .hbm, ⟨9, _⟩ => ⟨S60x16384x128, .bf16⟩
  | .hbm, ⟨10, _⟩ => ⟨S16384x2048, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x128, .f32⟩
  | .local _ .vmem, ⟨5, _⟩ => ⟨S512x128, .f32⟩
  | .local _ .vmem, ⟨6, _⟩ => ⟨S2048x4096, .bf16⟩
  | .local _ .vmem, ⟨7, _⟩ => ⟨S2048x4096, .bf16⟩
  | .local _ .vmem, ⟨8, _⟩ => ⟨S2048x128, .f32⟩
  | .local _ .vmem, ⟨9, _⟩ => ⟨S2048x128, .f32⟩
  | .local _ .vmem, ⟨10, _⟩ => ⟨S1x4096x512, .bf16⟩
  | .local _ .vmem, ⟨11, _⟩ => ⟨S1x4096x512, .bf16⟩
  | .local _ .vmem, ⟨12, _⟩ => ⟨S4x2048x128, .bf16⟩
  | .local _ .vmem, ⟨13, _⟩ => ⟨S4x2048x128, .bf16⟩
  | .local _ .vmem, ⟨14, _⟩ => ⟨S2048x4096, .bf16⟩
  | .local _ .vmem, ⟨15, _⟩ => ⟨S2048x4096, .bf16⟩
  | .local _ .vmem, ⟨16, _⟩ => ⟨S2048x128, .f32⟩
  | .local _ .vmem, ⟨17, _⟩ => ⟨S2048x128, .f32⟩
  | .local _ .vmem, ⟨18, _⟩ => ⟨S1x4096x512, .bf16⟩
  | .local _ .vmem, ⟨19, _⟩ => ⟨S1x4096x512, .bf16⟩
  | .local _ .vmem, ⟨20, _⟩ => ⟨S2048x512, .f32⟩
  | .local _ .vmem, ⟨21, _⟩ => ⟨S2048x512, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 15], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg1 c6_i32
  let c4_i32 : BitVec 32 := 4#32
  let v1 : BitVec 32 := Scalar.addi arg1 c4_i32
  let v2 : BitVec 32 := Scalar.select v0 arg1 v1
  let c0_i32 : BitVec 32 := 0#32
  let c0_i32_0 : BitVec 32 := 0#32
  let c0_i32_1 : BitVec 32 := 0#32
  ![c0_i32.toNat, c0_i32_0.toNat, v2.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage1_0 : Fin 2 → Memref sig .tc .vmem S2048x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S4x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c6_i32 : BitVec 32 := 6#32
  let v0 : BitVec 32 := Scalar.addi arg1 c6_i32
  let c0_i32 : BitVec 32 := 0#32
  let c0_i32_0 : BitVec 32 := 0#32
  let c0_i32_1 : BitVec 32 := 0#32
  ![c0_i32.toNat, c0_i32_0.toNat, v0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2048x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x4096x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S2048x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]
-- ==== MixInRefIdeal.lean ====
abbrev S16384x4096 : Shape := ⟨2, ![16384, 4096]⟩
abbrev S4x4096 : Shape := ⟨2, ![4, 4096]⟩
abbrev S4x4096x9728 : Shape := ⟨3, ![4, 4096, 9728]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096x9728 : Shape := ⟨3, ![1, 4096, 9728]⟩
abbrev S4096x9728 : Shape := ⟨2, ![4096, 9728]⟩
abbrev S16384x9728 : Shape := ⟨2, ![16384, 9728]⟩
abbrev S16384x3072 : Shape := ⟨2, ![16384, 3072]⟩
abbrev S16384x4608 : Shape := ⟨2, ![16384, 4608]⟩
abbrev S16384x7680 : Shape := ⟨2, ![16384, 7680]⟩
abbrev S16384x60x128 : Shape := ⟨3, ![16384, 60, 128]⟩
abbrev S60x16384x128 : Shape := ⟨3, ![60, 16384, 128]⟩
abbrev S16384x2048 : Shape := ⟨2, ![16384, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x9728, .f32⟩
  | .hbm, ⟨3, _⟩ => ⟨S1x4096, .f32⟩
  | .hbm, ⟨4, _⟩ => ⟨S4096, .f32⟩
  | .hbm, ⟨5, _⟩ => ⟨S16384x4096, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x4096, .f32⟩
  | .hbm, ⟨17, _⟩ => ⟨S16384x4096, .f32⟩
  | .hbm, ⟨18, _⟩ => ⟨S1x4096, .f32⟩
  | .hbm, ⟨19, _⟩ => ⟨S16384x4096, .f32⟩
  | .hbm, ⟨20, _⟩ => ⟨S16384x4096, .f32⟩
  | .hbm, ⟨21, _⟩ => ⟨S1x4096x9728, .f32⟩
  | .hbm, ⟨22, _⟩ => ⟨S4096x9728, .f32⟩
  | .hbm, ⟨23, _⟩ => ⟨S16384x9728, .f32⟩
  | .hbm, ⟨24, _⟩ => ⟨S16384x3072, .f32⟩
  | .hbm, ⟨25, _⟩ => ⟨S16384x4608, .f32⟩
  | .hbm, ⟨26, _⟩ => ⟨S16384x7680, .f32⟩
  | .hbm, ⟨27, _⟩ => ⟨S16384x60x128, .f32⟩
  | .hbm, ⟨28, _⟩ => ⟨S60x16384x128, .f32⟩
  | .hbm, ⟨29, _⟩ => ⟨S60x16384x128, .bf16⟩
  | .hbm, ⟨30, _⟩ => ⟨S16384x2048, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== MixOut.lean ====
abbrev S16384x1024 : Shape := ⟨2, ![16384, 1024]⟩
abbrev S4x4x1024 : Shape := ⟨3, ![4, 4, 1024]⟩
abbrev S4x4096x4096 : Shape := ⟨3, ![4, 4096, 4096]⟩
abbrev S16384x4096 : Shape := ⟨2, ![16384, 4096]⟩
abbrev S4x4096 : Shape := ⟨2, ![4, 4096]⟩
abbrev S4x4096x1 : Shape := ⟨3, ![4, 4096, 1]⟩
abbrev S16384x128 : Shape := ⟨2, ![16384, 128]⟩
abbrev S1024x1024 : Shape := ⟨2, ![1024, 1024]⟩
abbrev S1x4096x512 : Shape := ⟨3, ![1, 4096, 512]⟩
abbrev S1024x512 : Shape := ⟨2, ![1024, 512]⟩
abbrev S1024x128 : Shape := ⟨2, ![1024, 128]⟩
abbrev S4x1024x128 : Shape := ⟨3, ![4, 1024, 128]⟩
abbrev S1024 : Shape := ⟨1, ![1024]⟩
abbrev S1024x1 : Shape := ⟨2, ![1024, 1]⟩
abbrev S1x1024x128 : Shape := ⟨3, ![1, 1024, 128]⟩
abbrev S1x1024x512 : Shape := ⟨3, ![1, 1024, 512]⟩

abbrev nBuf : Space → Nat
  | .hbm => 15
  | .vmem => 19
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x4x1024, .f32⟩
  | .hbm, ⟨5, _⟩ => ⟨S4x4096x4096, .f32⟩
  | .hbm, ⟨6, _⟩ => ⟨S16384x4096, .f32⟩
  | .hbm, ⟨7, _⟩ => ⟨S4x4096, .f32⟩
  | .hbm, ⟨8, _⟩ => ⟨S4x4096x1, .f32⟩
  | .hbm, ⟨9, _⟩ => ⟨S4x4096x4096, .f32⟩
  | .hbm, ⟨10, _⟩ => ⟨S4x4096x4096, .f32⟩
  | .hbm, ⟨11, _⟩ => ⟨S4x4096x4096, .bf16⟩
  | .hbm, ⟨12, _⟩ => ⟨S16384x4096, .f32⟩
  | .hbm, ⟨13, _⟩ => ⟨S16384x4096, .bf16⟩
  | .hbm, ⟨14, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x4096x512, .bf16⟩
  | .local _ .vmem, ⟨9, _⟩ => ⟨S1x4096x512, .bf16⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .bf16⟩
  | .local _ .vmem, ⟨15, _⟩ => ⟨S1024x512, .bf16⟩
  | .local _ .vmem, ⟨16, _⟩ => ⟨S1024x128, .f32⟩
  | .local _ .vmem, ⟨17, _⟩ => ⟨S1024x128, .f32⟩
  | .local _ .vmem, ⟨18, _⟩ => ⟨S4x1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c0_i32_36 : BitVec 32 := 0#32
  let v52 : BitVec 1 := Scalar.cmpi .eq arg1 c0_i32_36
  let v53 : BitVec 32 := Scalar.extui v52
  let c0_i32_37 : BitVec 32 := 0#32
  let v54 : BitVec 1 := Scalar.cmpi .ne v53 c0_i32_37
  v54

def k0_cond3 (i : grid0.Coords) : BitVec 1 :=
  let arg1 : BitVec 32 := BitVec.ofNat 32 (i 1).val
  let c0_i32_38 : BitVec 32 := 0#32
  let v55 : BitVec 1 := Scalar.cmpi .sgt arg1 c0_i32_38
  let v56 : BitVec 32 := Scalar.extui v55
  let c0_i32_39 : BitVec 32 := 0#32
  let v57 : BitVec 1 := Scalar.cmpi .ne v56 c0_i32_39
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== MixOutRefIdeal.lean ====
abbrev S16384x1024 : Shape := ⟨2, ![16384, 1024]⟩
abbrev S4x4x1024 : Shape := ⟨3, ![4, 4, 1024]⟩
abbrev S4x4096x4096 : Shape := ⟨3, ![4, 4096, 4096]⟩
abbrev S16384x4096 : Shape := ⟨2, ![16384, 4096]⟩
abbrev S1x4x1024 : Shape := ⟨3, ![1, 4, 1024]⟩
abbrev S4x1024 : Shape := ⟨2, ![4, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x4096x4096 : Shape := ⟨3, ![1, 4096, 4096]⟩
abbrev S4096x4096 : Shape := ⟨2, ![4096, 4096]⟩
abbrev S16384x128 : Shape := ⟨2, ![16384, 128]⟩

abbrev nBuf : Space → Nat
  | .hbm => 102
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S4x4x1024, .f32⟩
  | .hbm, ⟨5, _⟩ => ⟨S4x4096x4096, .f32⟩
  | .hbm, ⟨6, _⟩ => ⟨S16384x4096, .f32⟩
  | .hbm, ⟨7, _⟩ => ⟨S16384x1024, .f32⟩
  | .hbm, ⟨8, _⟩ => ⟨S1x4x1024, .f32⟩
  | .hbm, ⟨9, _⟩ => ⟨S4x1024, .f32⟩
  | .hbm, ⟨10, _⟩ => ⟨S1x1024, .f32⟩
  | .hbm, ⟨11, _⟩ => ⟨S1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S1x4x1024, .f32⟩
  | .hbm, ⟨30, _⟩ => ⟨S4x1024, .f32⟩
  | .hbm, ⟨31, _⟩ => ⟨S1x1024, .f32⟩
  | .hbm, ⟨32, _⟩ => ⟨S1024, .f32⟩
  | .hbm, ⟨33, _⟩ => ⟨S16384x1024, .f32⟩
  | .hbm, ⟨34, _⟩ => ⟨S_, .f32⟩
  | .hbm, ⟨35, _⟩ => ⟨S16384, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1024, .f32⟩
  | .hbm, ⟨45, _⟩ => ⟨S16384x1024, .f32⟩
  | .hbm, ⟨46, _⟩ => ⟨S1x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x4x1024, .f32⟩
  | .hbm, ⟨51, _⟩ => ⟨S4x1024, .f32⟩
  | .hbm, ⟨52, _⟩ => ⟨S1x1024, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S_, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S16384x1, .f32⟩
  | .hbm, ⟨65, _⟩ => ⟨S16384x1024, .f32⟩
  | .hbm, ⟨66, _⟩ => ⟨S16384x1024, .f32⟩
  | .hbm, ⟨67, _⟩ => ⟨S1x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x4x1024, .f32⟩
  | .hbm, ⟨72, _⟩ => ⟨S4x1024, .f32⟩
  | .hbm, ⟨73, _⟩ => ⟨S1x1024, .f32⟩
  | .hbm, ⟨74, _⟩ => ⟨S1024, .f32⟩
  | .hbm, ⟨75, _⟩ => ⟨S16384x1024, .f32⟩
  | .hbm, ⟨76, _⟩ => ⟨S_, .f32⟩
  | .hbm, ⟨77, _⟩ => ⟨S16384, .f32⟩
  | .hbm, ⟨78, _⟩ => ⟨S16384x1, .f32⟩
  | .hbm, ⟨79, _⟩ => ⟨S_, .f32⟩
  | .hbm, ⟨80, _⟩ => ⟨S16384x1, .f32⟩
  | .hbm, ⟨81, _⟩ => ⟨S16384x1, .f32⟩
  | .hbm, ⟨82, _⟩ => ⟨S_, .f32⟩
  | .hbm, ⟨83, _⟩ => ⟨S16384x1, .f32⟩
  | .hbm, ⟨84, _⟩ => ⟨S16384x1, .f32⟩
  | .hbm, ⟨85, _⟩ => ⟨S16384x1, .f32⟩
  | .hbm, ⟨86, _⟩ => ⟨S16384x1024, .f32⟩
  | .hbm, ⟨87, _⟩ => ⟨S16384x1024, .f32⟩
  | .hbm, ⟨88, _⟩ => ⟨S1x1024, .f32⟩
  | .hbm, ⟨89, _⟩ => ⟨S16384x1024, .f32⟩
  | .hbm, ⟨90, _⟩ => ⟨S16384x1024, .f32⟩
  | .hbm, ⟨91, _⟩ => ⟨S16384x4096, .f32⟩
  | .hbm, ⟨92, _⟩ => ⟨S1x4096x4096, .f32⟩
  | .hbm, ⟨93, _⟩ => ⟨S4096x4096, .f32⟩
  | .hbm, ⟨94, _⟩ => ⟨S16384x4096, .f32⟩
  | .hbm, ⟨95, _⟩ => ⟨S16384x4096, .f32⟩
  | .hbm, ⟨96, _⟩ => ⟨S16384x4096, .bf16⟩
  | .hbm, ⟨97, _⟩ => ⟨S16384x4096, .f32⟩
  | .hbm, ⟨98, _⟩ => ⟨S_, .f32⟩
  | .hbm, ⟨99, _⟩ => ⟨S16384, .f32⟩
  | .hbm, ⟨100, _⟩ => ⟨S16384x1, .f32⟩
  | .hbm, ⟨101, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_cst_9 : Ref sig .tc := ⟨.hbm, 79, rfl⟩
abbrev main_v62 : Ref sig .tc := ⟨.hbm, 80, rfl⟩
abbrev main_v63 : Ref sig .tc := ⟨.hbm, 81, rfl⟩
abbrev main_cst_10 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Final.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Conv.lean ====
abbrev S8x2048x2048 : Shape := ⟨3, ![8, 2048, 2048]⟩
abbrev S31x1024 : Shape := ⟨2, ![31, 1024]⟩
abbrev S1024 : Shape := ⟨1, ![1024]⟩
abbrev S1x1024 : Shape := ⟨2, ![1, 1024]⟩
abbrev S8x2048x1024 : Shape := ⟨3, ![8, 2048, 1024]⟩
abbrev S1x256x1024 : Shape := ⟨3, ![1, 256, 1024]⟩
abbrev S1x16x1024 : Shape := ⟨3, ![1, 16, 1024]⟩
abbrev S288x1024 : Shape := ⟨2, ![288, 1024]⟩
abbrev S256x1024 : Shape := ⟨2, ![256, 1024]⟩
abbrev S7x280x1024 : Shape := ⟨3, ![7, 280, 1024]⟩
abbrev S16x1024 : Shape := ⟨2, ![16, 1024]⟩
abbrev S280x1024 : Shape := ⟨2, ![280, 1024]⟩
abbrev S1x280x1024 : Shape := ⟨3, ![1, 280, 1024]⟩
abbrev S256x128 : Shape := ⟨2, ![256, 128]⟩
abbrev S1x128 : Shape := ⟨2, ![1, 128]⟩
abbrev S1x256x128 : Shape := ⟨3, ![1, 256, 128]⟩
abbrev S256 : Shape := ⟨1, ![256]⟩
abbrev S256x1 : Shape := ⟨2, ![256, 1]⟩

abbrev nBuf : Space → Nat
  | .hbm => 9
  | .vmem => 21
  | .smem => 0
  | _ => 0

abbrev bufTy : (tb : Table) → Fin (tcTables nBuf tb) → BufTy
  | .hbm, ⟨0, _⟩ => ⟨S8x2048x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S8x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x16x1024, .f32⟩
  | .local _ .vmem, ⟨9, _⟩ => ⟨S1x16x1024, .f32⟩
  | .local _ .vmem, ⟨10, _⟩ => ⟨S1x16x1024, .f32⟩
  | .local _ .vmem, ⟨11, _⟩ => ⟨S1x16x1024, .f32⟩
  | .local _ .vmem, ⟨12, _⟩ => ⟨S31x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x256x1024, .bf16⟩
  | .local _ .vmem, ⟨17, _⟩ => ⟨S1x256x1024, .bf16⟩
  | .local _ .vmem, ⟨18, _⟩ => ⟨S288x1024, .f32⟩
  | .local _ .vmem, ⟨19, _⟩ => ⟨S256x1024, .f32⟩
  | .local _ .vmem, ⟨20, _⟩ => ⟨S7x280x1024, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c127_i32 : BitVec 32 := 127#32
  let v2 : BitVec 32 := Scalar.minsi v1 c127_i32
  let c1_i32_0 : BitVec 32 := 1#32
  let c0_i32 : BitVec 32 := 0#32
  ![arg0.toNat, v2.toNat, c1_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S31x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ConvRefIdeal.lean ====
abbrev S8x2048x2048 : Shape := ⟨3, ![8, 2048, 2048]⟩
abbrev S31x1024 : Shape := ⟨2, ![31, 1024]⟩
abbrev S1024 : Shape := ⟨1, ![1024]⟩
abbrev S8x2048x1024 : Shape := ⟨3, ![8, 2048, 1024]⟩
abbrev S_ : Shape := ⟨0, ![]⟩
abbrev S8x2078x1024 : Shape := ⟨3, ![8, 2078, 1024]⟩
abbrev S2048 : Shape := ⟨1, ![2048]⟩
abbrev S2048x1 : Shape := ⟨2, ![2048, 1]⟩
abbrev S31 : Shape := ⟨1, ![31]⟩
abbrev S1x31 : Shape := ⟨2, ![1, 31]⟩
abbrev S2048x31 : Shape := ⟨2, ![2048, 31]⟩
abbrev S2048x31x1 : Shape := ⟨3, ![2048, 31, 1]⟩
abbrev S8x2048x31x1024 : Shape := ⟨4, ![8, 2048, 31, 1024]⟩
abbrev S1x1x31x1024 : Shape := ⟨4, ![1, 1, 31, 1024]⟩
abbrev S1x1x1024 : Shape := ⟨3, ![1, 1, 1024]⟩
abbrev S8x2048 : Shape := ⟨2, ![8, 2048]⟩
abbrev S8x2048x1 : Shape := ⟨3, ![8, 2048, 1]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S_, .f32⟩
  | .hbm, ⟨10, _⟩ => ⟨S8x2048x1024, .f32⟩
  | .hbm, ⟨11, _⟩ => ⟨S8x2048x1024, .f32⟩
  | .hbm, ⟨12, _⟩ => ⟨S_, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S_, .i32⟩
  | .hbm, ⟨17, _⟩ => ⟨S_, .f32⟩
  | .hbm, ⟨18, _⟩ => ⟨S8x2078x1024, .f32⟩
  | .hbm, ⟨19, _⟩ => ⟨S2048, .i32⟩
  | .hbm, ⟨20, _⟩ => ⟨S2048x1, .i32⟩
  | .hbm, ⟨21, _⟩ => ⟨S31, .i32⟩
  | .hbm, ⟨22, _⟩ => ⟨S1x31, .i32⟩
  | .hbm, ⟨23, _⟩ => ⟨S2048x31, .i32⟩
  | .hbm, ⟨24, _⟩ => ⟨S2048x31, .i32⟩
  | .hbm, ⟨25, _⟩ => ⟨S2048x31, .i32⟩
  | .hbm, ⟨26, _⟩ => ⟨S_, .i32⟩
  | .hbm, ⟨27, _⟩ => ⟨S2048x31, .i32⟩
  | .hbm, ⟨28, _⟩ => ⟨S2048x31, .i1⟩
  | .hbm, ⟨29, _⟩ => ⟨S_, .i32⟩
  | .hbm, ⟨30, _⟩ => ⟨S2048x31, .i32⟩
  | .hbm, ⟨31, _⟩ => ⟨S2048x31, .i32⟩
  | .hbm, ⟨32, _⟩ => ⟨S2048x31, .i32⟩
  | .hbm, ⟨33, _⟩ => ⟨S2048x31x1, .i32⟩
  | .hbm, ⟨34, _⟩ => ⟨S8x2048x31x1024, .f32⟩
  | .hbm, ⟨35, _⟩ => ⟨S1x1x31x1024, .f32⟩
  | .hbm, ⟨36, _⟩ => ⟨S8x2048x31x1024, .f32⟩
  | .hbm, ⟨37, _⟩ => ⟨S8x2048x31x1024, .f32⟩
  | .hbm, ⟨38, _⟩ => ⟨S_, .f32⟩
  | .hbm, ⟨39, _⟩ => ⟨S8x2048x1024, .f32⟩
  | .hbm, ⟨40, _⟩ => ⟨S1x1x1024, .f32⟩
  | .hbm, ⟨41, _⟩ => ⟨S8x2048x1024, .f32⟩
  | .hbm, ⟨42, _⟩ => ⟨S8x2048x1024, .f32⟩
  | .hbm, ⟨43, _⟩ => ⟨S_, .f32⟩
  | .hbm, ⟨44, _⟩ => ⟨S8x2048, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x1, .f32⟩
  | .hbm, ⟨64, _⟩ => ⟨S8x2048x1024, .f32⟩
  | .hbm, ⟨65, _⟩ => ⟨S8x2048x1024, .f32⟩
  | .hbm, ⟨66, _⟩ => ⟨S1x1x1024, .f32⟩
  | .hbm, ⟨67, _⟩ => ⟨S8x2048x1024, .f32⟩
  | .hbm, ⟨68, _⟩ => ⟨S8x2048x1024, .f32⟩
  | .hbm, ⟨69, _⟩ => ⟨S1x1x1024, .f32⟩
  | .hbm, ⟨70, _⟩ => ⟨S8x2048x1024, .f32⟩
  | .hbm, ⟨71, _⟩ => ⟨S8x2048x1024, .f32⟩
  | .hbm, ⟨72, _⟩ => ⟨S8x2048x1024, .f32⟩
  | .hbm, ⟨73, _⟩ => ⟨S8x2048x1024, .f32⟩
  | .hbm, ⟨74, _⟩ => ⟨S_, .f32⟩
  | .hbm, ⟨75, _⟩ => ⟨S8x2048x1024, .f32⟩
  | .hbm, ⟨76, _⟩ => ⟨S8x2048x1024, .f32⟩
  | .hbm, ⟨77, _⟩ => ⟨S_, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S8x2048x1024, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_call1_v0 : Ref sig .tc := ⟨.hbm, 72, rfl⟩
abbrev main_call1_v1 : Ref sig .tc := ⟨.hbm, 73, rfl⟩
abbrev main_call1_cst : Ref sig .tc := ⟨.hbm, 74, rfl⟩
abbrev main_call1_v2 : Ref sig .tc := ⟨.hbm, 75, rfl⟩
abbrev main_call1_v3 : Ref sig .tc := ⟨.hbm, 76, rfl⟩
abbrev main_call1_cst_0 : Ref sig .tc := ⟨.hbm, 77, rfl⟩
abbrev main_call1_v4 : Ref sig .tc := ⟨.hbm, 78, rfl⟩
abbrev main_call1_v5 : Ref sig .tc := ⟨.hbm, 79, rfl⟩
abbrev main_v55 : Ref sig .tc := ⟨.hbm, 80, rfl⟩
abbrev main_v56 : Ref sig .tc := ⟨.hbm, 81, rfl⟩

abbrev nD : Nat := 1
abbrev τ : Topo := Topo.v7x

variable {F : FTy → Type} [FloatOps F]
-- ==== Swa.lean ====
abbrev S60x8x2048x128 : Shape := ⟨4, ![60, 8, 2048, 128]⟩
abbrev S8 : Shape := ⟨1, ![8]⟩
abbrev S8x2048x1024 : Shape := ⟨3, ![8, 2048, 1024]⟩
abbrev S4x1x2048x128 : Shape := ⟨4, ![4, 1, 2048, 128]⟩
abbrev S1x1x2048x128 : Shape := ⟨4, ![1, 1, 2048, 128]⟩
abbrev S1x2048x512 : Shape := ⟨3, ![1, 2048, 512]⟩
abbrev S128x384 : Shape := ⟨2, ![128, 384]⟩
abbrev S1x1x384x128 : Shape := ⟨4, ![1, 1, 384, 128]⟩
abbrev S384x128 : Shape := ⟨2, ![384, 128]⟩
abbrev S1x1x128x128 : Shape := ⟨4, ![1, 1, 128, 128]⟩
abbrev S128x128 : Shape := ⟨2, ![128, 128]⟩
abbrev S512x128 : Shape := ⟨2, ![512, 128]⟩
abbrev S512x384 : Shape := ⟨2, ![512, 384]⟩
abbrev S1 : Shape := ⟨1, ![1]⟩
abbrev S128 : Shape := ⟨1, ![128]⟩
abbrev S128x1 : Shape := ⟨2, ![128, 1]⟩
abbrev S1x128x128 : Shape := ⟨3, ![1, 128, 128]⟩

abbrev nBuf : Space → Nat
  | .hbm => 4
  | .vmem => 8
  | .smem => 2
  | _ => 0

abbrev bufTy : (tb : Table) → Fin (tcTables nBuf tb) → BufTy
  | .hbm, ⟨0, _⟩ => ⟨S60x8x2048x128, .bf16⟩
  | .hbm, ⟨1, _⟩ => ⟨S8, .f32⟩
  | .hbm, ⟨2, _⟩ => ⟨S8, .f32⟩
  | .hbm, ⟨3, _⟩ => ⟨S8x2048x1024, .bf16⟩
  | .local _ .vmem, ⟨0, _⟩ => ⟨S4x1x2048x128, .bf16⟩
  | .local _ .vmem, ⟨1, _⟩ => ⟨S4x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x2048x512, .bf16⟩
  | .local _ .vmem, ⟨7, _⟩ => ⟨S1x2048x512, .bf16⟩
  | .local _ .smem, ⟨0, _⟩ => ⟨S8, .f32⟩
  | .local _ .smem, ⟨1, _⟩ => ⟨S8, .f32⟩
  | _, _ => ⟨S60x8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let c0_i32_1 : BitVec 32 := 0#32
  let v4 : BitVec 32 := Scalar.addi v3 c0_i32_1
  let c128_i32 : BitVec 32 := 128#32
  let v5 : BitVec 32 := Scalar.muli v4 c128_i32
  v5
def k0_mult2 (k0_t1 : Fin k0_t1_loop.trips) : BitVec 32 :=
  let c1664_i32 : BitVec 32 := 1664#32
  let c0_i32_3 : BitVec 32 := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let c0_i32_1 : BitVec 32 := 0#32
  let v4 : BitVec 32 := Scalar.addi v3 c0_i32_1
  let c128_i32 : BitVec 32 := 128#32
  let v5 : BitVec 32 := Scalar.muli v4 c128_i32
  let v6 : BitVec 32 := v5
  let c128_i32_2 : BitVec 32 := 128#32
  let v7 : BitVec 32 := Scalar.subi v6 c128_i32_2
  let v8 : BitVec 32 := Scalar.maxsi c0_i32_3 v7
  let v9 : BitVec 32 := Scalar.minsi c1664_i32 v8
  v9
def k0_off1 (k0_t1 : Fin k0_t1_loop.trips) (c0_i32_1 : BitVec 32) : Fin 4 → Nat :=
  let c0 : Index := 0#32
  let c0_4 : Index := 0#32
  let c1664_i32 : BitVec 32 := 1664#32
  let c0_i32_3 : BitVec 32 := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let v4 : BitVec 32 := Scalar.addi v3 c0_i32_1
  let c128_i32 : BitVec 32 := 128#32
  let v5 : BitVec 32 := Scalar.muli v4 c128_i32
  let v6 : BitVec 32 := v5
  let c128_i32_2 : BitVec 32 := 128#32
  let v7 : BitVec 32 := Scalar.subi v6 c128_i32_2
  let v8 : BitVec 32 := Scalar.maxsi c0_i32_3 v7
  let v9 : BitVec 32 := Scalar.minsi c1664_i32 v8
  let v10 : BitVec 32 := v9
  let v11 : Index := Scalar.indexCast v10
  let c0_5 : Index := 0#32
  ![0, 0, v11.toNat, 0]
def k0_off2 (k0_t1 : Fin k0_t1_loop.trips) (c0_i32_1 : BitVec 32) : Fin 4 → Nat :=
  let c0_9 : Index := 0#32
  let c0_10 : Index := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let v4 : BitVec 32 := Scalar.addi v3 c0_i32_1
  let c128_i32 : BitVec 32 := 128#32
  let v5 : BitVec 32 := Scalar.muli v4 c128_i32
  let v6 : BitVec 32 := v5
  let v17 : Index := Scalar.indexCast v6
  let c0_11 : Index := 0#32
  ![0, 0, v17.toNat, 0]
def k0_off3 (k0_t1 : Fin k0_t1_loop.trips) (c0_i32_1 : BitVec 32) : Fin 4 → Nat :=
  let c1 : Index := 1#32
  let c0_12 : Index := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let v4 : BitVec 32 := Scalar.addi v3 c0_i32_1
  let c128_i32 : BitVec 32 := 128#32
  let v5 : BitVec 32 := Scalar.muli v4 c128_i32
  let v6 : BitVec 32 := v5
  let v20 : Index := Scalar.indexCast v6
  let c0_13 : Index := 0#32
  ![1, 0, v20.toNat, 0]
def k0_off4 (k0_t1 : Fin k0_t1_loop.trips) (c0_i32_1 : BitVec 32) : Fin 4 → Nat :=
  let c2 : Index := 2#32
  let c0_14 : Index := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let v4 : BitVec 32 := Scalar.addi v3 c0_i32_1
  let c128_i32 : BitVec 32 := 128#32
  let v5 : BitVec 32 := Scalar.muli v4 c128_i32
  let v6 : BitVec 32 := v5
  let v23 : Index := Scalar.indexCast v6
  let c0_15 : Index := 0#32
  ![2, 0, v23.toNat, 0]
def k0_off5 (k0_t1 : Fin k0_t1_loop.trips) (c0_i32_1 : BitVec 32) : Fin 4 → Nat :=
  let c3 : Index := 3#32
  let c0_16 : Index := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let v4 : BitVec 32 := Scalar.addi v3 c0_i32_1
  let c128_i32 : BitVec 32 := 128#32
  let v5 : BitVec 32 := Scalar.muli v4 c128_i32
  let v6 : BitVec 32 := v5
  let v26 : Index := Scalar.indexCast v6
  let c0_17 : Index := 0#32
  ![3, 0, v26.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c2_i32_19 : BitVec 32 := 2#32
  let v33 : BitVec 32 := Scalar.muli arg8 c2_i32_19
  let c1_i32_20 : BitVec 32 := 1#32
  let v34 : BitVec 32 := Scalar.addi v33 c1_i32_20
  let c128_i32_21 : BitVec 32 := 128#32
  let v35 : BitVec 32 := Scalar.muli v34 c128_i32_21
  v35
def k0_mult4 (k0_t1 : Fin k0_t1_loop.trips) : BitVec 32 :=
  let c1664_i32_24 : BitVec 32 := 1664#32
  let c0_i32_23 : BitVec 32 := 0#32
  let c0_i32 : BitVec 32 := 0#32
  let c1_i32 : BitVec 32 := 1#32
  let arg8 : BitVec 32 := Scf.iv c0_i32 c1_i32 k0_t1
  let c2_i32_19 : BitVec 32 := 2#32
  let v33 : BitVec 32 := Scalar.muli arg8 c2_i32_19
  let c1_i32_20 : BitVec 32 := 1#32
  let v34 : BitVec 32 := Scalar.addi v33 c1_i32_20
  let c128_i32_21 : BitVec 32 := 128#32
  let v35 : BitVec 32 := Scalar.muli v34 c128_i32_21
  let v36 : BitVec 32 := v35
  let c128_i32_22 : BitVec 32 := 128#32
  let v37 : BitVec 32 := Scalar.subi v36 c128_i32_22
  let v38 : BitVec 32 := Scalar.maxsi c0_i32_23 v37
  let v39 : BitVec 32 := Scalar.minsi c1664_i32_24 v38
  v39
def k0_off6 (i : grid0.Coords) (c0_i32_46 : BitVec 32) : Fin 1 → Nat :=
  let arg1 : BitVec 32 := BitVec.ofNat 32 (i 1).val
  let c4_i32 : BitVec 32 := 4#32
  let v71 : BitVec 32 := Scalar.muli arg1 c4_i32
  let v72 : BitVec 32 := Scalar.addi v71 c0_i32_46
  let v74 : Index := Scalar.indexCast v72
  ![v74.toNat]
def k0_off7 (k0_t1 : Fin k0_t1_loop.trips) (c0_i32_1 : BitVec 32) : Fin 3 → Nat :=
  let c0_86 : Index := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let v4 : BitVec 32 := Scalar.addi v3 c0_i32_1
  let c128_i32 : BitVec 32 := 128#32
  let v5 : BitVec 32 := Scalar.muli v4 c128_i32
  let v6 : BitVec 32 := v5
  let v294 : Index := Scalar.indexCast v6
  let c0_87 : Index := 0#32
  ![0, v294.toNat, 0]
def k0_off8 (k0_t1 : Fin k0_t1_loop.trips) (c0_i32_1 : BitVec 32) : Fin 3 → Nat :=
  let c0_88 : Index := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let v4 : BitVec 32 := Scalar.addi v3 c0_i32_1
  let c128_i32 : BitVec 32 := 128#32
  let v5 : BitVec 32 := Scalar.muli v4 c128_i32
  let v6 : BitVec 32 := v5
  let v302 : Index := Scalar.indexCast v6
  let c128 : Index := 128#32
  ![0, v302.toNat, 128]
def k0_off9 (k0_t1 : Fin k0_t1_loop.trips) (c0_i32_1 : BitVec 32) : Fin 3 → Nat :=
  let c0_89 : Index := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let v4 : BitVec 32 := Scalar.addi v3 c0_i32_1
  let c128_i32 : BitVec 32 := 128#32
  let v5 : BitVec 32 := Scalar.muli v4 c128_i32
  let v6 : BitVec 32 := v5
  let v310 : Index := Scalar.indexCast v6
  let c256 : Index := 256#32
  ![0, v310.toNat, 256]
def k0_off10 (k0_t1 : Fin k0_t1_loop.trips) (c0_i32_1 : BitVec 32) : Fin 3 → Nat :=
  let c0_90 : Index := 0#32
  let c0_i32 : BitVec 32 := 0#32
  let c1_i32 : BitVec 32 := 1#32
  let arg8 : BitVec 32 := Scf.iv c0_i32 c1_i32 k0_t1
  let c2_i32 : BitVec 32 := 2#32
  let v3 : BitVec 32 := Scalar.muli arg8 c2_i32
  let v4 : BitVec 32 := Scalar.addi v3 c0_i32_1
  let c128_i32 : BitVec 32 := 128#32
  let v5 : BitVec 32 := Scalar.muli v4 c128_i32
  let v6 : BitVec 32 := v5
  let v318 : Index := Scalar.indexCast v6
  let c384 : Index := 384#32
  ![0, v318.toNat, 384]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 4 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c34_i32 : BitVec 32 := 34#32
  let v0 : BitVec 32 := Scalar.addi c34_i32 arg1
  let c0_i32 : BitVec 32 := 0#32
  let c0_i32_0 : BitVec 32 := 0#32
  let c0_i32_1 : BitVec 32 := 0#32
  ![v0.toNat, arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwaRefIdeal.lean ====
abbrev S60x8x2048x128 : Shape := ⟨4, ![60, 8, 2048, 128]⟩
abbrev S8 : Shape := ⟨1, ![8]⟩
abbrev S8x8x2048x128 : Shape := ⟨4, ![8, 8, 2048, 128]⟩
abbrev S2x8x2048x128 : Shape := ⟨4, ![2, 8, 2048, 128]⟩
abbrev S8x2x2048x128 : Shape := ⟨4, ![8, 2, 2048, 128]⟩
abbrev S8x2x4x16x128x128 : Shape := ⟨6, ![8, 2, 4, 16, 128, 128]⟩
abbrev S16 : Shape := ⟨1, ![16]⟩
abbrev S16x1 : Shape := ⟨2, ![16, 1]⟩
abbrev S_ : Shape := ⟨0, ![]⟩
abbrev S128 : Shape := ⟨1, ![128]⟩
abbrev S1x128 : Shape := ⟨2, ![1, 128]⟩
abbrev S16x128 : Shape := ⟨2, ![16, 128]⟩
abbrev S384 : Shape := ⟨1, ![384]⟩
abbrev S1x384 : Shape := ⟨2, ![1, 384]⟩
abbrev S16x384 : Shape := ⟨2, ![16, 384]⟩
abbrev S16x384x1 : Shape := ⟨3, ![16, 384, 1]⟩
abbrev S8x2x16x384x128 : Shape := ⟨5, ![8, 2, 16, 384, 128]⟩
abbrev S8x2x16x384x4x128 : Shape := ⟨6, ![8, 2, 16, 384, 4, 128]⟩
abbrev S8x2x4x16x128x384 : Shape := ⟨6, ![8, 2, 4, 16, 128, 384]⟩
abbrev S16x1x384 : Shape := ⟨3, ![16, 1, 384]⟩
abbrev S16x128x1 : Shape := ⟨3, ![16, 128, 1]⟩
abbrev S16x128x384 : Shape := ⟨3, ![16, 128, 384]⟩
abbrev S2x4x1x1x1 : Shape := ⟨5, ![2, 4, 1, 1, 1]⟩
abbrev S1x1x16x128x384 : Shape := ⟨5, ![1, 1, 16, 128, 384]⟩
abbrev S2x4x16x128x384 : Shape := ⟨5, ![2, 4, 16, 128, 384]⟩
abbrev S1x2x4x16x128x384 : Shape := ⟨6, ![1, 2, 4, 16, 128, 384]⟩
abbrev S8x2x4x16x128 : Shape := ⟨5, ![8, 2, 4, 16, 128]⟩
abbrev S8x2x4x16x128x1 : Shape := ⟨6, ![8, 2, 4, 16, 128, 1]⟩
abbrev S8x2x16x128x4x128 : Shape := ⟨6, ![8, 2, 16, 128, 4, 128]⟩
abbrev S8x8x2048 : Shape := ⟨3, ![8, 8, 2048]⟩
abbrev S1x8x1 : Shape := ⟨3, ![1, 8, 1]⟩
abbrev S8x8x2048x1 : Shape := ⟨4, ![8, 8, 2048, 1]⟩
abbrev S8x2048x8x128 : Shape := ⟨4, ![8, 2048, 8, 128]⟩
abbrev S8x2048x1024 : Shape := ⟨3, ![8, 2048, 1024]⟩

abbrev nBuf : Space → Nat
  | .hbm => 127
  | .vmem => 0
  | .smem => 0
  | _ => 0

abbrev bufTy : (tb : Table) → Fin (tcTables nBuf tb) → BufTy
  | .hbm, ⟨0, _⟩ => ⟨S60x8x2048x128, .bf16⟩
  | .hbm, ⟨1, _⟩ => ⟨S8, .f32⟩
  | .hbm, ⟨2, _⟩ => ⟨S8, .f32⟩
  | .hbm, ⟨3, _⟩ => ⟨S8x8x2048x128, .bf16⟩
  | .hbm, ⟨4, _⟩ => ⟨S8x8x2048x128, .bf16⟩
  | .hbm, ⟨5, _⟩ => ⟨S8x8x2048x128, .f32⟩
  | .hbm, ⟨6, _⟩ => ⟨S2x8x2048x128, .bf16⟩
  | .hbm, ⟨7, _⟩ => ⟨S8x2x2048x128, .bf16⟩
  | .hbm, ⟨8, _⟩ => ⟨S8x2x2048x128, .f32⟩
  | .hbm, ⟨9, _⟩ => ⟨S2x8x2048x128, .bf16⟩
  | .hbm, ⟨10, _⟩ => ⟨S8x2x2048x128, .bf16⟩
  | .hbm, ⟨11, _⟩ => ⟨S8x2x2048x128, .f32⟩
  | .hbm, ⟨12, _⟩ => ⟨S8x2x4x16x128x128, .f32⟩
  | .hbm, ⟨13, _⟩ => ⟨S16, .i32⟩
  | .hbm, ⟨14, _⟩ => ⟨S16x1, .i32⟩
  | .hbm, ⟨15, _⟩ => ⟨S_, .i32⟩
  | .hbm, ⟨16, _⟩ => ⟨S16x1, .i32⟩
  | .hbm, ⟨17, _⟩ => ⟨S16x1, .i32⟩
  | .hbm, ⟨18, _⟩ => ⟨S128, .i32⟩
  | .hbm, ⟨19, _⟩ => ⟨S1x128, .i32⟩
  | .hbm, ⟨20, _⟩ => ⟨S16x128, .i32⟩
  | .hbm, ⟨21, _⟩ => ⟨S16x128, .i32⟩
  | .hbm, ⟨22, _⟩ => ⟨S16x128, .i32⟩
  | .hbm, ⟨23, _⟩ => ⟨S16, .i32⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S16, .i32⟩
  | .hbm, ⟨34, _⟩ => ⟨S16, .i32⟩
  | .hbm, ⟨35, _⟩ => ⟨S_, .i32⟩
  | .hbm, ⟨36, _⟩ => ⟨S16, .i32⟩
  | .hbm, ⟨37, _⟩ => ⟨S16, .i32⟩
  | .hbm, ⟨38, _⟩ => ⟨S16x1, .i32⟩
  | .hbm, ⟨39, _⟩ => ⟨S384, .i32⟩
  | .hbm, ⟨40, _⟩ => ⟨S1x384, .i32⟩
  | .hbm, ⟨41, _⟩ => ⟨S16x384, .i32⟩
  | .hbm, ⟨42, _⟩ => ⟨S16x384, .i32⟩
  | .hbm, ⟨43, _⟩ => ⟨S16x384, .i32⟩
  | .hbm, ⟨44, _⟩ => ⟨S_, .i32⟩
  | .hbm, ⟨45, _⟩ => ⟨S16x384, .i32⟩
  | .hbm, ⟨46, _⟩ => ⟨S16x384, .i1⟩
  | .hbm, ⟨47, _⟩ => ⟨S_, .i32⟩
  | .hbm, ⟨48, _⟩ => ⟨S16x384, .i32⟩
  | .hbm, ⟨49, _⟩ => ⟨S16x384, .i32⟩
  | .hbm, ⟨50, _⟩ => ⟨S16x384, .i32⟩
  | .hbm, ⟨51, _⟩ => ⟨S16x384x1, .i32⟩
  | .hbm, ⟨52, _⟩ => ⟨S8x2x16x384x128, .f32⟩
  | .hbm, ⟨53, _⟩ => ⟨S_, .i32⟩
  | .hbm, ⟨54, _⟩ => ⟨S16x384, .i32⟩
  | .hbm, ⟨55, _⟩ => ⟨S16x384, .i1⟩
  | .hbm, ⟨56, _⟩ => ⟨S_, .i32⟩
  | .hbm, ⟨57, _⟩ => ⟨S16x384, .i32⟩
  | .hbm, ⟨58, _⟩ => ⟨S16x384, .i32⟩
  | .hbm, ⟨59, _⟩ => ⟨S16x384, .i32⟩
  | .hbm, ⟨60, _⟩ => ⟨S16x384x1, .i32⟩
  | .hbm, ⟨61, _⟩ => ⟨S8x2x16x384x128, .f32⟩
  | .hbm, ⟨62, _⟩ => ⟨S8x2x16x384x4x128, .f32⟩
  | .hbm, ⟨63, _⟩ => ⟨S8x2x4x16x128x384, .f32⟩
  | .hbm, ⟨64, _⟩ => ⟨S_, .f32⟩
  | .hbm, ⟨65, _⟩ => ⟨S8x2x4x16x128x384, .f32⟩
  | .hbm, ⟨66, _⟩ => ⟨S8x2x4x16x128x384, .f32⟩
  | .hbm, ⟨67, _⟩ => ⟨S16x1x384, .i32⟩
  | .hbm, ⟨68, _⟩ => ⟨S16x128x1, .i32⟩
  | .hbm, ⟨69, _⟩ => ⟨S16x128x384, .i32⟩
  | .hbm, ⟨70, _⟩ => ⟨S16x128x384, .i32⟩
  | .hbm, ⟨71, _⟩ => ⟨S16x128x384, .i32⟩
  | .hbm, ⟨72, _⟩ => ⟨S16x128x384, .i32⟩
  | .hbm, ⟨73, _⟩ => ⟨S_, .i32⟩
  | .hbm, ⟨74, _⟩ => ⟨S16x128x384, .i32⟩
  | .hbm, ⟨75, _⟩ => ⟨S16x128x384, .i1⟩
  | .hbm, ⟨76, _⟩ => ⟨S16x128x384, .i32⟩
  | .hbm, ⟨77, _⟩ => ⟨S16x128x384, .f32⟩
  | .hbm, ⟨78, _⟩ => ⟨S2x4x1x1x1, .f32⟩
  | .hbm, ⟨79, _⟩ => ⟨S2x4x1x1x1, .f32⟩
  | .hbm, ⟨80, _⟩ => ⟨S1x1x16x128x384, .f32⟩
  | .hbm, ⟨81, _⟩ => ⟨S2x4x16x128x384, .f32⟩
  | .hbm, ⟨82, _⟩ => ⟨S2x4x16x128x384, .f32⟩
  | .hbm, ⟨83, _⟩ => ⟨S2x4x16x128x384, .f32⟩
  | .hbm, ⟨84, _⟩ => ⟨S1x2x4x16x128x384, .f32⟩
  | .hbm, ⟨85, _⟩ => ⟨S8x2x4x16x128x384, .f32⟩
  | .hbm, ⟨86, _⟩ => ⟨S8x2x4x16x128x384, .f32⟩
  | .hbm, ⟨87, _⟩ => ⟨S_, .f32⟩
  | .hbm, ⟨88, _⟩ => ⟨S_, .f32⟩
  | .hbm, ⟨89, _⟩ => ⟨S8x2x4x16x128x384, .i1⟩
  | .hbm, ⟨90, _⟩ => ⟨S8x2x4x16x128x384, .f32⟩
  | .hbm, ⟨91, _⟩ => ⟨S8x2x4x16x128x384, .f32⟩
  | .hbm, ⟨92, _⟩ => ⟨S_, .f32⟩
  | .hbm, ⟨93, _⟩ => ⟨S8x2x4x16x128, .f32⟩
  | .hbm, ⟨94, _⟩ => ⟨S8x2x4x16x128x1, .f32⟩
  | .hbm, ⟨95, _⟩ => ⟨S8x2x4x16x128x384, .f32⟩
  | .hbm, ⟨96, _⟩ => ⟨S8x2x4x16x128x384, .f32⟩
  | .hbm, ⟨97, _⟩ => ⟨S8x2x4x16x128x384, .f32⟩
  | .hbm, ⟨98, _⟩ => ⟨S_, .f32⟩
  | .hbm, ⟨99, _⟩ => ⟨S8x2x4x16x128, .f32⟩
  | .hbm, ⟨100, _⟩ => ⟨S8x2x4x16x128x1, .f32⟩
  | .hbm, ⟨101, _⟩ => ⟨S8x2x16x128x4x128, .f32⟩
  | .hbm, ⟨102, _⟩ => ⟨S8x2x4x16x128x128, .f32⟩
  | .hbm, ⟨103, _⟩ => ⟨S8x2x4x16x128x128, .f32⟩
  | .hbm, ⟨104, _⟩ => ⟨S8x2x4x16x128x128, .f32⟩
  | .hbm, ⟨105, _⟩ => ⟨S8x2x4x16x128x1, .f32⟩
  | .hbm, ⟨106, _⟩ => ⟨S8x2x4x16x128x1, .f32⟩
  | .hbm, ⟨107, _⟩ => ⟨S8x2x4x16x128, .f32⟩
  | .hbm, ⟨108, _⟩ => ⟨S8x8x2048x128, .f32⟩
  | .hbm, ⟨109, _⟩ => ⟨S8x8x2048, .f32⟩
  | .hbm, ⟨110, _⟩ => ⟨S1x8x1, .f32⟩
  | .hbm, ⟨111, _⟩ => ⟨S8x8x2048, .f32⟩
  | .hbm, ⟨112, _⟩ => ⟨S8x8x2048, .f32⟩
  | .hbm, ⟨113, _⟩ => ⟨S8x8x2048, .f32⟩
  | .hbm, ⟨114, _⟩ => ⟨S8x8x2048, .f32⟩
  | .hbm, ⟨115, _⟩ => ⟨S_, .f32⟩
  | .hbm, ⟨116, _⟩ => ⟨S8x8x2048, .f32⟩
  | .hbm, ⟨117, _⟩ => ⟨S8x8x2048, .f32⟩
  | .hbm, ⟨118, _⟩ => ⟨S_, .f32⟩
  | .hbm, ⟨119, _⟩ => ⟨S8x8x2048, .f32⟩
  | .hbm, ⟨120, _⟩ => ⟨S8x8x2048, .f32⟩
  | .hbm, ⟨121, _⟩ => ⟨S8x8x2048x1, .f32⟩
  | .hbm, ⟨122, _⟩ => ⟨S8x8x2048x128, .f32⟩
  | .hbm, ⟨123, _⟩ => ⟨S8x8x2048x128, .f32⟩
  | .hbm, ⟨124, _⟩ => ⟨S8x2048x8x128, .f32⟩
  | .hbm, ⟨125, _⟩ => ⟨S8x2048x1024, .f32⟩
  | .hbm, ⟨126, _⟩ => ⟨S8x2048x1024, .bf16⟩
  | _, _ => ⟨S60x8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c_0 : Ref sig .tc := ⟨.hbm, 24, rfl⟩
abbrev main_v20 : Ref sig .tc := ⟨.hbm, 25, rfl⟩
abbrev main_v21 : Ref sig .tc := ⟨.hbm, 26, rfl⟩
abbrev main_c_1 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_4 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_9 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v68 : Ref sig .tc := ⟨.hbm, 91, rfl⟩
abbrev main_cst_10 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_11 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_12 : Ref sig .tc := ⟨.hbm, 115, rfl⟩
abbrev main_v90 : Ref sig .tc := ⟨.hbm, 116, rfl⟩
abbrev main_v91 : Ref sig .tc := ⟨.hbm, 117, rfl⟩
abbrev main_cst_13 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩

abbrev nD : Nat := 1
abbrev τ : Topo := Topo.v7x

variable {F : FTy → Type} [FloatOps F]
-- ==== Proof.NaPieces.lean ====
module
public import proofs.«01_k».proof.Proof.Gen.NaIdeal.Value
/-! # What one block of the neighbourhood attention stores, row by row

One block is one head of one sequence.  Its loop makes two trips and each trip writes sixteen rows of the image.
Every row is written by the same function of four slices: the queries of the row, the keys and the values of the
row's window, and the bias of the row's offset in its window. -/
@[expose] public section
set_option maxRecDepth 16384
noncomputable section
namespace Cert.NaRow
open Cert.NaIdeal Cert.NaIdeal.Gen
open Idealize.ShloMosaic Idealize.ShloMosaic.TcCoe Idealize.ShloMosaic.Tactic
variable {F : FTy → Type} [FloatOps F]

/-- The scores of one row of queries against its window. -/
def score (q : Vec F S1x1x64x128 .bf16) (k : Vec F S1x1x512x128 .bf16) (b : Vec F S1x1x64x512 .f32) :
    FVec F S64x512 .f32 := k0_pay4 q k b

/-- What is stored for one row: the weighted values divided by the sum of the weights. -/
def rowOut (q : Vec F S1x1x64x128 .bf16) (k v : Vec F S1x1x512x128 .bf16) (b : Vec F S1x1x64x512 .f32) :
    FVec F S1x64x128 .bf16 :=
  k0_pay92 (k0_pay3 v) (k0_pay45 (score q k b)) (k0_pay46 (score q k b))

section Trip
variable (arg2 : Memref sig .tc .vmem S1x1x2048x128 .bf16) (arg3 : Memref sig .tc .vmem S1x1x2048x128 .bf16)
  (arg4 : Memref sig .tc .vmem S1x1x2048x128 .bf16) (arg5 : Memref sig .tc .vmem S1x8x64x512 .f32)
  (X2 : BufTy.Contents (Elt F) arg2.view.ty) (X3 : BufTy.Contents (Elt F) arg3.view.ty)
  (X4 : BufTy.Contents (Elt F) arg4.view.ty) (X5 : BufTy.Contents (Elt F) arg5.view.ty)
  (k : Fin k0_t1_loop.trips)

/-- The piece of row `j` of trip `k`. -/
def rowPiece (j : Fin 16) : View.Piece (Elt F) S1x2048x128 .bf16 :=
  ⟨Rect.unit (s := S1x2048x128) (k0_off4 k (BitVec.ofNat 32 j.val)) S1x64x128.size (k0_off4_inb k j),
   rowOut
     (arg2.view.readAt (Elt F) (Rect.unit (s := S1x1x2048x128) (k0_off1 k (BitVec.ofNat 32 j.val)) S1x1x64x128.size (k0_off1_inb k j)).toLoadRect X2)
     (arg3.view.readAt (Elt F) (Rect.unit (s := S1x1x2048x128) (k0_off2 k (BitVec.ofNat 32 j.val)) S1x1x512x128.size (k0_off2_inb k j)).toLoadRect X3)
     (arg4.view.readAt (Elt F) (Rect.unit (s := S1x1x2048x128) (k0_off2 k (BitVec.ofNat 32 j.val)) S1x1x512x128.size (k0_off2_inb k j)).toLoadRect X4)
     (arg5.view.readAt (Elt F) (Rect.unit (s := S1x8x64x512) (k0_off3 k (BitVec.ofNat 32 j.val)) S1x1x64x512.size (k0_off3_inb k j)).toLoadRect X5)⟩

/-- A trip's pieces are the sixteen rows' pieces, the last row first. -/
theorem trip_pieces (𝒱 : Variants) (c : Dev nD) (bd : Option 𝒱.V) (i : grid0.Coords) (harg2 : arg2.IsWhole) (harg3 : arg3.IsWhole)
    (harg4 : arg4.IsWhole) (harg5 : arg5.IsWhole) (arg6 : Memref sig .tc .vmem S1x2048x128 .bf16) (harg6 : arg6.IsWhole) :
    tripL_k0_t1 (F := F) 𝒱 c bd i arg2 harg2 arg3 harg3 arg4 harg4 arg5 harg5 arg6 harg6 X2 X3 X4 X5 k
      = [rowPiece arg2 arg3 arg4 arg5 X2 X3 X4 X5 k 15, rowPiece arg2 arg3 arg4 arg5 X2 X3 X4 X5 k 14,
         rowPiece arg2 arg3 arg4 arg5 X2 X3 X4 X5 k 13, rowPiece arg2 arg3 arg4 arg5 X2 X3 X4 X5 k 12,
         rowPiece arg2 arg3 arg4 arg5 X2 X3 X4 X5 k 11, rowPiece arg2 arg3 arg4 arg5 X2 X3 X4 X5 k 10,
         rowPiece arg2 arg3 arg4 arg5 X2 X3 X4 X5 k 9, rowPiece arg2 arg3 arg4 arg5 X2 X3 X4 X5 k 8,
         rowPiece arg2 arg3 arg4 arg5 X2 X3 X4 X5 k 7, rowPiece arg2 arg3 arg4 arg5 X2 X3 X4 X5 k 6,
         rowPiece arg2 arg3 arg4 arg5 X2 X3 X4 X5 k 5, rowPiece arg2 arg3 arg4 arg5 X2 X3 X4 X5 k 4,
         rowPiece arg2 arg3 arg4 arg5 X2 X3 X4 X5 k 3, rowPiece arg2 arg3 arg4 arg5 X2 X3 X4 X5 k 2,
         rowPiece arg2 arg3 arg4 arg5 X2 X3 X4 X5 k 1, rowPiece arg2 arg3 arg4 arg5 X2 X3 X4 X5 k 0] := by
  unfold tripL_k0_t1 trip_k0_t1
  rfl

/-- Every piece of a trip is the piece of one of its rows. -/
theorem trip_piece_row (𝒱 : Variants) (c : Dev nD) (bd : Option 𝒱.V) (i : grid0.Coords) (harg2 : arg2.IsWhole) (harg3 : arg3.IsWhole)
    (harg4 : arg4.IsWhole) (harg5 : arg5.IsWhole) (arg6 : Memref sig .tc .vmem S1x2048x128 .bf16) (harg6 : arg6.IsWhole)
    (p : View.Piece (Elt F) S1x2048x128 .bf16)
    (hp : p ∈ tripL_k0_t1 (F := F) 𝒱 c bd i arg2 harg2 arg3 harg3 arg4 harg4 arg5 harg5 arg6 harg6 X2 X3 X4 X5 k) :
    ∃ j : Fin 16, p = rowPiece arg2 arg3 arg4 arg5 X2 X3 X4 X5 k j := by
  rw [trip_pieces] at hp
  simp only [List.mem_cons, List.not_mem_nil, or_false] at hp
  rcases hp with h | h | h | h | h | h | h | h | h | h | h | h | h | h | h | h <;> exact ⟨_, h⟩

/-- Every piece of the loop's first trips is a row's piece of one of the trips. -/
theorem loop_piece_row (𝒱 : Variants) (c : Dev nD) (bd : Option 𝒱.V) (i : grid0.Coords) (harg2 : arg2.IsWhole) (harg3 : arg3.IsWhole)
    (harg4 : arg4.IsWhole) (harg5 : arg5.IsWhole) (arg6 : Memref sig .tc .vmem S1x2048x128 .bf16) (harg6 : arg6.IsWhole)
    (n : ℕ) (hn : n ≤ k0_t1_loop.trips) (p : View.Piece (Elt F) S1x2048x128 .bf16)
    (hp : p ∈ pb_k0_t1 (F := F) 𝒱 c bd i arg2 harg2 arg3 harg3 arg4 harg4 arg5 harg5 arg6 harg6 X2 X3 X4 X5 n) :
    ∃ (k : Fin k0_t1_loop.trips) (j : Fin 16), p = rowPiece arg2 arg3 arg4 arg5 X2 X3 X4 X5 k j := by
  induction n with
  | zero => simp [pb_k0_t1] at hp
  | succ n ih =>
    rw [pb_k0_t1_succ (F := F) 𝒱 c bd i arg2 harg2 arg3 harg3 arg4 harg4 arg5 harg5 arg6 harg6 X2 X3 X4 X5 ⟨n, hn⟩,
      List.mem_append] at hp
    rcases hp with hp | hp
    · obtain ⟨j, h⟩ := trip_piece_row arg2 arg3 arg4 arg5 X2 X3 X4 X5 ⟨n, hn⟩ 𝒱 c bd i harg2 harg3 harg4 harg5 arg6 harg6 p hp
      exact ⟨_, j, h⟩
    · exact ih (Nat.le_of_succ_le hn) hp

end Trip
end Cert.NaRow
end
-- ==== Proof.NaSpec.lean ====
module
public import Idealize.ShloMosaic.Lib.Pointwise
/-! # The neighbourhood attention as a formula over the extended reals

Row `r` of the image attends to the eight rows from `st r` on, all 64 columns: a window of 512 positions. -/
@[expose] public section
noncomputable section
namespace Cert.NaSpec
open Idealize.ShloMosaic

/-- The printed word of minus infinity. -/
theorem neg_inf : Ideal.ofBits .f32 0xFF800000#32 = ⊥ := by simp [Ideal.ofBits, Ideal.ieee]

/-- The largest of the scores. -/
def top {n : Nat} (S : Fin n → EReal) : EReal := Finset.univ.fold max ⊥ S

/-- The weight of a position, before it is divided by the sum of the weights. -/
def wt {n : Nat} (S : Fin n → EReal) (w : Fin n) : EReal := Ideal.exp (S w - top S)

/-- The weighted values, divided by the sum of the weights at the end. -/
def softOut {n : Nat} (S V : Fin n → EReal) : EReal :=
  Ideal.div (∑ w, wt S w * V w) (∑ w, wt S w)

/-- The first row of row `r`'s window. -/
def st (r : Nat) : Nat := min (r - 4) 24

theorem st_le (r : Nat) : st r ≤ 24 := by unfold st; omega

theorem off_lt (r : Fin 32) : r.val - st r.val < 8 := by
  have := r.isLt; unfold st; omega

theorem win_lt (r : Fin 32) (w : Fin 512) : 64 * st r.val + w.val < 2048 := by
  have := r.isLt; have := w.isLt; have := st_le r.val; omega

theorem pos_lt (r : Fin 32) (c : Fin 64) : 64 * r.val + c.val < 2048 := by
  have := r.isLt; have := c.isLt; omega

abbrev U : Shape := ⟨4, ![60, 8, 2048, 128]⟩
abbrev B : Shape := ⟨4, ![8, 8, 64, 512]⟩
abbrev O : Shape := ⟨3, ![8, 2048, 1024]⟩

/-- The score of a query (head `h`, sequence `n`, row `r`, column `c`) at position `w` of its window. -/
def S (u : FVec Ideal U .bf16) (b : FVec Ideal B .f32) (h n : Fin 8) (r : Fin 32) (c : Fin 64) (w : Fin 512) : EReal :=
  (∑ d : Fin 128, u (ix4 (⟨h.val, by omega⟩ : Fin 60) n (⟨64 * r.val + c.val, pos_lt r c⟩ : Fin 2048) d)
      * u (ix4 (⟨8 + h.val, by omega⟩ : Fin 60) n (⟨64 * st r.val + w.val, win_lt r w⟩ : Fin 2048) d))
    * Ideal.ofBits .f32 0x3DB504F3#32
    + b (ix4 h (⟨r.val - st r.val, off_lt r⟩ : Fin 8) c w)

/-- The value at position `w` of a window, in lane `d`. -/
def V (u : FVec Ideal U .bf16) (h n : Fin 8) (r : Fin 32) (d : Fin 128) (w : Fin 512) : EReal :=
  u (ix4 (⟨16 + h.val, by omega⟩ : Fin 60) n (⟨64 * st r.val + w.val, win_lt r w⟩ : Fin 2048) d)

/-- The attention's result, an array: sequence, position, and the head's lane. -/
def out (u : FVec Ideal U .bf16) (b : FVec Ideal B .f32) : FVec Ideal O .bf16 := fun y =>
  softOut (S u b (⟨(y 2).val / 128, by have : (y 2).val < 1024 := (y 2).isLt; omega⟩ : Fin 8) (y 0)
      (⟨(y 1).val / 64, by have : (y 1).val < 2048 := (y 1).isLt; omega⟩ : Fin 32)
      (⟨(y 1).val % 64, by omega⟩ : Fin 64))
    (V u (⟨(y 2).val / 128, by have : (y 2).val < 1024 := (y 2).isLt; omega⟩ : Fin 8) (y 0)
      (⟨(y 1).val / 64, by have : (y 1).val < 2048 := (y 1).isLt; omega⟩ : Fin 32)
      (⟨(y 2).val % 128, by omega⟩ : Fin 128))

/-- A sum over a window's positions, row by row. -/
theorem sum_win (f : Fin 512 → EReal) :
    ∑ w, f w = ∑ i : Fin 8, ∑ j : Fin 64, f ⟨i.val * 64 + j.val, by omega⟩ := by
  rw [← Fintype.sum_prod_type' (f := fun (i : Fin 8) (j : Fin 64) => f ⟨i.val * 64 + j.val, by omega⟩)]
  refine (Fintype.sum_equiv (finProdFinEquiv (m := 8) (n := 64)) _ _ fun x => ?_).symm
  refine congrArg f (Fin.ext ?_)
  show x.1.val * 64 + x.2.val = x.2.val + 64 * x.1.val
  omega

end Cert.NaSpec
-- ==== Proof.NaBlock.lean ====
module
public import proofs.«01_k».proof.Proof.NaPieces
public import proofs.«01_k».proof.Proof.NaSpec
public import Idealize.ShloMosaic.Lib.Pipeline.ValueKit
/-! # One row of the kernel's block, over the extended reals -/
@[expose] public section
set_option maxRecDepth 16384
noncomputable section
namespace Cert.NaRow
open Cert.NaIdeal Cert.NaIdeal.Gen
open Idealize.ShloMosaic

/-- A row's score at a column and a position. -/
theorem score_apply (q : Vec Ideal S1x1x64x128 .bf16) (k : Vec Ideal S1x1x512x128 .bf16) (b : Vec Ideal S1x1x64x512 .f32)
    (c : Fin 64) (w : Fin 512) :
    score q k b (ix2 c w) = (∑ d : Fin 128, q (ix4 0 0 c d) * k (ix4 0 0 w d)) * Ideal.ofBits .f32 0x3DB504F3#32
      + b (ix4 0 0 c w) := by
  unfold score
  pointwise [k0_pay4]

theorem exp_apply (s : FVec Ideal S64x512 .f32) (c : Fin 64) (w : Fin 512) :
    k0_pay44 s (ix2 c w) = NaSpec.wt (fun w => s (ix2 c w)) w := by
  pointwise [k0_pay44, NaSpec.wt, NaSpec.top]
  rw [NaSpec.neg_inf]

theorem rowOut_apply (q : Vec Ideal S1x1x64x128 .bf16) (k v : Vec Ideal S1x1x512x128 .bf16) (b : Vec Ideal S1x1x64x512 .f32)
    (c : Fin 64) (d : Fin 128) :
    rowOut q k v b (ix3 0 c d) = NaSpec.softOut (fun w => score q k b (ix2 c w)) (fun w => v (ix4 0 0 w d)) := by
  unfold rowOut
  generalize score q k b = s
  unfold NaSpec.softOut
  pointwise [k0_pay92, k0_pay3, k0_pay45, k0_pay46, exp_apply]

theorem off1_eq : ∀ (k : Fin k0_t1_loop.trips) (j : Fin 16),
    k0_off1 k (BitVec.ofNat 32 j.val) = ![0, 0, 64 * (16 * k.val + j.val), 0] := by decide +kernel
theorem off2_eq : ∀ (k : Fin k0_t1_loop.trips) (j : Fin 16),
    k0_off2 k (BitVec.ofNat 32 j.val) = ![0, 0, 64 * NaSpec.st (16 * k.val + j.val), 0] := by decide +kernel
theorem off3_eq : ∀ (k : Fin k0_t1_loop.trips) (j : Fin 16),
    k0_off3 k (BitVec.ofNat 32 j.val) = ![0, 16 * k.val + j.val - NaSpec.st (16 * k.val + j.val), 0, 0] := by decide +kernel
theorem off4_eq : ∀ (k : Fin k0_t1_loop.trips) (j : Fin 16),
    k0_off4 k (BitVec.ofNat 32 j.val) = ![0, 64 * (16 * k.val + j.val), 0] := by decide +kernel

theorem row_lt (y : Fin 2048) : y.val / 64 < 32 := by omega

/-- The row of a position of the image. -/
def rowOf (y : Fin 2048) : Fin 32 := ⟨y.val / 64, row_lt y⟩
/-- The column of a position of the image. -/
def colOf (y : Fin 2048) : Fin 64 := ⟨y.val % 64, by omega⟩

/-- What a block stores, from its whole input blocks. -/
def blockOut (q k v : FVec Ideal S1x1x2048x128 .bf16) (b : FVec Ideal S1x8x64x512 .f32) : FVec Ideal S1x2048x128 .bf16 := fun y =>
  NaSpec.softOut
    (fun w : Fin 512 => (∑ d : Fin 128, q (ix4 0 0 (y 1) d)
          * k (ix4 0 0 (⟨64 * NaSpec.st (rowOf (y 1)).val + w.val, NaSpec.win_lt _ w⟩ : Fin 2048) d)) * Ideal.ofBits .f32 0x3DB504F3#32
      + b (ix4 0 (⟨(rowOf (y 1)).val - NaSpec.st (rowOf (y 1)).val, NaSpec.off_lt _⟩ : Fin 8) (colOf (y 1)) w))
    (fun w => v (ix4 0 0 (⟨64 * NaSpec.st (rowOf (y 1)).val + w.val, NaSpec.win_lt _ w⟩ : Fin 2048) (y 2)))

section Ld
variable (k : Fin k0_t1_loop.trips) (j : Fin 16)

theorem trips_two (k : Fin k0_t1_loop.trips) : k.val < 2 :=
  lt_of_lt_of_eq k.isLt (by decide +kernel)

theorem ld_q (X : FVec Ideal S1x1x2048x128 .bf16) (c : Fin 64) (d : Fin 128) (y : Fin 2048)
    (hy : y.val = 64 * (16 * k.val + j.val) + c.val) :
    View.ld (Val := Elt Ideal) (e' := .bf16) X (Rect.unit (s := S1x1x2048x128) (k0_off1 k (BitVec.ofNat 32 j.val)) S1x1x64x128.size (k0_off1_inb k j)) (ix4 0 0 c d)
      = X (ix4 0 0 y d) := by
  refine View.ld_unit_apply_of (Val := Elt Ideal) (e := .bf16) X _ _ _ _ _ fun a => ?_
  refine Eq.trans ?_ (congrArg (· + _) (congrFun (off1_eq k j) a).symm)
  match a with
  | ⟨0, _⟩ => rfl
  | ⟨1, _⟩ => rfl
  | ⟨2, _⟩ => exact hy
  | ⟨3, _⟩ => exact (Nat.zero_add _).symm

theorem ld_kv (X : FVec Ideal S1x1x2048x128 .bf16) (w : Fin 512) (d : Fin 128) (y : Fin 2048)
    (hy : y.val = 64 * NaSpec.st (16 * k.val + j.val) + w.val) :
    View.ld (Val := Elt Ideal) (e' := .bf16) X (Rect.unit (s := S1x1x2048x128) (k0_off2 k (BitVec.ofNat 32 j.val)) S1x1x512x128.size (k0_off2_inb k j)) (ix4 0 0 w d)
      = X (ix4 0 0 y d) := by
  refine View.ld_unit_apply_of (Val := Elt Ideal) (e := .bf16) X _ _ _ _ _ fun a => ?_
  refine Eq.trans ?_ (congrArg (· + _) (congrFun (off2_eq k j) a).symm)
  match a with
  | ⟨0, _⟩ => rfl
  | ⟨1, _⟩ => rfl
  | ⟨2, _⟩ => exact hy
  | ⟨3, _⟩ => exact (Nat.zero_add _).symm

theorem ld_b (X : FVec Ideal S1x8x64x512 .f32) (c : Fin 64) (w : Fin 512) (o : Fin 8)
    (ho : o.val = 16 * k.val + j.val - NaSpec.st (16 * k.val + j.val)) :
    View.ld (Val := Elt Ideal) (e' := .f32) X (Rect.unit (s := S1x8x64x512) (k0_off3 k (BitVec.ofNat 32 j.val)) S1x1x64x512.size (k0_off3_inb k j)) (ix4 0 0 c w)
      = X (ix4 0 o c w) := by
  refine View.ld_unit_apply_of (Val := Elt Ideal) (e := .f32) X _ _ _ _ _ fun a => ?_
  refine Eq.trans ?_ (congrArg (· + _) (congrFun (off3_eq k j) a).symm)
  match a with
  | ⟨0, _⟩ => rfl
  | ⟨1, _⟩ => exact ho
  | ⟨2, _⟩ => exact (Nat.zero_add _).symm
  | ⟨3, _⟩ => exact (Nat.zero_add _).symm

theorem emb_row (x : S1x64x128.Idx) :
    ((Rect.unit (s := S1x2048x128) (k0_off4 k (BitVec.ofNat 32 j.val)) S1x64x128.size (k0_off4_inb k j)).emb x 1).val
        = 64 * (16 * k.val + j.val) + (x 1).val
      ∧ ((Rect.unit (s := S1x2048x128) (k0_off4 k (BitVec.ofNat 32 j.val)) S1x64x128.size (k0_off4_inb k j)).emb x 2).val = (x 2).val := by
  have h : ∀ a, ((Rect.unit (s := S1x2048x128) (k0_off4 k (BitVec.ofNat 32 j.val)) S1x64x128.size (k0_off4_inb k j)).emb x a).val
      = (k0_off4 k (BitVec.ofNat 32 j.val)) a + (x a).val := fun a => Rect.idx_unit_val ..
  rw [h 1, h 2, off4_eq k j]
  exact ⟨rfl, Nat.zero_add _⟩

/-- The piece of a row writes the block's function at the piece's places. -/
theorem piece_apply (arg2 arg3 arg4 : Memref sig .tc .vmem S1x1x2048x128 .bf16) (arg5 : Memref sig .tc .vmem S1x8x64x512 .f32)
    (X2 : BufTy.Contents (Elt Ideal) arg2.view.ty) (X3 : BufTy.Contents (Elt Ideal) arg3.view.ty)
    (X4 : BufTy.Contents (Elt Ideal) arg4.view.ty) (X5 : BufTy.Contents (Elt Ideal) arg5.view.ty)
    (x : S1x64x128.Idx) :
    (rowPiece arg2 arg3 arg4 arg5 X2 X3 X4 X5 k j).2 x
      = blockOut (arg2.view.read (Elt Ideal) X2) (arg3.view.read (Elt Ideal) X3) (arg4.view.read (Elt Ideal) X4) (arg5.view.read (Elt Ideal) X5)
          ((rowPiece arg2 arg3 arg4 arg5 X2 X3 X4 X5 k j).1.emb x) := by
  obtain ⟨c, d, rfl⟩ : ∃ (c : Fin 64) (d : Fin 128), x = ix3 0 c d := ⟨x 1, x 2, by
    funext a
    match a with
    | ⟨0, _⟩ => exact Subsingleton.elim (α := Fin 1) _ _
    | ⟨1, _⟩ => rfl
    | ⟨2, _⟩ => rfl⟩
  obtain ⟨e1, e2⟩ := emb_row k j (ix3 0 c d)
  have hk := trips_two k
  have hj := j.isLt
  have hc := c.isLt
  replace e1 : _ = 64 * (16 * k.val + j.val) + c.val := e1
  replace e2 : _ = d.val := e2
  unfold rowPiece blockOut
  generalize ((Rect.unit (s := S1x2048x128) (k0_off4 k (BitVec.ofNat 32 j.val)) S1x64x128.size (k0_off4_inb k j)).emb (ix3 0 c d)) = y at e1 e2 ⊢
  have hr : (rowOf (y 1)).val = 16 * k.val + j.val := by unfold rowOf; show (y 1).val / 64 = _; omega
  have hcol : colOf (y 1) = c := Fin.ext (by show (y 1).val % 64 = _; omega)
  have hd : y 2 = d := Fin.ext e2
  refine (rowOut_apply _ _ _ _ c d).trans ?_
  simp only [View.readAt_eq_ld, score_apply]
  congr 1
  · funext w
    rw [ld_b k j _ c w (⟨(rowOf (y 1)).val - NaSpec.st (rowOf (y 1)).val, NaSpec.off_lt _⟩ : Fin 8) (by simp only [hr]), hcol]
    congr 2
    refine Finset.sum_congr rfl fun d _ => ?_
    rw [ld_q k j _ c d (y 1) e1, ld_kv k j _ w d (⟨64 * NaSpec.st (rowOf (y 1)).val + w.val, NaSpec.win_lt _ w⟩ : Fin 2048) (by simp only [hr])]
  · funext w
    rw [ld_kv k j _ w d (⟨64 * NaSpec.st (rowOf (y 1)).val + w.val, NaSpec.win_lt _ w⟩ : Fin 2048) (by simp only [hr]), hd]
end Ld

/-- What a block's body leaves in its output block. -/
theorem block_eq (c : Dev nD) (i : grid0.Coords) (arg2 : Memref sig .tc .vmem S1x1x2048x128 .bf16) (harg2 : arg2.IsWhole)
    (arg3 : Memref sig .tc .vmem S1x1x2048x128 .bf16) (harg3 : arg3.IsWhole)
    (arg4 : Memref sig .tc .vmem S1x1x2048x128 .bf16) (harg4 : arg4.IsWhole)
    (arg5 : Memref sig .tc .vmem S1x8x64x512 .f32) (harg5 : arg5.IsWhole)
    (arg6 : Memref sig .tc .vmem S1x2048x128 .bf16) (harg6 : arg6.IsWhole)
    (x0 x1 x2 : FVec Ideal S1x1x2048x128 .bf16) (x3 : FVec Ideal S1x8x64x512 .f32) :
    out0_A_4 (F := Ideal) c i arg2 harg2 arg3 harg3 arg4 harg4 arg5 harg5 arg6 harg6 x0 x1 x2 x3 = blockOut x0 x1 x2 x3 := by
  funext y
  have hcov := cover0_A_4 (F := Ideal) c i arg2 harg2 arg3 harg3 arg4 harg4 arg5 harg5 arg6 harg6 x0 x1 x2 x3 y
  unfold out0_A_4
  rw [View.read_writes_junk_apply_eq_canon]
  refine View.canon_apply_of_pieces _ _ (fun p hp => ?_) y hcov
  unfold kernelRun0_A at hp
  dsimp only at hp
  obtain ⟨k, j, rfl⟩ := loop_piece_row arg2 arg3 arg4 arg5 _ _ _ _ _ _ _ _ _ _ _ _ _ _ _ (by decide +kernel) p hp
  intro x
  refine (piece_apply k j arg2 arg3 arg4 arg5 _ _ _ _ x).trans ?_
  rw [harg2.read_unread, harg3.read_unread, harg4.read_unread, harg5.read_unread]

end Cert.NaRow
-- ==== Proof.NaArray.lean ====
module
public import proofs.«01_k».proof.Proof.NaBlock
/-! # The array the kernel leaves: the attention of the two arguments -/
@[expose] public section
set_option maxRecDepth 16384
noncomputable section
namespace Cert.NaRow
open Cert.NaIdeal Cert.NaIdeal.Gen
open Idealize.ShloMosaic Idealize.ShloMosaic.TcCoe

variable (m : (ℓ : Loc nD τ sig) → Buf (Elt Ideal) ℓ) (c : Dev nD) (t : Fin cfg0.N)

/-- The head of a grid point. -/
def hd : Fin 8 := grid0.coords t 0
/-- The sequence of a grid point. -/
def sq : Fin 8 := grid0.coords t 1

theorem e0 : ∀ t : Fin cfg0.N, win0_0.index t = ![(grid0.coords t 0).val, (grid0.coords t 1).val, 0, 0] :=
  (by decide +kernel : ∀ t : Fin grid0.N, _)
theorem e1 : ∀ t : Fin cfg0.N, win0_1.index t = ![8 + (grid0.coords t 0).val, (grid0.coords t 1).val, 0, 0] :=
  (by decide +kernel : ∀ t : Fin grid0.N, _)
theorem e2 : ∀ t : Fin cfg0.N, win0_2.index t = ![16 + (grid0.coords t 0).val, (grid0.coords t 1).val, 0, 0] :=
  (by decide +kernel : ∀ t : Fin grid0.N, _)
theorem e3 : ∀ t : Fin cfg0.N, win0_3.index t = ![(grid0.coords t 0).val, 0, 0, 0] :=
  (by decide +kernel : ∀ t : Fin grid0.N, _)
theorem e4 : ∀ t : Fin cfg0.N, win0_4.index t = ![(grid0.coords t 1).val, 0, (grid0.coords t 0).val] :=
  (by decide +kernel : ∀ t : Fin grid0.N, _)

theorem q_blk (p : Fin 2048) (d : Fin 128) :
    iblk m c 0 t (ix4 0 0 p d) = m ((c : Thread nD τ).loc main_arg0) (ix4 (⟨(hd t).val, by omega⟩ : Fin 60) (sq t) p d) := by
  unfold hd sq
  blk_simp [iblk]
  rw [V_main_arg0]
  congr 1
  blk_ext [e0]

theorem k_blk (p : Fin 2048) (d : Fin 128) :
    iblk m c 1 t (ix4 0 0 p d) = m ((c : Thread nD τ).loc main_arg0) (ix4 (⟨8 + (hd t).val, by omega⟩ : Fin 60) (sq t) p d) := by
  unfold hd sq
  blk_simp [iblk]
  rw [V_main_arg0]
  congr 1
  blk_ext [e1]

theorem v_blk (p : Fin 2048) (d : Fin 128) :
    iblk m c 2 t (ix4 0 0 p d) = m ((c : Thread nD τ).loc main_arg0) (ix4 (⟨16 + (hd t).val, by omega⟩ : Fin 60) (sq t) p d) := by
  unfold hd sq
  blk_simp [iblk]
  rw [V_main_arg0]
  congr 1
  blk_ext [e2]

theorem b_blk (o : Fin 8) (p : Fin 64) (d : Fin 512) :
    iblk m c 3 t (ix4 0 o p d) = m ((c : Thread nD τ).loc main_arg1) (ix4 (hd t) o p d) := by
  unfold hd
  blk_simp [iblk]
  rw [V_main_arg1]
  congr 1
  blk_ext [e3]

/-- The output array after the last point. -/
theorem final : (dats m 0 c).arrAt 4 cfg0.N
    = NaSpec.out (m ((c : Thread nD τ).loc main_arg0)) (m ((c : Thread nD τ).loc main_arg1)) := by
  refine (dats m 0 c).arrAt_eq_of_covers 4 _ (by decide +kernel) fun t hf y => ?_
  blk_simp
  rw [after0_4]
  unfold outsAt0
  rw [block_eq]
  obtain ⟨p, d, rfl⟩ : ∃ (p : Fin 2048) (d : Fin 128), y = ix3 0 p d := ⟨y 1, y 2, by
    funext a
    match a with
    | ⟨0, _⟩ => exact Subsingleton.elim (α := Fin 1) _ _
    | ⟨1, _⟩ => rfl
    | ⟨2, _⟩ => rfl⟩
  have e : (win0_4.blk t).view.emb (ix3 0 p d) = ix3 (sq t) p (⟨(hd t).val * 128 + d.val, by have := (hd t).isLt; omega⟩ : Fin 1024) := by
    unfold hd sq
    blk_ext [e4]
  rw [e]
  unfold blockOut NaSpec.out
  have hh : (⟨((hd t).val * 128 + d.val) / 128, by have := (hd t).isLt; omega⟩ : Fin 8) = hd t := Fin.ext (by
    show ((hd t).val * 128 + d.val) / 128 = _; omega)
  have hl : (⟨((hd t).val * 128 + d.val) % 128, by omega⟩ : Fin 128) = d := Fin.ext (by
    show ((hd t).val * 128 + d.val) % 128 = _; omega)
  show NaSpec.softOut _ _ = NaSpec.softOut (NaSpec.S _ _ (⟨((hd t).val * 128 + d.val) / 128, _⟩ : Fin 8) (sq t) (rowOf p) (colOf p))
    (NaSpec.V _ (⟨((hd t).val * 128 + d.val) / 128, _⟩ : Fin 8) (sq t) (rowOf p) (⟨((hd t).val * 128 + d.val) % 128, _⟩ : Fin 128))
  rw [hh, hl]
  have hp : (⟨64 * (rowOf p).val + (colOf p).val, NaSpec.pos_lt _ _⟩ : Fin 2048) = p := Fin.ext (by
    show 64 * (p.val / 64) + p.val % 64 = _; omega)
  congr 1
  · funext w
    unfold NaSpec.S
    rw [hp]
    refine congrArg₂ (· + ·) (congrArg (· * _) (Finset.sum_congr rfl fun x _ => ?_)) ?_
    · exact congrArg₂ (· * ·) (q_blk m c t _ _) (k_blk m c t _ _)
    · exact b_blk m c t _ _ _
  · funext w
    exact v_blk m c t _ _

end Cert.NaRow
-- ==== Proof.NaRefValue.lean ====
module
public import proofs.«01_k».proof.Proof.Gen.NaRefIdeal.Read
public import proofs.«01_k».proof.Proof.NaSpec
@[expose] public section
set_option maxRecDepth 16384
noncomputable section
namespace Cert.NaRef
open Cert.NaRefIdeal Cert.NaRefIdeal.Gen Cert.NaRefIdeal.Read
open Idealize.ShloMosaic
variable (u : FVec Ideal S60x8x2048x128 .bf16) (b : FVec Ideal S8x8x64x512 .f32)

/-- Rows gathered by a table: the row the table names, if it is a row. -/
theorem gather_rows (x : FVec Ideal S8x8x32x64x128 .f32) (idx : IVec S32x8x1 32) (h n : Fin 8) (r : Fin 32) (i : Fin 8) (j : Fin 64) (d : Fin 128)
    (k : Fin 32) (hk : idx (ix3 r i 0) = BitVec.ofNat 32 k.val) :
    Host.gather gather_S8x8x32x64x128_S32x8x1_S8x8x32x8x64x128_0145_2_n_n_2_2_88164128 x idx (ix6 h n r i j d) = x (ix5 h n k j d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    show GatherDims.start gather_S8x8x32x64x128_S32x8x1_S8x8x32x8x64x128_0145_2_n_n_2_2_88164128 (ix6 h n r i j d) idx (0 : Fin S8x8x32x64x128.rank) + 0
      + GatherDims.offCoord gather_S8x8x32x64x128_S32x8x1_S8x8x32x8x64x128_0145_2_n_n_2_2_88164128 (ix6 h n r i j d) (0 : Fin S8x8x32x64x128.rank) = _
    unfold GatherDims.start GatherDims.offCoord
    rw [dif_neg (show (0 : Fin S8x8x32x64x128.rank) ∉ gather_S8x8x32x64x128_S32x8x1_S8x8x32x8x64x128_0145_2_n_n_2_2_88164128.startIndexMap by decide),
      dif_pos (show (0 : Fin S8x8x32x64x128.rank) ∈ gather_S8x8x32x64x128_S32x8x1_S8x8x32x8x64x128_0145_2_n_n_2_2_88164128.sKept by decide)]
    exact Nat.zero_add _
  | ⟨1, _⟩ =>
    show GatherDims.start gather_S8x8x32x64x128_S32x8x1_S8x8x32x8x64x128_0145_2_n_n_2_2_88164128 (ix6 h n r i j d) idx (1 : Fin S8x8x32x64x128.rank) + 0
      + GatherDims.offCoord gather_S8x8x32x64x128_S32x8x1_S8x8x32x8x64x128_0145_2_n_n_2_2_88164128 (ix6 h n r i j d) (1 : Fin S8x8x32x64x128.rank) = _
    unfold GatherDims.start GatherDims.offCoord
    rw [dif_neg (show (1 : Fin S8x8x32x64x128.rank) ∉ gather_S8x8x32x64x128_S32x8x1_S8x8x32x8x64x128_0145_2_n_n_2_2_88164128.startIndexMap by decide),
      dif_pos (show (1 : Fin S8x8x32x64x128.rank) ∈ gather_S8x8x32x64x128_S32x8x1_S8x8x32x8x64x128_0145_2_n_n_2_2_88164128.sKept by decide)]
    exact Nat.zero_add _
  | ⟨2, _⟩ =>
    show GatherDims.start gather_S8x8x32x64x128_S32x8x1_S8x8x32x8x64x128_0145_2_n_n_2_2_88164128 (ix6 h n r i j d) idx (2 : Fin S8x8x32x64x128.rank) + 0
      + GatherDims.offCoord gather_S8x8x32x64x128_S32x8x1_S8x8x32x8x64x128_0145_2_n_n_2_2_88164128 (ix6 h n r i j d) (2 : Fin S8x8x32x64x128.rank) = _
    unfold GatherDims.start GatherDims.offCoord
    rw [dif_pos (show (2 : Fin S8x8x32x64x128.rank) ∈ gather_S8x8x32x64x128_S32x8x1_S8x8x32x8x64x128_0145_2_n_n_2_2_88164128.startIndexMap by decide),
      dif_neg (show (2 : Fin S8x8x32x64x128.rank) ∉ gather_S8x8x32x64x128_S32x8x1_S8x8x32x8x64x128_0145_2_n_n_2_2_88164128.sKept by decide)]
    have hsi : ∀ q, (gather_S8x8x32x64x128_S32x8x1_S8x8x32x8x64x128_0145_2_n_n_2_2_88164128).siIdx (ix6 h n r i j d) q = ix3 r i 0 := by
      intro q
      funext b; refine Fin.ext ?_
      match b with
      | ⟨0, _⟩ => rfl
      | ⟨1, _⟩ => rfl
      | ⟨2, _⟩ => exact Nat.lt_one_iff.mp q.isLt
    rw [hsi, hk]
    show min (BitVec.ofNat 32 k.val).toInt.toNat 31 + 0 + 0 = k.val
    clear hk
    revert k
    decide
  | ⟨3, _⟩ =>
    show GatherDims.start gather_S8x8x32x64x128_S32x8x1_S8x8x32x8x64x128_0145_2_n_n_2_2_88164128 (ix6 h n r i j d) idx (3 : Fin S8x8x32x64x128.rank) + 0
      + GatherDims.offCoord gather_S8x8x32x64x128_S32x8x1_S8x8x32x8x64x128_0145_2_n_n_2_2_88164128 (ix6 h n r i j d) (3 : Fin S8x8x32x64x128.rank) = _
    unfold GatherDims.start GatherDims.offCoord
    rw [dif_neg (show (3 : Fin S8x8x32x64x128.rank) ∉ gather_S8x8x32x64x128_S32x8x1_S8x8x32x8x64x128_0145_2_n_n_2_2_88164128.startIndexMap by decide),
      dif_pos (show (3 : Fin S8x8x32x64x128.rank) ∈ gather_S8x8x32x64x128_S32x8x1_S8x8x32x8x64x128_0145_2_n_n_2_2_88164128.sKept by decide)]
    exact Nat.zero_add _
  | ⟨4, _⟩ =>
    show GatherDims.start gather_S8x8x32x64x128_S32x8x1_S8x8x32x8x64x128_0145_2_n_n_2_2_88164128 (ix6 h n r i j d) idx (4 : Fin S8x8x32x64x128.rank) + 0
      + GatherDims.offCoord gather_S8x8x32x64x128_S32x8x1_S8x8x32x8x64x128_0145_2_n_n_2_2_88164128 (ix6 h n r i j d) (4 : Fin S8x8x32x64x128.rank) = _
    unfold GatherDims.start GatherDims.offCoord
    rw [dif_neg (show (4 : Fin S8x8x32x64x128.rank) ∉ gather_S8x8x32x64x128_S32x8x1_S8x8x32x8x64x128_0145_2_n_n_2_2_88164128.startIndexMap by decide),
      dif_pos (show (4 : Fin S8x8x32x64x128.rank) ∈ gather_S8x8x32x64x128_S32x8x1_S8x8x32x8x64x128_0145_2_n_n_2_2_88164128.sKept by decide)]
    exact Nat.zero_add _

theorem rows : ∀ (r : Fin 32) (i : Fin 8), (val_main_v25 (F := Ideal) (ix3 r i 0) : BitVec 32) = BitVec.ofNat 32 (NaSpec.st r.val + i.val) := by
  decide +kernel
theorem rowsV : ∀ (r : Fin 32) (i : Fin 8), (val_main_v33 (F := Ideal) (ix3 r i 0) : BitVec 32) = BitVec.ofNat 32 (NaSpec.st r.val + i.val) := by
  decide +kernel
theorem offs : ∀ (r : Fin 32), (val_main_v43 (F := Ideal) (ix2 r 0) : BitVec 32) = BitVec.ofNat 32 (r.val - NaSpec.st r.val) := by
  decide +kernel

theorem wrow_lt (r : Fin 32) (i : Fin 8) : NaSpec.st r.val + i.val < 32 := by
  have := NaSpec.st_le r.val; omega

theorem q_apply (n h : Fin 8) (r : Fin 32) (c : Fin 64) (d : Fin 128) :
    val_main_v46 (F := Ideal) u (ix5 n h r c d)
      = u (ix4 (⟨h.val, by omega⟩ : Fin 60) n (⟨64 * r.val + c.val, NaSpec.pos_lt r c⟩ : Fin 2048) d) := by
  unfold val_main_v46 val_main_v2 val_main_v1 val_main_v0
  pointwise
  simp only [Nat.mul_comm r.val 64]

theorem k_apply (n h : Fin 8) (r : Fin 32) (i : Fin 8) (j : Fin 64) (d : Fin 128) :
    val_main_v26 (F := Ideal) u (ix6 n h r i j d)
      = u (ix4 (⟨8 + h.val, by omega⟩ : Fin 60) n (⟨64 * (NaSpec.st r.val + i.val) + j.val, NaSpec.pos_lt ⟨_, wrow_lt r i⟩ j⟩ : Fin 2048) d) := by
  unfold val_main_v26
  rw [gather_rows _ _ n h r i j d ⟨_, wrow_lt r i⟩ (rows r i)]
  unfold val_main_v19 val_main_v5 val_main_v4 val_main_v3
  pointwise
  simp only [Nat.mul_comm 64]

theorem v_apply (n h : Fin 8) (r : Fin 32) (i : Fin 8) (j : Fin 64) (d : Fin 128) :
    val_main_v34 (F := Ideal) u (ix6 n h r i j d)
      = u (ix4 (⟨16 + h.val, by omega⟩ : Fin 60) n (⟨64 * (NaSpec.st r.val + i.val) + j.val, NaSpec.pos_lt ⟨_, wrow_lt r i⟩ j⟩ : Fin 2048) d) := by
  unfold val_main_v34
  rw [gather_rows _ _ n h r i j d ⟨_, wrow_lt r i⟩ (rowsV r i)]
  unfold val_main_v27 val_main_v8 val_main_v7 val_main_v6
  pointwise
  simp only [Nat.mul_comm 64]

theorem gather_bias (x : FVec Ideal S8x8x64x512 .f32) (idx : IVec S32x1 32) (h : Fin 8) (r : Fin 32) (c : Fin 64) (w : Fin 512)
    (k : Fin 8) (hk : idx (ix2 r 0) = BitVec.ofNat 32 k.val) :
    Host.gather gather_S8x8x64x512_S32x1_S8x32x64x512_023_1_n_n_1_1_8164512 x idx (ix4 h r c w) = x (ix4 h k c w) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    show GatherDims.start gather_S8x8x64x512_S32x1_S8x32x64x512_023_1_n_n_1_1_8164512 (ix4 h r c w) idx (0 : Fin S8x8x64x512.rank) + 0
      + GatherDims.offCoord gather_S8x8x64x512_S32x1_S8x32x64x512_023_1_n_n_1_1_8164512 (ix4 h r c w) (0 : Fin S8x8x64x512.rank) = _
    unfold GatherDims.start GatherDims.offCoord
    rw [dif_neg (show (0 : Fin S8x8x64x512.rank) ∉ gather_S8x8x64x512_S32x1_S8x32x64x512_023_1_n_n_1_1_8164512.startIndexMap by decide),
      dif_pos (show (0 : Fin S8x8x64x512.rank) ∈ gather_S8x8x64x512_S32x1_S8x32x64x512_023_1_n_n_1_1_8164512.sKept by decide)]
    exact Nat.zero_add _
  | ⟨1, _⟩ =>
    show GatherDims.start gather_S8x8x64x512_S32x1_S8x32x64x512_023_1_n_n_1_1_8164512 (ix4 h r c w) idx (1 : Fin S8x8x64x512.rank) + 0
      + GatherDims.offCoord gather_S8x8x64x512_S32x1_S8x32x64x512_023_1_n_n_1_1_8164512 (ix4 h r c w) (1 : Fin S8x8x64x512.rank) = _
    unfold GatherDims.start GatherDims.offCoord
    rw [dif_pos (show (1 : Fin S8x8x64x512.rank) ∈ gather_S8x8x64x512_S32x1_S8x32x64x512_023_1_n_n_1_1_8164512.startIndexMap by decide),
      dif_neg (show (1 : Fin S8x8x64x512.rank) ∉ gather_S8x8x64x512_S32x1_S8x32x64x512_023_1_n_n_1_1_8164512.sKept by decide)]
    have hsi : ∀ q, (gather_S8x8x64x512_S32x1_S8x32x64x512_023_1_n_n_1_1_8164512).siIdx (ix4 h r c w) q = ix2 r 0 := by
      intro q
      funext b; refine Fin.ext ?_
      match b with
      | ⟨0, _⟩ => rfl
      | ⟨1, _⟩ => exact Nat.lt_one_iff.mp q.isLt
    rw [hsi, hk]
    show min (BitVec.ofNat 32 k.val).toInt.toNat 7 + 0 + 0 = k.val
    clear hk
    revert k
    decide
  | ⟨2, _⟩ =>
    show GatherDims.start gather_S8x8x64x512_S32x1_S8x32x64x512_023_1_n_n_1_1_8164512 (ix4 h r c w) idx (2 : Fin S8x8x64x512.rank) + 0
      + GatherDims.offCoord gather_S8x8x64x512_S32x1_S8x32x64x512_023_1_n_n_1_1_8164512 (ix4 h r c w) (2 : Fin S8x8x64x512.rank) = _
    unfold GatherDims.start GatherDims.offCoord
    rw [dif_neg (show (2 : Fin S8x8x64x512.rank) ∉ gather_S8x8x64x512_S32x1_S8x32x64x512_023_1_n_n_1_1_8164512.startIndexMap by decide),
      dif_pos (show (2 : Fin S8x8x64x512.rank) ∈ gather_S8x8x64x512_S32x1_S8x32x64x512_023_1_n_n_1_1_8164512.sKept by decide)]
    exact Nat.zero_add _
  | ⟨3, _⟩ =>
    show GatherDims.start gather_S8x8x64x512_S32x1_S8x32x64x512_023_1_n_n_1_1_8164512 (ix4 h r c w) idx (3 : Fin S8x8x64x512.rank) + 0
      + GatherDims.offCoord gather_S8x8x64x512_S32x1_S8x32x64x512_023_1_n_n_1_1_8164512 (ix4 h r c w) (3 : Fin S8x8x64x512.rank) = _
    unfold GatherDims.start GatherDims.offCoord
    rw [dif_neg (show (3 : Fin S8x8x64x512.rank) ∉ gather_S8x8x64x512_S32x1_S8x32x64x512_023_1_n_n_1_1_8164512.startIndexMap by decide),
      dif_pos (show (3 : Fin S8x8x64x512.rank) ∈ gather_S8x8x64x512_S32x1_S8x32x64x512_023_1_n_n_1_1_8164512.sKept by decide)]
    exact Nat.zero_add _

theorem b_apply (h : Fin 8) (r : Fin 32) (c : Fin 64) (w : Fin 512) :
    val_main_v44 (F := Ideal) b (ix4 h r c w) = b (ix4 h (⟨r.val - NaSpec.st r.val, NaSpec.off_lt r⟩ : Fin 8) c w) := by
  unfold val_main_v44
  rw [gather_bias _ _ h r c w ⟨_, NaSpec.off_lt r⟩ (offs r)]

/-- The reference's scores, the window's positions in one axis. -/
theorem s_apply (n h : Fin 8) (r : Fin 32) (c : Fin 64) (w : Fin 512) :
    val_main_v53 (F := Ideal) u b (ix5 n h r c w) = NaSpec.S u b h n r c w := by
  unfold val_main_v53 val_main_v52 val_main_v51 val_main_v50 val_main_v49 val_main_v48 val_main_cst val_main_v47 val_main_v45
  unfold NaSpec.S
  pointwise
  rw [b_apply]
  refine congrArg₂ (· + ·) (congrArg (· * _) (Finset.sum_congr rfl fun x _ => ?_)) rfl
  rw [q_apply, k_apply]
  refine congrArg₂ (· * ·) rfl (congrArg u (congrArg (fun p => ix4 _ _ p _) (Fin.ext ?_)))
  show 64 * (NaSpec.st r.val + w.val / 64) + w.val % 64 = 64 * NaSpec.st r.val + w.val
  omega

/-- The largest score, as the reference's reduction computes it from any scores. -/
theorem fold_apply (x : FVec Ideal S8x8x32x64x512 .f32) (n h : Fin 8) (r : Fin 32) (c : Fin 64) :
    Host.reduce FloatOps.maximumf x (constant (F := Ideal) S_ .f32 0xFF800000#32) reducesTo_S8x8x32x64x512_S8x8x32x64_d4 h_S_ (ix4 n h r c)
      = NaSpec.top (fun w => x (ix5 n h r c w)) := by
  have hr : S8x8x32x64x512.Reduces [4] S8x8x32x64 := by decide
  rw [Host.reduce_eq_fold_single (FloatOps.maximumf (F := Ideal) (φ := .f32)) x _ _ hr]
  have hl : ∀ w : Fin 512, hr.lift (ix4 n h r c) w = ix5 n h r c w := by
    intro w
    funext a
    refine Fin.ext ?_
    match a with
    | ⟨0, _⟩ => rfl
    | ⟨1, _⟩ => rfl
    | ⟨2, _⟩ => rfl
    | ⟨3, _⟩ => rfl
    | ⟨4, _⟩ => rfl
  unfold NaSpec.top
  rw [← NaSpec.neg_inf]
  exact congrArg (Finset.fold max _ · _) (funext fun w => congrArg x (hl w))

theorem m_apply (n h : Fin 8) (r : Fin 32) (c : Fin 64) :
    val_main_v54 (F := Ideal) u b (ix4 n h r c) = NaSpec.top (NaSpec.S u b h n r c) := by
  unfold val_main_v54 val_main_cst_8
  have e : (fun w => val_main_v53 (F := Ideal) u b (ix5 n h r c w)) = NaSpec.S u b h n r c := funext (s_apply u b n h r c)
  rw [← e]
  exact fold_apply (val_main_v53 (F := Ideal) u b) n h r c

/-- The reference's weight of a position. -/
theorem e_apply (n h : Fin 8) (r : Fin 32) (c : Fin 64) (w : Fin 512) :
    val_main_v60 (F := Ideal) u b (ix5 n h r c w) = NaSpec.wt (NaSpec.S u b h n r c) w := by
  rw [val_main_v60_apply, val_main_v59_apply, val_main_v58_apply, val_main_v57_apply, val_main_v56_apply, val_main_v55_apply, val_main_cst_9_apply]
  have hi : idx_main_v57 (idx_main_v58 (ix5 n h r c w)) = ix4 n h r c := by
    funext a
    match a with
    | ⟨0, _⟩ => rfl
    | ⟨1, _⟩ => rfl
    | ⟨2, _⟩ => rfl
    | ⟨3, _⟩ => rfl
  rw [hi, m_apply, s_apply]
  have e : ∀ M : EReal, FloatOps.maximumf (F := Ideal) (φ := .f32) (FloatOps.ofBits .f32 0xFF800000#32) M = M := by
    intro M
    show max (Ideal.ofBits .f32 0xFF800000#32) M = M
    rw [NaSpec.neg_inf, max_eq_right bot_le]
  rw [e]
  rfl

theorem p_apply (n h : Fin 8) (r : Fin 32) (c : Fin 64) (w : Fin 512) :
    val_main_v64 (F := Ideal) u b (ix5 n h r c w)
      = Ideal.div (NaSpec.wt (NaSpec.S u b h n r c) w) (∑ w, NaSpec.wt (NaSpec.S u b h n r c) w) := by
  unfold val_main_v64 val_main_v63 val_main_v62 val_main_v61 val_main_cst_10
  pointwise [e_apply]

theorem o_apply (n h : Fin 8) (r : Fin 32) (c : Fin 64) (d : Fin 128) :
    val_main_v66 (F := Ideal) u b (ix5 n h r c d)
      = ∑ w, Ideal.div (NaSpec.wt (NaSpec.S u b h n r c) w) (∑ w, NaSpec.wt (NaSpec.S u b h n r c) w) * NaSpec.V u h n r d w := by
  unfold val_main_v66 val_main_v65
  pointwise [p_apply, v_apply]
  unfold NaSpec.V
  refine Eq.trans ?_ (NaSpec.sum_win _).symm
  refine Finset.sum_congr rfl fun i _ => Finset.sum_congr rfl fun j _ => ?_
  refine congrArg₂ (· * ·) rfl (congrArg u (congrArg (fun p => ix4 _ _ p _) (Fin.ext ?_)))
  show 64 * (NaSpec.st r.val + i.val) + j.val = 64 * NaSpec.st r.val + (i.val * 64 + j.val)
  omega

theorem out_apply (n : Fin 8) (p : Fin 2048) (l : Fin 1024) :
    val_main_v70 (F := Ideal) u b (ix3 n p l)
      = val_main_v66 (F := Ideal) u b (ix5 n (⟨l.val / 128, by omega⟩ : Fin 8) (⟨p.val / 64, by omega⟩ : Fin 32) (⟨p.val % 64, by omega⟩ : Fin 64) (⟨l.val % 128, by omega⟩ : Fin 128)) := by
  unfold val_main_v70 val_main_v69 val_main_v68 val_main_v67
  pointwise
end Cert.NaRef
-- ==== Proof.NaEq.lean ====
module
public import proofs.«01_k».proof.Proof.NaSpec
public import proofs.«01_k».proof.Pre_scores_finite
/-! # Dividing before the weighted sum is dividing after it

Where the scores are finite, so are the weights, and their sum is positive: dividing by it is multiplying by a
positive finite number, which goes through a sum of extended reals whatever the values are. -/
@[expose] public section
set_option maxRecDepth 16384
noncomputable section
namespace Cert.NaSpec
open Idealize.ShloMosaic

/-- A finite extended real. -/
def IsFin (x : EReal) : Prop := ∃ r : ℝ, x = (r : EReal)

theorem IsFin.mul {x y : EReal} : IsFin x → IsFin y → IsFin (x * y) := by
  rintro ⟨a, rfl⟩ ⟨b, rfl⟩; exact ⟨a * b, by norm_cast⟩
theorem IsFin.add {x y : EReal} : IsFin x → IsFin y → IsFin (x + y) := by
  rintro ⟨a, rfl⟩ ⟨b, rfl⟩; exact ⟨a + b, by norm_cast⟩
theorem IsFin.sum {ι : Type} (s : Finset ι) (f : ι → EReal) (h : ∀ i, IsFin (f i)) : IsFin (∑ i ∈ s, f i) := by
  classical
  induction s using Finset.induction_on with
  | empty => exact ⟨0, by simp⟩
  | insert a s ha ih => rw [Finset.sum_insert ha]; exact (h a).add ih

theorem sum_mul_pos {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top _) _ _

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih]; norm_cast

theorem wt_real {n : Nat} (S : Fin (n + 1) → EReal) (h : ∀ w, IsFin (S w)) :
    ∃ p : Fin (n + 1) → ℝ, (∀ w, wt S w = (p w : EReal)) ∧ ∀ w, 0 < p w := by
  choose s hs using h
  obtain ⟨w0, _, hw⟩ := Finset.exists_mem_eq_sup (Finset.univ : Finset (Fin (n + 1))) Finset.univ_nonempty S
  have ht : top S = (s w0 : EReal) := (show top S = Finset.univ.sup S from rfl).trans (hw.trans (hs w0))
  refine ⟨fun w => Real.exp (s w - s w0), fun w => ?_, fun w => Real.exp_pos _⟩
  unfold wt
  rw [ht, hs w, ← EReal.coe_sub]
  rfl

/-- The two orders agree. -/
theorem soft_eq {n : Nat} (S V : Fin (n + 1) → EReal) (h : ∀ w, IsFin (S w)) :
    softOut S V = ∑ w, Ideal.div (wt S w) (∑ w, wt S w) * V w := by
  obtain ⟨p, hp, hpos⟩ := wt_real S h
  have hsum : ∑ w, wt S w = ((∑ w, p w : ℝ) : EReal) := by
    rw [← coe_sum]; exact Finset.sum_congr rfl fun w _ => hp w
  have hP : 0 < ∑ w, p w := Finset.sum_pos (fun w _ => hpos w) Finset.univ_nonempty
  have hne : ((∑ w, p w : ℝ) : EReal) ≠ 0 := by exact_mod_cast hP.ne'
  have hdiv : ∀ x : EReal, Ideal.div x ((∑ w, p w : ℝ) : EReal) = x * (((∑ w, p w)⁻¹ : ℝ) : EReal) := by
    intro x
    unfold Ideal.div
    rw [if_neg hne, EReal.coe_inv]
  unfold softOut
  rw [hsum, hdiv, sum_mul_pos _ _ _ (inv_nonneg.mpr hP.le)]
  refine Finset.sum_congr rfl fun w _ => ?_
  rw [hdiv, mul_right_comm]

theorem scale_fin : IsFin (Ideal.ofBits .f32 0x3DB504F3#32) := by
  refine ⟨(Ideal.ofBits .f32 0x3DB504F3#32).toReal, (EReal.coe_toReal ?_ ?_).symm⟩
  · simp only [Ideal.ofBits, Ideal.ieee]
    simp
    rw [← EReal.coe_mul]; exact EReal.coe_ne_top _
  · simp only [Ideal.ofBits, Ideal.ieee]
    simp
    rw [← EReal.coe_mul]; exact EReal.coe_ne_bot _

theorem pos_inf : Ideal.ofBits .f32 0x7F800000#32 = ⊤ := by simp [Ideal.ofBits, Ideal.ieee]

theorem fin_of_test {x : EReal} (h : BitVec.ofBool (decide (FloatOps.absf (F := Ideal) (φ := .f32) x < Ideal.ofBits .f32 0x7F800000#32)) = 1#1) :
    IsFin x := by
  rw [pos_inf] at h
  by_cases hx : max x (-x) < ⊤
  · have h1 : x ≠ ⊤ := fun e => by simp [e] at hx
    have h2 : x ≠ ⊥ := fun e => by simp [e] at hx
    exact ⟨x.toReal, (EReal.coe_toReal h1 h2).symm⟩
  · exfalso
    have e : decide (FloatOps.absf (F := Ideal) (φ := .f32) x < (⊤ : EReal)) = false := decide_eq_false hx
    rw [e] at h
    exact absurd h (by decide)

/-- The scores are finite where the queries, the keys and the bias are. -/
theorem S_fin (u : FVec Ideal U .bf16) (b : FVec Ideal B .f32)
    (hu : ∀ (k : Fin 16) (n : Fin 8) (p : Fin 2048) (d : Fin 128), IsFin (u (ix4 (⟨k.val, by omega⟩ : Fin 60) n p d)))
    (hb : ∀ (h o : Fin 8) (c : Fin 64) (w : Fin 512), IsFin (b (ix4 h o c w)))
    (h n : Fin 8) (r : Fin 32) (c : Fin 64) (w : Fin 512) : IsFin (S u b h n r c w) := by
  unfold S
  refine IsFin.add (IsFin.mul (IsFin.sum _ _ fun d => IsFin.mul ?_ ?_) scale_fin) (hb _ _ _ _)
  · exact hu ⟨h.val, by omega⟩ n _ d
  · exact hu ⟨8 + h.val, by omega⟩ n _ d

variable [Cert.Pre_scores_finite.Facts]

theorem pre_u (u : FVec Ideal U .bf16) (b : FVec Ideal B .f32)
    (h : (Cert.Pre_scores_finite.fn (F := Ideal) u b).1 = fun _ => 1#1)
    (k : Fin 16) (n : Fin 8) (p : Fin 2048) (d : Fin 128) : IsFin (u (ix4 (⟨k.val, by omega⟩ : Fin 60) n p d)) := by
  have h1 := congrFun h (ix4 k n p d)
  pointwise [Cert.Pre_scores_finite.fn] at h1
  exact fin_of_test h1

theorem pre_b (u : FVec Ideal U .bf16) (b : FVec Ideal B .f32)
    (h : (Cert.Pre_scores_finite.fn (F := Ideal) u b).2 = fun _ => 1#1)
    (k o : Fin 8) (p : Fin 64) (d : Fin 512) : IsFin (b (ix4 k o p d)) := by
  have h1 := congrFun h (ix4 k o p d)
  pointwise [Cert.Pre_scores_finite.fn] at h1
  exact fin_of_test h1

end Cert.NaSpec
-- ==== Proof.FfnRun.lean ====
/- The derived facts of the four projections, together. -/
module

public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.Res
public import proofs.«01_k».proof.Proof.Gen.Res.Skeleton
public import proofs.«01_k».proof.Proof.Gen.Res.Launch
public import proofs.«01_k».proof.Proof.Gen.Res.Points
public import proofs.«01_k».proof.Proof.Gen.Res.Frame
public import proofs.«01_k».proof.Proof.Gen.ResIdeal
public import proofs.«01_k».proof.Proof.Gen.ResIdeal.Skeleton
public import proofs.«01_k».proof.Proof.Gen.ResIdeal.Launch
public import proofs.«01_k».proof.Proof.Gen.ResIdeal.Points
public import proofs.«01_k».proof.Proof.Gen.ResIdeal.Frame
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.ResRefIdeal
public import proofs.«01_k».proof.Proof.Gen.ResRefIdeal.Run
public import proofs.«01_k».proof.Proof.Gen.ResRefIdeal.Read
public import proofs.«01_k».proof.Proof.Gen.MixInRefIdeal
public import proofs.«01_k».proof.Proof.Gen.MixInRefIdeal.Run
public import proofs.«01_k».proof.Proof.Gen.MixInRefIdeal.Read
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.ResIdeal.Value
public import proofs.«01_k».proof.Proof.Gen.MixOutIdeal.Value
-- ==== Proof.FinalRun.lean ====
/- The derived facts of the last norm, together. -/
module

public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalRefIdeal
public import proofs.«01_k».proof.Proof.Gen.FinalRefIdeal.Run
public import proofs.«01_k».proof.Proof.Gen.FinalRefIdeal.Read
public import proofs.«01_k».proof.Proof.Gen.FinalIdeal.Value
-- ==== Proof.SwaRun.lean ====
/- The derived facts of the windowed attention, together. -/
module

public import proofs.«01_k».proof.Proof.Gen.Swa
public import proofs.«01_k».proof.Proof.Gen.Swa.Skeleton
public import proofs.«01_k».proof.Proof.Gen.Swa.Launch
public import proofs.«01_k».proof.Proof.Gen.Swa.Points
public import proofs.«01_k».proof.Proof.Gen.Swa.Frame
public import proofs.«01_k».proof.Proof.Gen.SwaIdeal
public import proofs.«01_k».proof.Proof.Gen.SwaIdeal.Skeleton
public import proofs.«01_k».proof.Proof.Gen.SwaIdeal.Launch
public import proofs.«01_k».proof.Proof.Gen.SwaIdeal.Points
public import proofs.«01_k».proof.Proof.Gen.SwaIdeal.Frame
public import proofs.«01_k».proof.Proof.Gen.SwaRefIdeal
public import proofs.«01_k».proof.Proof.Gen.SwaRefIdeal.Run
public import proofs.«01_k».proof.Proof.Gen.SwaRefIdeal.Read
public import proofs.«01_k».proof.Proof.Gen.SwaIdeal.Value
-- ==== Proof.SwaPieces.lean ====
module
public import proofs.«01_k».proof.Proof.Gen.SwaIdeal.Value
/-! # What one block of the windowed attention stores, head by head

One block is four heads of one sequence.  Its loop makes eight trips; each trip takes two blocks of 128 queries and
writes, for each of them, the four heads' columns.  The four heads' queries are stacked and share the keys and values. -/
@[expose] public section
set_option maxRecDepth 16384
noncomputable section
namespace Cert.SwaRow
open Cert.SwaIdeal Cert.SwaIdeal.Gen
open Idealize.ShloMosaic Idealize.ShloMosaic.TcCoe Idealize.ShloMosaic.Tactic
variable {F : FTy → Type} [FloatOps F]

/-- The masked scores of one head, from the stacked products and the distances. -/
def sc (g : Fin 4) (s : FVec F S512x384 .f32) (a : IVec S128x384 32) (sl : Elt F .f32) : FVec F S128x384 .f32 :=
  match g with
  | 0 => k0_pay9 s a k0_pay6 sl
  | 1 => k0_pay14 s a k0_pay6 sl
  | 2 => k0_pay22 s (k0_pay7 a k0_pay6) (k0_pay8 a) sl
  | 3 => k0_pay27 s (k0_pay7 a k0_pay6) (k0_pay8 a) sl

/-- One head's columns of the stacked weighted values, gated. -/
def outv (g : Fin 4) (v : FVec F S384x128 .bf16) (t : FVec F S128x1 .f32) (p : FVec F S512x384 .bf16) : FVec F S1x128x128 .bf16 :=
  match g with
  | 0 => k0_pay59 v t p
  | 1 => k0_pay60 v t p
  | 2 => k0_pay61 v t p
  | 3 => k0_pay63 (k0_pay62 v t p)

/-- What is stored for one head of one block of queries. -/
def headOut (g : Fin 4) (s : FVec F S512x384 .f32) (a : IVec S128x384 32) (v : Vec F S1x1x384x128 .bf16)
    (sl : Fin 4 → Elt F .f32) (k : Elt F .f32) : FVec F S1x128x128 .bf16 :=
  outv g (k0_pay1 v) (k0_pay45 (sc g s a (sl g)) k)
    (k0_pay33 (k0_pay46 (sc 0 s a (sl 0))) (k0_pay46 (sc 1 s a (sl 1))) (k0_pay46 (sc 2 s a (sl 2))) (k0_pay44 (sc 3 s a (sl 3))))

/-- Where a block of queries begins, and where its window does. -/
def qAt (k : Fin k0_t1_loop.trips) (b : Fin 2) : BitVec 32 :=
  Scalar.muli (Scalar.addi (Scalar.muli (Scf.iv 0#32 1#32 k) 2#32) (BitVec.ofNat 32 b.val)) 128#32
def wAt (k : Fin k0_t1_loop.trips) (b : Fin 2) : BitVec 32 :=
  Scalar.minsi 1664#32 (Scalar.maxsi 0#32 (Scalar.subi (qAt k b) 128#32))

/-- Where a head's columns of a block are stored. -/
def offO (k : Fin k0_t1_loop.trips) (b : Fin 2) (g : Fin 4) : Fin 3 → Nat :=
  match g with
  | 0 => k0_off7 k (BitVec.ofNat 32 b.val)
  | 1 => k0_off8 k (BitVec.ofNat 32 b.val)
  | 2 => k0_off9 k (BitVec.ofNat 32 b.val)
  | 3 => k0_off10 k (BitVec.ofNat 32 b.val)

theorem offO_inb (k : Fin k0_t1_loop.trips) (b : Fin 2) (g : Fin 4) : ∀ a, offO k b g a + S1x128x128.size a ≤ S1x2048x512.size a :=
  match g with
  | 0 => k0_off7_inb k b
  | 1 => k0_off8_inb k b
  | 2 => k0_off9_inb k b
  | 3 => k0_off10_inb k b

section Trip
variable (arg2 : Memref sig .tc .smem S8 .f32) (arg3 : Memref sig .tc .smem S8 .f32)
  (arg4 : Memref sig .tc .vmem S4x1x2048x128 .bf16) (arg5 : Memref sig .tc .vmem S1x1x2048x128 .bf16)
  (arg6 : Memref sig .tc .vmem S1x1x2048x128 .bf16)
  (X2 : BufTy.Contents (Elt F) arg2.view.ty) (X3 : BufTy.Contents (Elt F) arg3.view.ty)
  (X4 : BufTy.Contents (Elt F) arg4.view.ty) (X5 : BufTy.Contents (Elt F) arg5.view.ty)
  (X6 : BufTy.Contents (Elt F) arg6.view.ty)
  (i : grid0.Coords) (v0 v1 : IVec S128x384 32) (k : Fin k0_t1_loop.trips)

/-- A head's entry of one of the two short vectors. -/
def at1 (arg : Memref sig .tc .smem S8 .f32) (X : BufTy.Contents (Elt F) arg.view.ty) (g : Fin 4) : Elt F .f32 :=
  arg.view.readAt (Elt F) (Rect.unit (s := S8) (k0_off6 i (BitVec.ofNat 32 g.val)) S1.size (k0_off6_inb i g)).toLoadRect X
    (Shape.Idx.first (show 0 < S1.numel by decide))

/-- The stacked products of block `b` of trip `k`. -/
def prods (b : Fin 2) : FVec F S512x384 .f32 :=
  k0_pay2
    (arg5.view.readAt (Elt F) (Rect.unit (s := S1x1x2048x128) (k0_off1 k (BitVec.ofNat 32 b.val)) S1x1x384x128.size (k0_off1_inb k b)).toLoadRect X5)
    (arg4.view.readAt (Elt F) (Rect.unit (s := S4x1x2048x128) (k0_off2 k (BitVec.ofNat 32 b.val)) S1x1x128x128.size (k0_off2_inb k b)).toLoadRect X4)
    (arg4.view.readAt (Elt F) (Rect.unit (s := S4x1x2048x128) (k0_off3 k (BitVec.ofNat 32 b.val)) S1x1x128x128.size (k0_off3_inb k b)).toLoadRect X4)
    (arg4.view.readAt (Elt F) (Rect.unit (s := S4x1x2048x128) (k0_off4 k (BitVec.ofNat 32 b.val)) S1x1x128x128.size (k0_off4_inb k b)).toLoadRect X4)
    (arg4.view.readAt (Elt F) (Rect.unit (s := S4x1x2048x128) (k0_off5 k (BitVec.ofNat 32 b.val)) S1x1x128x128.size (k0_off5_inb k b)).toLoadRect X4)

/-- The piece of head `g` of block `b` of trip `k`. -/
def headPiece (b : Fin 2) (g : Fin 4) : View.Piece (Elt F) S1x2048x512 .bf16 :=
  ⟨Rect.unit (s := S1x2048x512) (offO k b g) S1x128x128.size (offO_inb k b g),
   headOut g (prods arg4 arg5 X4 X5 k b) (k0_pay5 v0 v1 (qAt k b) (wAt k b))
     (arg6.view.readAt (Elt F) (Rect.unit (s := S1x1x2048x128) (k0_off1 k (BitVec.ofNat 32 b.val)) S1x1x384x128.size (k0_off1_inb k b)).toLoadRect X6)
     (at1 i arg2 X2) (at1 i arg3 X3 g)⟩

/-- A trip's pieces, the last one first. -/
theorem trip_pieces (𝒱 : Variants) (c : Dev nD) (bd : Option 𝒱.V) (harg2 : arg2.IsWhole) (harg3 : arg3.IsWhole)
    (harg4 : arg4.IsWhole) (harg5 : arg5.IsWhole) (harg6 : arg6.IsWhole) (arg7 : Memref sig .tc .vmem S1x2048x512 .bf16) (harg7 : arg7.IsWhole)
    (arg1 : BitVec 32) :
    tripL_k0_t1 (F := F) 𝒱 c bd i arg2 harg2 arg3 harg3 arg4 harg4 arg5 harg5 arg6 harg6 arg7 harg7 arg1 v0 v1 X2 X3 X4 X5 X6 k
      = [headPiece arg2 arg3 arg4 arg5 arg6 X2 X3 X4 X5 X6 i v0 v1 k 1 3, headPiece arg2 arg3 arg4 arg5 arg6 X2 X3 X4 X5 X6 i v0 v1 k 1 2,
         headPiece arg2 arg3 arg4 arg5 arg6 X2 X3 X4 X5 X6 i v0 v1 k 1 1, headPiece arg2 arg3 arg4 arg5 arg6 X2 X3 X4 X5 X6 i v0 v1 k 1 0,
         headPiece arg2 arg3 arg4 arg5 arg6 X2 X3 X4 X5 X6 i v0 v1 k 0 3, headPiece arg2 arg3 arg4 arg5 arg6 X2 X3 X4 X5 X6 i v0 v1 k 0 2,
         headPiece arg2 arg3 arg4 arg5 arg6 X2 X3 X4 X5 X6 i v0 v1 k 0 1, headPiece arg2 arg3 arg4 arg5 arg6 X2 X3 X4 X5 X6 i v0 v1 k 0 0] := by
  unfold tripL_k0_t1 trip_k0_t1
  rfl

/-- Every piece of the loop's first trips is a head's piece of one of the trips. -/
theorem loop_piece (𝒱 : Variants) (c : Dev nD) (bd : Option 𝒱.V) (harg2 : arg2.IsWhole) (harg3 : arg3.IsWhole)
    (harg4 : arg4.IsWhole) (harg5 : arg5.IsWhole) (harg6 : arg6.IsWhole) (arg7 : Memref sig .tc .vmem S1x2048x512 .bf16) (harg7 : arg7.IsWhole)
    (arg1 : BitVec 32) (n : ℕ) (hn : n ≤ k0_t1_loop.trips) (p : View.Piece (Elt F) S1x2048x512 .bf16)
    (hp : p ∈ pb_k0_t1 (F := F) 𝒱 c bd i arg2 harg2 arg3 harg3 arg4 harg4 arg5 harg5 arg6 harg6 arg7 harg7 arg1 v0 v1 X2 X3 X4 X5 X6 n) :
    ∃ (k : Fin k0_t1_loop.trips) (b : Fin 2) (g : Fin 4), p = headPiece arg2 arg3 arg4 arg5 arg6 X2 X3 X4 X5 X6 i v0 v1 k b g := by
  induction n with
  | zero => simp [pb_k0_t1] at hp
  | succ n ih =>
    rw [pb_k0_t1_succ (F := F) 𝒱 c bd i arg2 harg2 arg3 harg3 arg4 harg4 arg5 harg5 arg6 harg6 arg7 harg7 arg1 v0 v1 X2 X3 X4 X5 X6 ⟨n, hn⟩,
      List.mem_append] at hp
    rcases hp with hp | hp
    · rw [trip_pieces] at hp
      simp only [List.mem_cons, List.not_mem_nil, or_false] at hp
      rcases hp with h | h | h | h | h | h | h | h <;> exact ⟨_, _, _, h⟩
    · exact ih (Nat.le_of_succ_le hn) hp

end Trip
end Cert.SwaRow
end
-- ==== Proof.SwaSpec.lean ====
module
public import proofs.«01_k».proof.Proof.NaSpec
/-! # The windowed attention as a formula over the extended reals

The queries come in sixteen blocks of 128.  Block `i` attends to the 384 positions from `st i` on; a position further
away than 128 gets the one large negative score. -/
@[expose] public section
noncomputable section
namespace Cert.SwaSpec
open Idealize.ShloMosaic
open Cert.NaSpec (top wt)

theorem exp_nonneg (x : EReal) : 0 ≤ Ideal.exp x := by
  induction x with
  | bot => simp
  | top => simp
  | coe r => simpa using (Real.exp_pos r).le

theorem wt_nonneg {n : Nat} (S : Fin n → EReal) (w : Fin n) : 0 ≤ wt S w := exp_nonneg _

/-- The gate before it is divided: the sigmoid of the log of the sum of the exponentials, less the sink. -/
def gate {n : Nat} (S : Fin n → EReal) (k : EReal) : EReal := Ideal.logistic (top S + Ideal.log (∑ w, wt S w) - k)

/-- The weighted values times the gate over the sum of the weights. -/
def gated {n : Nat} (S V : Fin n → EReal) (k : EReal) : EReal :=
  (∑ w, wt S w * V w) * Ideal.div (gate S k) (∑ w, wt S w)

/-- Dividing the weighted values, then gating, is the same. -/
theorem gated_eq {n : Nat} (S V : Fin n → EReal) (k : EReal) :
    Ideal.div (∑ w, wt S w * V w) (∑ w, wt S w) * gate S k = gated S V k := by
  unfold gated
  by_cases h : ∑ w, wt S w = 0
  · have hz : ∀ w, wt S w = 0 := fun w =>
      (Finset.sum_eq_zero_iff_of_nonneg (fun w _ => wt_nonneg S w)).mp h w (Finset.mem_univ w)
    have hs : ∑ w, wt S w * V w = 0 := Finset.sum_eq_zero fun w _ => by rw [hz w, zero_mul]
    have hl : Ideal.log 0 = ⊥ := by
      have := Ideal.log_coe (r := 0)
      simpa using this
    have hg : gate S k = 0 := by
      unfold gate
      rw [h, hl, EReal.add_bot, sub_eq_add_neg, EReal.bot_add, Ideal.logistic_bot]
    rw [hs, hg, zero_mul, mul_zero]
  · unfold Ideal.div
    rw [if_neg h, if_neg h, mul_assoc, mul_comm (gate S k)]

/-- The first position of block `i`'s window. -/
def st (i : Nat) : Nat := 128 * min (i - 1) 13

theorem st_le (i : Nat) : st i ≤ 1664 := by unfold st; omega

theorem win_lt (i : Nat) (w : Fin 384) : st i + w.val < 2048 := by
  have := w.isLt; have := st_le i; omega

theorem pos_lt (i : Fin 16) (r : Fin 128) : 128 * i.val + r.val < 2048 := by
  have := r.isLt; have := i.isLt; omega

/-- How far the window's position `w` is from the block's query `r`. -/
def far (i r w : Nat) : BitVec 32 :=
  IntOp.absi (IntOp.subi (BitVec.ofNat 32 (st i + w)) (BitVec.ofNat 32 (128 * i + r)))

/-- The score of a pair: the product less the head's slope times the distance, or the large negative score. -/
def score (x sl : EReal) (a : BitVec 32) : EReal :=
  Scalar.select (IntOp.cmpi .sle a 128#32) (x * Ideal.ofBits .f32 0x3DB504F3#32 - sl * FloatOps.sitofp (F := Ideal) .f32 a)
    (Ideal.ofBits .f32 0xF149F2CA#32)

theorem far_eq (i r w : Nat) :
    IntOp.absi (IntOp.addi (IntOp.subi (BitVec.ofNat 32 w) (BitVec.ofNat 32 r)) (Scalar.subi (BitVec.ofNat 32 (st i)) (BitVec.ofNat 32 (128 * i))))
      = far i r w := by
  unfold far
  refine congrArg IntOp.absi ?_
  show (BitVec.ofNat 32 w - BitVec.ofNat 32 r) + (BitVec.ofNat 32 (st i) - BitVec.ofNat 32 (128 * i))
    = BitVec.ofNat 32 (st i + w) - BitVec.ofNat 32 (128 * i + r)
  rw [BitVec.ofNat_add, BitVec.ofNat_add]
  generalize BitVec.ofNat 32 w = a
  generalize BitVec.ofNat 32 r = b
  generalize BitVec.ofNat 32 (st i) = c
  generalize BitVec.ofNat 32 (128 * i) = d
  rw [BitVec.sub_eq_add_neg, BitVec.sub_eq_add_neg, BitVec.sub_eq_add_neg, BitVec.neg_add, BitVec.sub_eq_add_neg]
  ac_rfl

abbrev U : Shape := ⟨4, ![60, 8, 2048, 128]⟩
abbrev H : Shape := ⟨1, ![8]⟩
abbrev O : Shape := ⟨3, ![8, 2048, 1024]⟩

/-- The scores of a query (sequence `n`, head `h`, block `i`, query `r`) over its window. -/
def S (u : FVec Ideal U .bf16) (sl : FVec Ideal H .f32) (n h : Fin 8) (i : Fin 16) (r : Fin 128) (w : Fin 384) : EReal :=
  score (∑ d : Fin 128, u (ix4 (⟨24 + h.val, by omega⟩ : Fin 60) n (⟨128 * i.val + r.val, pos_lt i r⟩ : Fin 2048) d)
      * u (ix4 (⟨32 + h.val / 4, by omega⟩ : Fin 60) n (⟨st i.val + w.val, win_lt i.val w⟩ : Fin 2048) d))
    (sl (ix1 h)) (far i.val r.val w.val)

/-- The value at position `w` of a window, in lane `d`. -/
def V (u : FVec Ideal U .bf16) (n h : Fin 8) (i : Fin 16) (d : Fin 128) (w : Fin 384) : EReal :=
  u (ix4 (⟨34 + h.val / 4, by omega⟩ : Fin 60) n (⟨st i.val + w.val, win_lt i.val w⟩ : Fin 2048) d)

/-- The attention's result, an array: sequence, position, and the head's lane. -/
def out (u : FVec Ideal U .bf16) (sl sk : FVec Ideal H .f32) : FVec Ideal O .bf16 := fun y =>
  gated (S u sl (y 0) (⟨(y 2).val / 128, by have : (y 2).val < 1024 := (y 2).isLt; omega⟩ : Fin 8)
      (⟨(y 1).val / 128, by have : (y 1).val < 2048 := (y 1).isLt; omega⟩ : Fin 16)
      (⟨(y 1).val % 128, by omega⟩ : Fin 128))
    (V u (y 0) (⟨(y 2).val / 128, by have : (y 2).val < 1024 := (y 2).isLt; omega⟩ : Fin 8)
      (⟨(y 1).val / 128, by have : (y 1).val < 2048 := (y 1).isLt; omega⟩ : Fin 16)
      (⟨(y 2).val % 128, by omega⟩ : Fin 128))
    (sk (ix1 (⟨(y 2).val / 128, by have : (y 2).val < 1024 := (y 2).isLt; omega⟩ : Fin 8)))

end Cert.SwaSpec
-- ==== Proof.SwaBlock.lean ====
module
public import proofs.«01_k».proof.Proof.SwaPieces
public import proofs.«01_k».proof.Proof.SwaSpec
public import Idealize.ShloMosaic.Lib.Pipeline.ValueKit
/-! # One head of one block of queries, over the extended reals -/
@[expose] public section
set_option maxRecDepth 16384
noncomputable section
namespace Cert.SwaRow
open Cert.SwaIdeal Cert.SwaIdeal.Gen
open Idealize.ShloMosaic
open Cert.SwaSpec (st far score gated)

theorem row_lt (n : ℕ) (h : n ≤ 384) (r : Fin 128) : n + r.val < 512 := by omega

theorem back2 (r : Fin 128) (h : 256 + r.val - 128 - 128 < 128) : (⟨256 + r.val - 128 - 128, h⟩ : Fin 128) = r :=
  Fin.ext (by show 256 + r.val - 128 - 128 = r.val; omega)
theorem back3 (r : Fin 128) (h : 384 + r.val - 128 - 128 - 128 < 128) : (⟨384 + r.val - 128 - 128 - 128, h⟩ : Fin 128) = r :=
  Fin.ext (by show 384 + r.val - 128 - 128 - 128 = r.val; omega)

/-- A head's masked score, from the stacked products. -/
theorem sc_apply (g : Fin 4) (s : FVec Ideal S512x384 .f32) (v0 v1 : IVec S128x384 32) (p q : BitVec 32) (sl : EReal)
    (r : Fin 128) (w : Fin 384) (y : Fin 512) (hy : y.val = 128 * g.val + r.val) :
    sc (F := Ideal) g s (k0_pay5 v0 v1 p q) sl (ix2 r w)
      = Scalar.select (IntOp.cmpi .sle (IntOp.absi (IntOp.addi (IntOp.subi (v1 (ix2 r w)) (v0 (ix2 r w))) (Scalar.subi q p))) 128#32)
        (s (ix2 y w) - sl * FloatOps.sitofp (F := Ideal) .f32 (IntOp.absi (IntOp.addi (IntOp.subi (v1 (ix2 r w)) (v0 (ix2 r w))) (Scalar.subi q p))))
        (Ideal.ofBits .f32 0xF149F2CA#32) := by
  match g with
  | 0 =>
    obtain rfl : y = ⟨r.val, r.isLt.trans (by decide)⟩ := Fin.ext (by rw [hy]; exact Nat.zero_add _)
    unfold sc
    pointwise [k0_pay9, k0_pay5, k0_pay6, k0_pay7, k0_pay8]
  | 1 =>
    obtain rfl : y = ⟨128 + r.val, row_lt 128 (by decide) r⟩ := Fin.ext hy
    unfold sc
    pointwise [k0_pay14, k0_pay5, k0_pay6, k0_pay7, k0_pay8]
  | 2 =>
    obtain rfl : y = ⟨256 + r.val, row_lt 256 (by decide) r⟩ := Fin.ext hy
    unfold sc
    pointwise [k0_pay22, k0_pay5, k0_pay6, k0_pay7, k0_pay8]
  | 3 =>
    obtain rfl : y = ⟨384 + r.val, row_lt 384 (by decide) r⟩ := Fin.ext hy
    unfold sc
    pointwise [k0_pay27, k0_pay5, k0_pay6, k0_pay7, k0_pay8]

/-- The stacked products at a head's row. -/
theorem pay2_apply (g : Fin 4) (k : Vec Ideal S1x1x384x128 .bf16) (q : Fin 4 → Vec Ideal S1x1x128x128 .bf16)
    (r : Fin 128) (w : Fin 384) (y : Fin 512) (hy : y.val = 128 * g.val + r.val) :
    k0_pay2 (F := Ideal) k (q 0) (q 1) (q 2) (q 3) (ix2 y w)
      = (∑ x : Fin 128, q g (ix4 0 0 r x) * k (ix4 0 0 w x)) * Ideal.ofBits .f32 0x3DB504F3#32 := by
  generalize h0 : q 0 = q0
  generalize h1 : q 1 = q1
  generalize h2 : q 2 = q2
  generalize h3 : q 3 = q3
  match g with
  | 0 =>
    obtain rfl : y = ⟨r.val, r.isLt.trans (by decide)⟩ := Fin.ext (by rw [hy]; exact Nat.zero_add _)
    rw [h0]
    pointwise [k0_pay2]
  | 1 =>
    obtain rfl : y = ⟨128 + r.val, row_lt 128 (by decide) r⟩ := Fin.ext hy
    rw [h1]
    pointwise [k0_pay2]
  | 2 =>
    obtain rfl : y = ⟨256 + r.val, row_lt 256 (by decide) r⟩ := Fin.ext hy
    rw [h2]
    pointwise [k0_pay2]
    simp only [dif_neg (show ¬ 256 + r.val < 128 by omega), dif_neg (show ¬ 256 + r.val - 128 < 128 by omega), dif_pos (show 256 + r.val - 128 - 128 < 128 by omega), back2 r]
  | 3 =>
    obtain rfl : y = ⟨384 + r.val, row_lt 384 (by decide) r⟩ := Fin.ext hy
    rw [h3]
    pointwise [k0_pay2]
    simp only [dif_neg (show ¬ 384 + r.val < 128 by omega), dif_neg (show ¬ 384 + r.val - 128 < 128 by omega), dif_neg (show ¬ 384 + r.val - 128 - 128 < 128 by omega), back3 r]

theorem exp_apply (s : FVec Ideal S128x384 .f32) (c : Fin 128) (w : Fin 384) :
    k0_pay44 s (ix2 c w) = NaSpec.wt (fun w => s (ix2 c w)) w := by
  pointwise [k0_pay44, k0_pay43, NaSpec.wt, NaSpec.top]
  rw [NaSpec.neg_inf]

theorem gate_apply (s : FVec Ideal S128x384 .f32) (k : EReal) (r : Fin 128) :
    k0_pay45 (F := Ideal) s k (ix2 r 0)
      = Ideal.div (SwaSpec.gate (fun w => s (ix2 r w)) k) (∑ w, NaSpec.wt (fun w => s (ix2 r w)) w) := by
  pointwise [k0_pay45, k0_pay43, exp_apply, SwaSpec.gate, NaSpec.top]
  rw [NaSpec.neg_inf]

theorem outv_apply (g : Fin 4) (v : Vec Ideal S1x1x384x128 .bf16) (t : FVec Ideal S128x1 .f32) (s : Fin 4 → FVec Ideal S128x384 .f32)
    (r d : Fin 128) :
    outv (F := Ideal) g (k0_pay1 v) t (k0_pay33 (k0_pay46 (s 0)) (k0_pay46 (s 1)) (k0_pay46 (s 2)) (k0_pay44 (s 3))) (ix3 0 r d)
      = (∑ w : Fin 384, NaSpec.wt (fun w => s g (ix2 r w)) w * v (ix4 0 0 w d)) * t (ix2 r 0) := by
  generalize h0 : s 0 = s0
  generalize h1 : s 1 = s1
  generalize h2 : s 2 = s2
  generalize h3 : s 3 = s3
  match g with
  | 0 =>
    rw [h0]
    unfold outv
    pointwise [k0_pay59, k0_pay58, k0_pay1, k0_pay33, k0_pay46, exp_apply]
  | 1 =>
    rw [h1]
    unfold outv
    pointwise [k0_pay60, k0_pay58, k0_pay1, k0_pay33, k0_pay46, exp_apply]
  | 2 =>
    rw [h2]
    unfold outv
    pointwise [k0_pay61, k0_pay58, k0_pay1, k0_pay33, k0_pay46, exp_apply]
    simp only [dif_neg (show ¬ 256 + r.val < 128 by omega), dif_neg (show ¬ 256 + r.val - 128 < 128 by omega), dif_pos (show 256 + r.val - 128 - 128 < 128 by omega), back2 r]
  | 3 =>
    rw [h3]
    unfold outv
    pointwise [k0_pay63, k0_pay62, k0_pay58, k0_pay1, k0_pay33, k0_pay46, exp_apply]
    simp only [dif_neg (show ¬ 384 + r.val < 128 by omega), dif_neg (show ¬ 384 + r.val - 128 < 128 by omega), dif_neg (show ¬ 384 + r.val - 128 - 128 < 128 by omega), back3 r]

theorem headOut_apply (g : Fin 4) (s : FVec Ideal S512x384 .f32) (a : IVec S128x384 32) (v : Vec Ideal S1x1x384x128 .bf16)
    (sl : Fin 4 → EReal) (k : EReal) (r d : Fin 128) :
    headOut (F := Ideal) g s a v sl k (ix3 0 r d)
      = gated (fun w => sc (F := Ideal) g s a (sl g) (ix2 r w)) (fun w => v (ix4 0 0 w d)) k := by
  unfold headOut gated
  rw [outv_apply g v _ (fun g => sc (F := Ideal) g s a (sl g)) r d, gate_apply]

theorem off1_eq : ∀ (k : Fin k0_t1_loop.trips) (b : Fin 2),
    k0_off1 k (BitVec.ofNat 32 b.val) = ![0, 0, st (2 * k.val + b.val), 0] := by decide +kernel
theorem off2_eq : ∀ (k : Fin k0_t1_loop.trips) (b : Fin 2),
    k0_off2 k (BitVec.ofNat 32 b.val) = ![0, 0, 128 * (2 * k.val + b.val), 0] := by decide +kernel
theorem off3_eq : ∀ (k : Fin k0_t1_loop.trips) (b : Fin 2),
    k0_off3 k (BitVec.ofNat 32 b.val) = ![1, 0, 128 * (2 * k.val + b.val), 0] := by decide +kernel
theorem off4_eq : ∀ (k : Fin k0_t1_loop.trips) (b : Fin 2),
    k0_off4 k (BitVec.ofNat 32 b.val) = ![2, 0, 128 * (2 * k.val + b.val), 0] := by decide +kernel
theorem off5_eq : ∀ (k : Fin k0_t1_loop.trips) (b : Fin 2),
    k0_off5 k (BitVec.ofNat 32 b.val) = ![3, 0, 128 * (2 * k.val + b.val), 0] := by decide +kernel
theorem off6_eq : ∀ (i : grid0.Coords) (g : Fin 4),
    k0_off6 i (BitVec.ofNat 32 g.val) = ![4 * (i 1).val + g.val] := by decide +kernel
theorem offO_eq : ∀ (k : Fin k0_t1_loop.trips) (b : Fin 2) (g : Fin 4),
    offO k b g = ![0, 128 * (2 * k.val + b.val), 128 * g.val] := by decide +kernel
theorem qAt_eq : ∀ (k : Fin k0_t1_loop.trips) (b : Fin 2), qAt k b = BitVec.ofNat 32 (128 * (2 * k.val + b.val)) := by decide +kernel
theorem wAt_eq : ∀ (k : Fin k0_t1_loop.trips) (b : Fin 2), wAt k b = BitVec.ofNat 32 (st (2 * k.val + b.val)) := by decide +kernel

theorem trips_eight (k : Fin k0_t1_loop.trips) : k.val < 8 :=
  lt_of_lt_of_eq k.isLt (by decide +kernel)

theorem blk_lt (k : Fin k0_t1_loop.trips) (b : Fin 2) : 2 * k.val + b.val < 16 := by
  have := trips_eight k; omega

/-- What a block stores, from its whole input blocks; `kv` is the pair of key and value heads. -/
def blockOut (sl sk : FVec Ideal S8 .f32) (q : FVec Ideal S4x1x2048x128 .bf16) (k v : FVec Ideal S1x1x2048x128 .bf16)
    (kv : Fin 2) : FVec Ideal S1x2048x512 .bf16 := fun y =>
  gated
    (fun w : Fin 384 => score (∑ d : Fin 128, q (ix4 (⟨(y 2).val / 128, by have : (y 2).val < 512 := (y 2).isLt; omega⟩ : Fin 4) 0 (y 1) d)
          * k (ix4 0 0 (⟨st ((y 1).val / 128) + w.val, SwaSpec.win_lt _ w⟩ : Fin 2048) d))
        (sl (ix1 (⟨4 * kv.val + (y 2).val / 128, by have : (y 2).val < 512 := (y 2).isLt; omega⟩ : Fin 8)))
        (far ((y 1).val / 128) ((y 1).val % 128) w.val))
    (fun w : Fin 384 => v (ix4 0 0 (⟨st ((y 1).val / 128) + w.val, SwaSpec.win_lt _ w⟩ : Fin 2048) (⟨(y 2).val % 128, by omega⟩ : Fin 128)))
    (sk (ix1 (⟨4 * kv.val + (y 2).val / 128, by have : (y 2).val < 512 := (y 2).isLt; omega⟩ : Fin 8)))

section Ld
variable (k : Fin k0_t1_loop.trips) (b : Fin 2)

theorem ld_kv (X : FVec Ideal S1x1x2048x128 .bf16) (w : Fin 384) (d : Fin 128) (y : Fin 2048)
    (hy : y.val = st (2 * k.val + b.val) + w.val) :
    View.ld (Val := Elt Ideal) (e' := .bf16) X (Rect.unit (s := S1x1x2048x128) (k0_off1 k (BitVec.ofNat 32 b.val)) S1x1x384x128.size (k0_off1_inb k b)) (ix4 0 0 w d)
      = X (ix4 0 0 y d) := by
  refine View.ld_unit_apply_of (Val := Elt Ideal) (e := .bf16) X _ _ _ _ _ fun a => ?_
  refine Eq.trans ?_ (congrArg (· + _) (congrFun (off1_eq k b) a).symm)
  match a with
  | ⟨0, _⟩ => rfl
  | ⟨1, _⟩ => rfl
  | ⟨2, _⟩ => exact hy
  | ⟨3, _⟩ => exact (Nat.zero_add _).symm

theorem ld_q (X : FVec Ideal S4x1x2048x128 .bf16) (g : Fin 4) (off : Fin 4 → ℕ) (hinb : ∀ a, off a + S1x1x128x128.size a ≤ S4x1x2048x128.size a)
    (ho : off = ![g.val, 0, 128 * (2 * k.val + b.val), 0]) (r d : Fin 128) (y : Fin 2048)
    (hy : y.val = 128 * (2 * k.val + b.val) + r.val) :
    View.ld (Val := Elt Ideal) (e' := .bf16) X (Rect.unit (s := S4x1x2048x128) off S1x1x128x128.size hinb) (ix4 0 0 r d)
      = X (ix4 g 0 y d) := by
  refine View.ld_unit_apply_of (Val := Elt Ideal) (e := .bf16) X _ _ _ _ _ fun a => ?_
  refine Eq.trans ?_ (congrArg (· + _) (congrFun ho a).symm)
  match a with
  | ⟨0, _⟩ => rfl
  | ⟨1, _⟩ => rfl
  | ⟨2, _⟩ => exact hy
  | ⟨3, _⟩ => exact (Nat.zero_add _).symm

theorem at1_apply (i : grid0.Coords) (arg : Memref sig .tc .smem S8 .f32) (X : BufTy.Contents (Elt Ideal) arg.view.ty) (g : Fin 4)
    (y : Fin 8) (hy : y.val = 4 * (i 1).val + g.val) :
    at1 (F := Ideal) i arg X g = arg.view.read (Elt Ideal) X (ix1 y) := by
  unfold at1
  rw [View.readAt_eq_ld]
  refine View.ld_unit_apply_of (Val := Elt Ideal) (e := .f32) _ _ _ _ _ _ fun a => ?_
  refine Eq.trans ?_ (congrArg (· + _) (congrFun (off6_eq i g) a).symm)
  match a with
  | ⟨0, _⟩ => exact hy

theorem emb_head (g : Fin 4) (x : S1x128x128.Idx) :
    ((Rect.unit (s := S1x2048x512) (offO k b g) S1x128x128.size (offO_inb k b g)).emb x 1).val
        = 128 * (2 * k.val + b.val) + (x 1).val
      ∧ ((Rect.unit (s := S1x2048x512) (offO k b g) S1x128x128.size (offO_inb k b g)).emb x 2).val = 128 * g.val + (x 2).val := by
  have h : ∀ a, ((Rect.unit (s := S1x2048x512) (offO k b g) S1x128x128.size (offO_inb k b g)).emb x a).val
      = (offO k b g) a + (x a).val := fun a => Rect.idx_unit_val ..
  rw [h 1, h 2, offO_eq k b g]
  exact ⟨rfl, rfl⟩

section Piece
variable (arg2 arg3 : Memref sig .tc .smem S8 .f32)
  (arg4 : Memref sig .tc .vmem S4x1x2048x128 .bf16) (arg5 : Memref sig .tc .vmem S1x1x2048x128 .bf16)
  (arg6 : Memref sig .tc .vmem S1x1x2048x128 .bf16)
  (X2 : BufTy.Contents (Elt Ideal) arg2.view.ty) (X3 : BufTy.Contents (Elt Ideal) arg3.view.ty)
  (X4 : BufTy.Contents (Elt Ideal) arg4.view.ty) (X5 : BufTy.Contents (Elt Ideal) arg5.view.ty)
  (X6 : BufTy.Contents (Elt Ideal) arg6.view.ty)
  (i : grid0.Coords) (v0 v1 : IVec S128x384 32)

/-- The stacked products, from the whole blocks. -/
theorem prods_apply (g : Fin 4) (r : Fin 128) (w : Fin 384) (y : Fin 512) (hy : y.val = 128 * g.val + r.val)
    (p z : Fin 2048) (hp : p.val = 128 * (2 * k.val + b.val) + r.val) (hz : z.val = st (2 * k.val + b.val) + w.val) :
    prods (F := Ideal) arg4 arg5 X4 X5 k b (ix2 y w)
      = (∑ x : Fin 128, arg4.view.read (Elt Ideal) X4 (ix4 g 0 p x) * arg5.view.read (Elt Ideal) X5 (ix4 0 0 z x))
          * Ideal.ofBits .f32 0x3DB504F3#32 := by
  unfold prods
  simp only [View.readAt_eq_ld]
  refine (pay2_apply g _ (fun g => match g with
    | 0 => _
    | 1 => _
    | 2 => _
    | 3 => _) r w y hy).trans ?_
  refine congrArg (· * _) (Finset.sum_congr rfl fun x _ => ?_)
  rw [ld_kv k b _ w x z hz]
  refine congrArg (· * _) ?_
  match g with
  | 0 => exact ld_q k b _ 0 _ _ (off2_eq k b) r x p hp
  | 1 => exact ld_q k b _ 1 _ _ (off3_eq k b) r x p hp
  | 2 => exact ld_q k b _ 2 _ _ (off4_eq k b) r x p hp
  | 3 => exact ld_q k b _ 3 _ _ (off5_eq k b) r x p hp

/-- The piece of a head writes the block's function at the piece's places. -/
theorem piece_apply (hv0 : ∀ (r : Fin 128) (w : Fin 384), v0 (ix2 r w) = BitVec.ofNat 32 r.val)
    (hv1 : ∀ (r : Fin 128) (w : Fin 384), v1 (ix2 r w) = BitVec.ofNat 32 w.val) (g : Fin 4) (x : S1x128x128.Idx) :
    (headPiece (F := Ideal) arg2 arg3 arg4 arg5 arg6 X2 X3 X4 X5 X6 i v0 v1 k b g).2 x
      = blockOut (arg2.view.read (Elt Ideal) X2) (arg3.view.read (Elt Ideal) X3) (arg4.view.read (Elt Ideal) X4)
          (arg5.view.read (Elt Ideal) X5) (arg6.view.read (Elt Ideal) X6) (i 1)
          ((headPiece (F := Ideal) arg2 arg3 arg4 arg5 arg6 X2 X3 X4 X5 X6 i v0 v1 k b g).1.emb x) := by
  obtain ⟨r, d, rfl⟩ : ∃ (r : Fin 128) (d : Fin 128), x = ix3 0 r d := ⟨x 1, x 2, by
    funext a
    match a with
    | ⟨0, _⟩ => exact Subsingleton.elim (α := Fin 1) _ _
    | ⟨1, _⟩ => rfl
    | ⟨2, _⟩ => rfl⟩
  obtain ⟨e1, e2⟩ := emb_head k b g (ix3 0 r d)
  have hr := r.isLt
  have hd := d.isLt
  have hg := g.isLt
  replace e1 : _ = 128 * (2 * k.val + b.val) + r.val := e1
  replace e2 : _ = 128 * g.val + d.val := e2
  unfold headPiece blockOut
  generalize ((Rect.unit (s := S1x2048x512) (offO k b g) S1x128x128.size (offO_inb k b g)).emb (ix3 0 r d)) = y at e1 e2 ⊢
  have h1 : (y 1).val / 128 = 2 * k.val + b.val := by rw [e1]; omega
  have h2 : (y 1).val % 128 = r.val := by rw [e1]; omega
  have h3 : (y 2).val / 128 = g.val := by rw [e2]; omega
  have h4 : (y 2).val % 128 = d.val := by rw [e2]; omega
  refine (headOut_apply g _ _ _ _ _ r d).trans ?_
  have hs : ∀ w : Fin 384, st ((y 1).val / 128) + w.val = st (2 * k.val + b.val) + w.val := fun w => by rw [h1]
  have hi : (i 1).val < 2 := (i 1).isLt
  congr 1
  · funext w
    rw [sc_apply g _ v0 v1 _ _ _ r w (⟨128 * g.val + r.val, by omega⟩ : Fin 512) rfl, hv0, hv1, qAt_eq, wAt_eq, SwaSpec.far_eq]
    rw [prods_apply k b arg4 arg5 X4 X5 g r w _ rfl (y 1) (⟨st ((y 1).val / 128) + w.val, SwaSpec.win_lt _ w⟩ : Fin 2048) e1 (hs w)]
    rw [at1_apply i arg2 X2 g (⟨4 * (i 1).val + (y 2).val / 128, by omega⟩ : Fin 8) (by show 4 * (i 1).val + (y 2).val / 128 = _; rw [h3])]
    have hf : far ((y 1).val / 128) ((y 1).val % 128) w.val = far (2 * k.val + b.val) r.val w.val := by rw [h1, h2]
    have hgg : (⟨(y 2).val / 128, by omega⟩ : Fin 4) = g := Fin.ext h3
    refine Eq.trans ?_ (congrArg (score _ _) hf.symm)
    refine Eq.trans ?_ (congrArg (fun z => score z _ _) (Finset.sum_congr rfl fun x _ =>
      congrArg (fun g' : Fin 4 => arg4.view.read (Elt Ideal) X4 (ix4 g' 0 (y 1) x) * _) hgg.symm))
    rfl
  · funext w
    rw [View.readAt_eq_ld, ld_kv k b _ w d (⟨st ((y 1).val / 128) + w.val, SwaSpec.win_lt _ w⟩ : Fin 2048) (hs w)]
    have hdd : (⟨(y 2).val % 128, by omega⟩ : Fin 128) = d := Fin.ext h4
    rw [hdd]
  · exact at1_apply i arg3 X3 g _ (by show 4 * (i 1).val + (y 2).val / 128 = _; rw [h3])
end Piece
end Ld

/-- What a block's body leaves in its output block. -/
theorem block_eq (c : Dev nD) (i : grid0.Coords) (arg2 : Memref sig .tc .smem S8 .f32) (harg2 : arg2.IsWhole)
    (arg3 : Memref sig .tc .smem S8 .f32) (harg3 : arg3.IsWhole)
    (arg4 : Memref sig .tc .vmem S4x1x2048x128 .bf16) (harg4 : arg4.IsWhole)
    (arg5 : Memref sig .tc .vmem S1x1x2048x128 .bf16) (harg5 : arg5.IsWhole)
    (arg6 : Memref sig .tc .vmem S1x1x2048x128 .bf16) (harg6 : arg6.IsWhole)
    (arg7 : Memref sig .tc .vmem S1x2048x512 .bf16) (harg7 : arg7.IsWhole)
    (x0 x1 : FVec Ideal S8 .f32) (x2 : FVec Ideal S4x1x2048x128 .bf16) (x3 x4 : FVec Ideal S1x1x2048x128 .bf16) :
    out0_A_5 (F := Ideal) c i arg2 harg2 arg3 harg3 arg4 harg4 arg5 harg5 arg6 harg6 arg7 harg7 x0 x1 x2 x3 x4
      = blockOut x0 x1 x2 x3 x4 (i 1) := by
  funext y
  have hcov := cover0_A_5 (F := Ideal) c i arg2 harg2 arg3 harg3 arg4 harg4 arg5 harg5 arg6 harg6 arg7 harg7 x0 x1 x2 x3 x4 y
  unfold out0_A_5
  rw [View.read_writes_junk_apply_eq_canon]
  refine View.canon_apply_of_pieces _ _ (fun p hp => ?_) y hcov
  unfold kernelRun0_A at hp
  dsimp only at hp
  obtain ⟨k, b, g, rfl⟩ := loop_piece _ _ _ _ _ _ _ _ _ _ _ _ _ _ _ _ _ _ _ _ _ _ _ _ _ (by decide +kernel) p hp
  intro x
  refine (piece_apply k b arg2 arg3 arg4 arg5 arg6 _ _ _ _ _ i _ _ ?_ ?_ g x).trans ?_
  · intro r w
    pointwise [kernelRun0_A.sl.v0]
  · intro r w
    pointwise [kernelRun0_A.sl.v1]
  rw [harg2.read_unread, harg3.read_unread, harg4.read_unread, harg5.read_unread, harg6.read_unread]

end Cert.SwaRow
-- ==== Proof.SwaArray.lean ====
module
public import proofs.«01_k».proof.Proof.SwaBlock
/-! # The array the kernel leaves: the windowed attention of the three arguments -/
@[expose] public section
set_option maxRecDepth 16384
noncomputable section
namespace Cert.SwaRow
open Cert.SwaIdeal Cert.SwaIdeal.Gen
open Idealize.ShloMosaic Idealize.ShloMosaic.TcCoe

variable (m : (ℓ : Loc nD τ sig) → Buf (Elt Ideal) ℓ) (c : Dev nD) (t : Fin cfg0.N)

/-- The sequence of a grid point. -/
def sq : Fin 8 := grid0.coords t 0
/-- The key and value head of a grid point. -/
def hd : Fin 2 := grid0.coords t 1

theorem e0 : ∀ t : Fin cfg0.N, win0_0.index t = ![0] :=
  (by decide +kernel : ∀ t : Fin grid0.N, _)
theorem e1 : ∀ t : Fin cfg0.N, win0_1.index t = ![0] :=
  (by decide +kernel : ∀ t : Fin grid0.N, _)
theorem e2 : ∀ t : Fin cfg0.N, win0_2.index t = ![6 + (grid0.coords t 1).val, (grid0.coords t 0).val, 0, 0] :=
  (by decide +kernel : ∀ t : Fin grid0.N, _)
theorem e3 : ∀ t : Fin cfg0.N, win0_3.index t = ![32 + (grid0.coords t 1).val, (grid0.coords t 0).val, 0, 0] :=
  (by decide +kernel : ∀ t : Fin grid0.N, _)
theorem e4 : ∀ t : Fin cfg0.N, win0_4.index t = ![34 + (grid0.coords t 1).val, (grid0.coords t 0).val, 0, 0] :=
  (by decide +kernel : ∀ t : Fin grid0.N, _)
theorem e5 : ∀ t : Fin cfg0.N, win0_5.index t = ![(grid0.coords t 0).val, 0, (grid0.coords t 1).val] :=
  (by decide +kernel : ∀ t : Fin grid0.N, _)

theorem sl_blk (h : Fin 8) : iblk m c 0 t (ix1 h) = m ((c : Thread nD τ).loc main_arg1) (ix1 h) := by
  blk_simp [iblk]
  rw [V_main_arg1]
  congr 1
  blk_ext [e0]

theorem sk_blk (h : Fin 8) : iblk m c 1 t (ix1 h) = m ((c : Thread nD τ).loc main_arg2) (ix1 h) := by
  blk_simp [iblk]
  rw [V_main_arg2]
  congr 1
  blk_ext [e1]

theorem q_blk (g : Fin 4) (p : Fin 2048) (d : Fin 128) :
    iblk m c 2 t (ix4 g 0 p d) = m ((c : Thread nD τ).loc main_arg0) (ix4 (⟨(6 + (hd t).val) * 4 + g.val, by omega⟩ : Fin 60) (sq t) p d) := by
  unfold hd sq
  blk_simp [iblk]
  rw [V_main_arg0]
  congr 1
  blk_ext [e2]

theorem k_blk (p : Fin 2048) (d : Fin 128) :
    iblk m c 3 t (ix4 0 0 p d) = m ((c : Thread nD τ).loc main_arg0) (ix4 (⟨32 + (hd t).val, by omega⟩ : Fin 60) (sq t) p d) := by
  unfold hd sq
  blk_simp [iblk]
  rw [V_main_arg0]
  congr 1
  blk_ext [e3]

theorem v_blk (p : Fin 2048) (d : Fin 128) :
    iblk m c 4 t (ix4 0 0 p d) = m ((c : Thread nD τ).loc main_arg0) (ix4 (⟨34 + (hd t).val, by omega⟩ : Fin 60) (sq t) p d) := by
  unfold hd sq
  blk_simp [iblk]
  rw [V_main_arg0]
  congr 1
  blk_ext [e4]

/-- The output array after the last point. -/
theorem final : (dats m 0 c).arrAt 5 cfg0.N
    = SwaSpec.out (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  rw [block_eq]
  obtain ⟨p, d, rfl⟩ : ∃ (p : Fin 2048) (d : Fin 512), y = ix3 0 p d := ⟨y 1, y 2, by
    funext a
    match a with
    | ⟨0, _⟩ => exact Subsingleton.elim (α := Fin 1) _ _
    | ⟨1, _⟩ => rfl
    | ⟨2, _⟩ => rfl⟩
  have hlt := (hd t).isLt
  have e : (win0_5.blk t).view.emb (ix3 0 p d) = ix3 (sq t) p (⟨(hd t).val * 512 + d.val, by omega⟩ : Fin 1024) := by
    unfold hd sq
    blk_ext [e5]
  rw [e]
  unfold blockOut SwaSpec.out
  have hh : (⟨((hd t).val * 512 + d.val) / 128, by omega⟩ : Fin 8) = ⟨4 * (hd t).val + d.val / 128, by omega⟩ := Fin.ext (by
    show ((hd t).val * 512 + d.val) / 128 = 4 * (hd t).val + d.val / 128; omega)
  have hl : (⟨((hd t).val * 512 + d.val) % 128, by omega⟩ : Fin 128) = ⟨d.val % 128, by omega⟩ := Fin.ext (by
    show ((hd t).val * 512 + d.val) % 128 = d.val % 128; omega)
  show SwaSpec.gated _ _ _ = SwaSpec.gated (SwaSpec.S _ _ (sq t) (⟨((hd t).val * 512 + d.val) / 128, _⟩ : Fin 8) (⟨p.val / 128, _⟩ : Fin 16) (⟨p.val % 128, _⟩ : Fin 128))
    (SwaSpec.V _ (sq t) (⟨((hd t).val * 512 + d.val) / 128, _⟩ : Fin 8) (⟨p.val / 128, _⟩ : Fin 16) (⟨((hd t).val * 512 + d.val) % 128, _⟩ : Fin 128))
    (m ((c : Thread nD τ).loc main_arg2) (ix1 (⟨((hd t).val * 512 + d.val) / 128, _⟩ : Fin 8)))
  rw [hh, hl]
  have hk : (4 * (hd t).val + d.val / 128) / 4 = (hd t).val := by omega
  congr 1
  · funext w
    unfold SwaSpec.S
    refine congrArg₂ (fun a b => SwaSpec.score a b _) (Finset.sum_congr rfl fun x _ => ?_) ?_
    · refine congrArg₂ (· * ·) ((q_blk m c t _ _ _).trans ?_) ((k_blk m c t _ _).trans ?_)
      · refine congrArg (m ((c : Thread nD τ).loc main_arg0)) (congrArg₂ (fun a b => ix4 a (sq t) b x) (Fin.ext ?_) (Fin.ext ?_))
        · show (6 + (hd t).val) * 4 + d.val / 128 = 24 + (4 * (hd t).val + d.val / 128)
          omega
        · show p.val = 128 * (p.val / 128) + p.val % 128
          omega
      · refine congrArg (m ((c : Thread nD τ).loc main_arg0)) (congrArg (fun a => ix4 a (sq t) _ x) (Fin.ext ?_))
        show 32 + (hd t).val = 32 + (4 * (hd t).val + d.val / 128) / 4
        omega
    · exact sl_blk m c t _
  · funext w
    refine (v_blk m c t _ _).trans ?_
    refine congrArg (m ((c : Thread nD τ).loc main_arg0)) (congrArg (fun a => ix4 a (sq t) _ _) (Fin.ext ?_))
    show 34 + (hd t).val = 34 + (4 * (hd t).val + d.val / 128) / 4
    omega
  · exact sk_blk m c t _

end Cert.SwaRow
-- ==== Proof.Rms.lean ====
module
public import Idealize.ShloMosaic.Lib.Pointwise
/-! # The factor of a normalization by the root of the mean square

The factor is nonnegative and not infinite whatever the row is, so it goes through a sum over the extended reals. -/
@[expose] public section
noncomputable section
namespace Cert.Rms
open Idealize.ShloMosaic

/-- The printed word of the constant added to the mean square. -/
abbrev eps : EReal := Ideal.ofBits .f32 0x358637BD#32
/-- The printed words of the two row lengths. -/
abbrev len4096 : EReal := Ideal.ofBits .f32 0x45800000#32
abbrev len1024 : EReal := Ideal.ofBits .f32 0x44800000#32
/-- The printed word of one. -/
abbrev one : EReal := Ideal.ofBits .f32 0x3F800000#32

theorem eps_pos : 0 < eps := by
  simp only [eps, Ideal.ofBits, Ideal.ieee]
  simp
  rw [← EReal.coe_mul]
  exact EReal.coe_pos.mpr (by positivity)
theorem len4096_pos : 0 < len4096 := by
  simp only [len4096, Ideal.ofBits, Ideal.ieee]
  simp
  rw [← EReal.coe_mul]
  exact EReal.coe_pos.mpr (by positivity)
theorem len1024_pos : 0 < len1024 := by
  simp only [len1024, Ideal.ofBits, Ideal.ieee]
  simp
  rw [← EReal.coe_mul]
  exact EReal.coe_pos.mpr (by positivity)
theorem one_eq : one = 1 := by
  simp only [one, Ideal.ofBits, Ideal.ieee]
  simp
  rw [← EReal.coe_mul]
  exact_mod_cast (by norm_num : (8388608 : ℝ) * (2 ^ 23)⁻¹ = 1)

/-- The factor of a row whose squares add up to `s`, of length `d`. -/
def factor (d s : EReal) : EReal := Ideal.rsqrt (Ideal.div s d + eps)

theorem sq_nonneg (x : EReal) : 0 ≤ x * x := by
  rcases le_total 0 x with h | h
  · exact mul_nonneg h h
  · have := mul_nonneg (EReal.neg_nonneg.mpr h) (EReal.neg_nonneg.mpr h)
    rwa [neg_mul_neg] at this

theorem sum_sq_nonneg {n : Nat} (f : Fin n → EReal) : 0 ≤ ∑ k, f k * f k :=
  Finset.sum_nonneg fun _ _ => sq_nonneg _

theorem rsqrt_pos_bounds (x : EReal) (h : 0 < x) : 0 ≤ Ideal.rsqrt x ∧ Ideal.rsqrt x ≠ ⊤ := by
  induction x with
  | bot => exact absurd h (by simp)
  | top => exact ⟨le_refl _, by show (0 : EReal) ≠ ⊤; exact EReal.zero_ne_top⟩
  | coe r =>
    have hr : 0 < r := by exact_mod_cast h
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    exact ⟨by exact_mod_cast inv_nonneg.mpr (Real.sqrt_nonneg r), EReal.coe_ne_top _⟩

theorem factor_bounds {d s : EReal} (hd : 0 < d) (hs : 0 ≤ s) : 0 ≤ factor d s ∧ factor d s ≠ ⊤ := by
  refine rsqrt_pos_bounds _ ?_
  have : 0 ≤ Ideal.div s d := by
    unfold Ideal.div
    rw [if_neg hd.ne']
    exact mul_nonneg hs (EReal.inv_nonneg_of_nonneg hd.le)
  calc (0 : EReal) < eps := eps_pos
    _ = 0 + eps := (zero_add _).symm
    _ ≤ Ideal.div s d + eps := add_le_add this le_rfl

/-- A nonnegative finite factor goes through a sum. -/
theorem sum_factor {n : Nat} (f : Fin n → EReal) {r : EReal} (h : 0 ≤ r) (ht : r ≠ ⊤) : (∑ k, f k) * r = ∑ k, f k * r := by
  classical
  refine Finset.induction_on (Finset.univ : Finset (Fin n)) (by simp) fun a s ha ih => ?_
  rw [Finset.sum_insert ha, Finset.sum_insert ha, EReal.right_distrib_of_nonneg_of_ne_top h ht, ih]

/-- A row against a matrix's column, the row scaled by its factor: the factor may be applied to the product, and the
    gain to the matrix. -/
theorem fold {n : Nat} (x g w : Fin n → EReal) {r : EReal} (h : 0 ≤ r) (ht : r ≠ ⊤) :
    (∑ k, x k * (w k * g k)) * r = ∑ k, x k * r * g k * w k := by
  rw [sum_factor _ h ht]
  refine Finset.sum_congr rfl fun k _ => ?_
  rw [mul_assoc, mul_comm (w k * g k) r, mul_comm (w k) (g k), mul_assoc (x k * r), mul_assoc (x k)]

end Cert.Rms
-- ==== Proof.SwaRefValue.lean ====
module
public import proofs.«01_k».proof.Proof.Gen.SwaRefIdeal.Read
public import proofs.«01_k».proof.Proof.SwaSpec
public import proofs.«01_k».proof.Proof.Rms
/-! # The reference's windowed attention, array by array -/
@[expose] public section
set_option maxRecDepth 16384
noncomputable section
namespace Cert.SwaRef
open Cert.SwaRefIdeal Cert.SwaRefIdeal.Gen Cert.SwaRefIdeal.Read
open Idealize.ShloMosaic
variable (u : FVec Ideal S60x8x2048x128 .bf16) (sl sk : FVec Ideal S8 .f32)

theorem small : ∀ k : Fin 2048, min (BitVec.ofNat 32 k.val).toInt.toNat 2047 + 0 + 0 = k.val := by decide +kernel
theorem nonneg : ∀ k : Fin 2048, IntOp.cmpi .slt (BitVec.ofNat 32 k.val) 0#32 = 0#1 := by decide +kernel

/-- Positions gathered by a table: the position the table names. -/
theorem gather_pos (x : FVec Ideal S8x2x2048x128 .f32) (idx : IVec S16x384x1 32) (n : Fin 8) (kv : Fin 2) (i : Fin 16) (w : Fin 384) (d : Fin 128)
    (k : Fin 2048) (hk : idx (ix3 i w 0) = BitVec.ofNat 32 k.val) :
    Host.gather gather_S8x2x2048x128_S16x384x1_S8x2x16x384x128_014_2_n_n_2_2_821128 x idx (ix5 n kv i w d) = x (ix4 n kv k d) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    show GatherDims.start gather_S8x2x2048x128_S16x384x1_S8x2x16x384x128_014_2_n_n_2_2_821128 (ix5 n kv i w d) idx (0 : Fin S8x2x2048x128.rank) + 0
      + GatherDims.offCoord gather_S8x2x2048x128_S16x384x1_S8x2x16x384x128_014_2_n_n_2_2_821128 (ix5 n kv i w d) (0 : Fin S8x2x2048x128.rank) = _
    unfold GatherDims.start GatherDims.offCoord
    rw [dif_neg (show (0 : Fin S8x2x2048x128.rank) ∉ gather_S8x2x2048x128_S16x384x1_S8x2x16x384x128_014_2_n_n_2_2_821128.startIndexMap by decide),
      dif_pos (show (0 : Fin S8x2x2048x128.rank) ∈ gather_S8x2x2048x128_S16x384x1_S8x2x16x384x128_014_2_n_n_2_2_821128.sKept by decide)]
    exact Nat.zero_add _
  | ⟨1, _⟩ =>
    show GatherDims.start gather_S8x2x2048x128_S16x384x1_S8x2x16x384x128_014_2_n_n_2_2_821128 (ix5 n kv i w d) idx (1 : Fin S8x2x2048x128.rank) + 0
      + GatherDims.offCoord gather_S8x2x2048x128_S16x384x1_S8x2x16x384x128_014_2_n_n_2_2_821128 (ix5 n kv i w d) (1 : Fin S8x2x2048x128.rank) = _
    unfold GatherDims.start GatherDims.offCoord
    rw [dif_neg (show (1 : Fin S8x2x2048x128.rank) ∉ gather_S8x2x2048x128_S16x384x1_S8x2x16x384x128_014_2_n_n_2_2_821128.startIndexMap by decide),
      dif_pos (show (1 : Fin S8x2x2048x128.rank) ∈ gather_S8x2x2048x128_S16x384x1_S8x2x16x384x128_014_2_n_n_2_2_821128.sKept by decide)]
    exact Nat.zero_add _
  | ⟨2, _⟩ =>
    show GatherDims.start gather_S8x2x2048x128_S16x384x1_S8x2x16x384x128_014_2_n_n_2_2_821128 (ix5 n kv i w d) idx (2 : Fin S8x2x2048x128.rank) + 0
      + GatherDims.offCoord gather_S8x2x2048x128_S16x384x1_S8x2x16x384x128_014_2_n_n_2_2_821128 (ix5 n kv i w d) (2 : Fin S8x2x2048x128.rank) = _
    unfold GatherDims.start GatherDims.offCoord
    rw [dif_pos (show (2 : Fin S8x2x2048x128.rank) ∈ gather_S8x2x2048x128_S16x384x1_S8x2x16x384x128_014_2_n_n_2_2_821128.startIndexMap by decide),
      dif_neg (show (2 : Fin S8x2x2048x128.rank) ∉ gather_S8x2x2048x128_S16x384x1_S8x2x16x384x128_014_2_n_n_2_2_821128.sKept by decide)]
    have hsi : ∀ q, (gather_S8x2x2048x128_S16x384x1_S8x2x16x384x128_014_2_n_n_2_2_821128).siIdx (ix5 n kv i w d) q = ix3 i w 0 := by
      intro q
      funext b; refine Fin.ext ?_
      match b with
      | ⟨0, _⟩ => rfl
      | ⟨1, _⟩ => rfl
      | ⟨2, _⟩ => exact Nat.lt_one_iff.mp q.isLt
    rw [hsi, hk]
    exact small k
  | ⟨3, _⟩ =>
    show GatherDims.start gather_S8x2x2048x128_S16x384x1_S8x2x16x384x128_014_2_n_n_2_2_821128 (ix5 n kv i w d) idx (3 : Fin S8x2x2048x128.rank) + 0
      + GatherDims.offCoord gather_S8x2x2048x128_S16x384x1_S8x2x16x384x128_014_2_n_n_2_2_821128 (ix5 n kv i w d) (3 : Fin S8x2x2048x128.rank) = _
    unfold GatherDims.start GatherDims.offCoord
    rw [dif_neg (show (3 : Fin S8x2x2048x128.rank) ∉ gather_S8x2x2048x128_S16x384x1_S8x2x16x384x128_014_2_n_n_2_2_821128.startIndexMap by decide),
      dif_pos (show (3 : Fin S8x2x2048x128.rank) ∈ gather_S8x2x2048x128_S16x384x1_S8x2x16x384x128_014_2_n_n_2_2_821128.sKept by decide)]
    exact Nat.zero_add _

theorem start_apply : ∀ i : Fin 16, (val_main_v24 (F := Ideal) (ix1 i) : BitVec 32) = BitVec.ofNat 32 (SwaSpec.st i.val) := by
  decide +kernel
theorem first_apply : ∀ i : Fin 16, (val_main_v13 (F := Ideal) (ix2 i 0) : BitVec 32) = BitVec.ofNat 32 (128 * i.val) := by
  decide +kernel

theorem kpos_apply (i : Fin 16) (w : Fin 384) :
    (val_main_v30 (F := Ideal) (ix2 i w) : BitVec 32) = BitVec.ofNat 32 (SwaSpec.st i.val + w.val) := by
  rw [BitVec.ofNat_add, ← start_apply i]
  unfold val_main_v30 val_main_v29 val_main_v28 val_main_v27 val_main_v26 val_main_v25
  pointwise
  rfl

theorem qpos_apply (i : Fin 16) (r : Fin 128) :
    (val_main_v18 (F := Ideal) (ix2 i r) : BitVec 32) = BitVec.ofNat 32 (128 * i.val + r.val) := by
  rw [BitVec.ofNat_add, ← first_apply i]
  unfold val_main_v18 val_main_v17 val_main_v16 val_main_v15 val_main_v14
  pointwise
  rfl

theorem rows (i : Fin 16) (w : Fin 384) :
    (val_main_v36 (F := Ideal) (ix3 i w 0) : BitVec 32) = BitVec.ofNat 32 (SwaSpec.st i.val + w.val) := by
  unfold val_main_v36 val_main_v35 val_main_v32 val_main_v31 val_main_c_4
  pointwise [kpos_apply]
  rw [nonneg ⟨_, SwaSpec.win_lt i.val w⟩]
  rfl

theorem rowsV (i : Fin 16) (w : Fin 384) :
    (val_main_v43 (F := Ideal) (ix3 i w 0) : BitVec 32) = BitVec.ofNat 32 (SwaSpec.st i.val + w.val) := by
  unfold val_main_v43 val_main_v42 val_main_v39 val_main_v38 val_main_c_6
  pointwise [kpos_apply]
  rw [nonneg ⟨_, SwaSpec.win_lt i.val w⟩]
  rfl

theorem near_apply (i : Fin 16) (r : Fin 128) (w : Fin 384) :
    val_main_v56 (F := Ideal) (ix3 i r w) = IntOp.cmpi .sle (SwaSpec.far i.val r.val w.val) 128#32 := by
  unfold val_main_v56 val_main_v55 val_main_c_8 val_main_v54 val_main_v53 val_main_v52 val_main_v51 val_main_v50 val_main_v49
  pointwise [kpos_apply, qpos_apply]
  rfl

theorem dist_apply (i : Fin 16) (r : Fin 128) (w : Fin 384) :
    val_main_v58 (F := Ideal) (ix3 i r w) = FloatOps.sitofp (F := Ideal) .f32 (SwaSpec.far i.val r.val w.val) := by
  unfold val_main_v58 val_main_v57 val_main_v53 val_main_v52 val_main_v51 val_main_v50 val_main_v49
  pointwise [kpos_apply, qpos_apply]
  rfl

theorem q_apply (n : Fin 8) (kv : Fin 2) (g : Fin 4) (i : Fin 16) (r d : Fin 128) :
    val_main_v9 (F := Ideal) u (ix6 n kv g i r d)
      = u (ix4 (⟨24 + (4 * kv.val + g.val), by omega⟩ : Fin 60) n (⟨128 * i.val + r.val, SwaSpec.pos_lt i r⟩ : Fin 2048) d) := by
  unfold val_main_v9 val_main_v2 val_main_v1 val_main_v0
  pointwise
  simp only [Nat.mul_comm i.val 128, Nat.mul_comm kv.val 4]

theorem k_apply (n : Fin 8) (kv : Fin 2) (i : Fin 16) (w : Fin 384) (d : Fin 128) :
    val_main_v37 (F := Ideal) u (ix5 n kv i w d)
      = u (ix4 (⟨32 + kv.val, by omega⟩ : Fin 60) n (⟨SwaSpec.st i.val + w.val, SwaSpec.win_lt i.val w⟩ : Fin 2048) d) := by
  unfold val_main_v37
  rw [gather_pos _ _ n kv i w d ⟨_, SwaSpec.win_lt i.val w⟩ (rows i w)]
  unfold val_main_v5 val_main_v4 val_main_v3
  pointwise

theorem v_apply (n : Fin 8) (kv : Fin 2) (i : Fin 16) (w : Fin 384) (d : Fin 128) :
    val_main_v44 (F := Ideal) u (ix5 n kv i w d)
      = u (ix4 (⟨34 + kv.val, by omega⟩ : Fin 60) n (⟨SwaSpec.st i.val + w.val, SwaSpec.win_lt i.val w⟩ : Fin 2048) d) := by
  unfold val_main_v44
  rw [gather_pos _ _ n kv i w d ⟨_, SwaSpec.win_lt i.val w⟩ (rowsV i w)]
  unfold val_main_v8 val_main_v7 val_main_v6
  pointwise

/-- The head of a key and value head and its place in the group. -/
def hdOf (kv : Fin 2) (g : Fin 4) : Fin 8 := ⟨4 * kv.val + g.val, by omega⟩

theorem with_bias (x y a b c : EReal) (h : x = y) (hab : a = b) : x + -a * c = y - b * c := by
  rw [h, hab, sub_eq_add_neg, EReal.neg_mul]

/-- The reference's scores. -/
theorem s_apply (n : Fin 8) (kv : Fin 2) (g : Fin 4) (i : Fin 16) (r : Fin 128) (w : Fin 384) :
    val_main_v68 (F := Ideal) u sl (ix6 n kv g i r w) = SwaSpec.S u sl n (hdOf kv g) i r w := by
  unfold val_main_v68 val_main_call1_v2 val_main_call1_v1 val_main_call1_v0 val_main_cst_9 val_main_v67 val_main_v66 val_main_v65 val_main_v64 val_main_v63 val_main_v62 val_main_v61 val_main_v60 val_main_v59 val_main_v48 val_main_v47 val_main_cst val_main_v46 val_main_v45
  unfold SwaSpec.S SwaSpec.score hdOf
  pointwise [near_apply, dist_apply, q_apply, k_apply]
  refine congrArg₂ (fun a b => Scalar.select _ a b) ?_ rfl
  refine with_bias _ _ _ _ _ ?_ ?_
  · refine congrArg (· * _) (Finset.sum_congr rfl fun x _ => (mul_comm _ _).trans ?_)
    refine congrArg₂ (· * ·) rfl (congrArg u (congrArg (fun a => ix4 a n _ x) (Fin.ext ?_)))
    show 32 + kv.val = 32 + (4 * kv.val + g.val) / 4
    omega
  · refine congrArg sl (congrArg ix1 (Fin.ext ?_))
    show kv.val * 4 + g.val = 4 * kv.val + g.val
    omega

theorem red : S8x2x4x16x128x384.Reduces [5] S8x2x4x16x128 := by decide

theorem lift_apply (n : Fin 8) (kv : Fin 2) (g : Fin 4) (i : Fin 16) (r : Fin 128) (w : Fin 384) :
    red.lift (ix5 n kv g i r) w = ix6 n kv g i r w := by
  funext a
  refine Fin.ext ?_
  match a with
  | ⟨0, _⟩ => rfl
  | ⟨1, _⟩ => rfl
  | ⟨2, _⟩ => rfl
  | ⟨3, _⟩ => rfl
  | ⟨4, _⟩ => rfl
  | ⟨5, _⟩ => rfl

/-- The largest score, as the reference's reduction computes it from any scores. -/
theorem fold_apply (x : FVec Ideal S8x2x4x16x128x384 .f32) (n : Fin 8) (kv : Fin 2) (g : Fin 4) (i : Fin 16) (r : Fin 128) :
    Host.reduce FloatOps.maximumf x (constant (F := Ideal) S_ .f32 0xFF800000#32) reducesTo_S8x2x4x16x128x384_S8x2x4x16x128_d5 h_S_ (ix5 n kv g i r)
      = NaSpec.top (fun w => x (ix6 n kv g i r w)) := by
  rw [Host.reduce_eq_fold_single (FloatOps.maximumf (F := Ideal) (φ := .f32)) x _ _ red]
  unfold NaSpec.top
  rw [← NaSpec.neg_inf]
  exact congrArg (Finset.fold max _ · _) (funext fun w => congrArg x (lift_apply n kv g i r w))

theorem m_apply (n : Fin 8) (kv : Fin 2) (g : Fin 4) (i : Fin 16) (r : Fin 128) :
    val_main_v69 (F := Ideal) u sl (ix5 n kv g i r) = NaSpec.top (SwaSpec.S u sl n (hdOf kv g) i r) := by
  unfold val_main_v69 val_main_cst_10
  have e : (fun w => val_main_v68 (F := Ideal) u sl (ix6 n kv g i r w)) = SwaSpec.S u sl n (hdOf kv g) i r := funext (s_apply u sl n kv g i r)
  rw [← e]
  exact fold_apply (val_main_v68 (F := Ideal) u sl) n kv g i r

/-- The reference's weight of a position. -/
theorem e_apply (n : Fin 8) (kv : Fin 2) (g : Fin 4) (i : Fin 16) (r : Fin 128) (w : Fin 384) :
    val_main_v73 (F := Ideal) u sl (ix6 n kv g i r w) = NaSpec.wt (SwaSpec.S u sl n (hdOf kv g) i r) w := by
  unfold val_main_v73 val_main_v72 val_main_v71 val_main_v70
  pointwise [m_apply, s_apply]
  rfl

theorem den_apply (n : Fin 8) (kv : Fin 2) (g : Fin 4) (i : Fin 16) (r : Fin 128) :
    val_main_v74 (F := Ideal) u sl (ix5 n kv g i r) = ∑ w, NaSpec.wt (SwaSpec.S u sl n (hdOf kv g) i r) w := by
  unfold val_main_v74 val_main_cst_11
  pointwise
  refine (Ideal.hostReduceAdd_single (a := 5) reducesTo_S8x2x4x16x128x384_S8x2x4x16x128_d5 red _ _ _).trans ?_
  rw [zero_add]
  refine Finset.sum_congr rfl fun w _ => ?_
  exact (congrArg (val_main_v73 (F := Ideal) u sl) (lift_apply n kv g i r w)).trans (e_apply u sl n kv g i r w)

theorem o_apply (n : Fin 8) (kv : Fin 2) (g : Fin 4) (i : Fin 16) (r d : Fin 128) :
    val_main_v79 (F := Ideal) u sl (ix6 n kv g i r d)
      = Ideal.div (∑ w, NaSpec.wt (SwaSpec.S u sl n (hdOf kv g) i r) w * SwaSpec.V u n (hdOf kv g) i d w)
          (∑ w, NaSpec.wt (SwaSpec.S u sl n (hdOf kv g) i r) w) := by
  unfold val_main_v79 val_main_v78 val_main_v77 val_main_v76 val_main_v75
  pointwise [e_apply, v_apply, den_apply]
  refine congrArg (Ideal.div · _) (Finset.sum_congr rfl fun w _ => (mul_comm _ _).trans ?_)
  unfold SwaSpec.V hdOf
  refine congrArg₂ (· * ·) rfl (congrArg u (congrArg (fun a => ix4 a n _ d) (Fin.ext ?_)))
  show 34 + kv.val = 34 + (4 * kv.val + g.val) / 4
  omega

theorem lse_apply (n : Fin 8) (kv : Fin 2) (g : Fin 4) (i : Fin 16) (r : Fin 128) :
    val_main_v81 (F := Ideal) u sl (ix6 n kv g i r 0)
      = NaSpec.top (SwaSpec.S u sl n (hdOf kv g) i r) + Ideal.log (∑ w, NaSpec.wt (SwaSpec.S u sl n (hdOf kv g) i r) w) := by
  rw [val_main_v81_apply, val_main_v80_apply, val_main_v75_apply, val_main_v70_apply]
  have h1 : idx_main_v70 (ix6 n kv g i r 0) = ix5 n kv g i r := by
    funext a
    match a with
    | ⟨0, _⟩ => rfl
    | ⟨1, _⟩ => rfl
    | ⟨2, _⟩ => rfl
    | ⟨3, _⟩ => rfl
    | ⟨4, _⟩ => rfl
  have h2 : idx_main_v75 (ix6 n kv g i r 0) = ix5 n kv g i r := by
    funext a
    match a with
    | ⟨0, _⟩ => rfl
    | ⟨1, _⟩ => rfl
    | ⟨2, _⟩ => rfl
    | ⟨3, _⟩ => rfl
    | ⟨4, _⟩ => rfl
  rw [h1, h2, m_apply, den_apply]
  generalize NaSpec.top (SwaSpec.S u sl n (hdOf kv g) i r) = a
  generalize ∑ w, NaSpec.wt (SwaSpec.S u sl n (hdOf kv g) i r) w = b
  rfl

theorem lse1_apply (n : Fin 8) (kv : Fin 2) (g : Fin 4) (i : Fin 16) (r : Fin 128) :
    val_main_v82 (F := Ideal) u sl (ix5 n kv g i r) = val_main_v81 (F := Ideal) u sl (ix6 n kv g i r 0) := by
  unfold val_main_v82
  generalize val_main_v81 (F := Ideal) u sl = z
  refine shapeCast_apply z shapeCasts_S8x2x4x16x128x1_S8x2x4x16x128 (ix5 n kv g i r) (ix6 n kv g i r 0) ?_
  rewrite [Shape.rowMajor_val_six, Shape.rowMajor_val_five]
  show ((((n.val * 2 + kv.val) * 4 + g.val) * 16 + i.val) * 128 + r.val) * 1 + 0 = (((n.val * 2 + kv.val) * 4 + g.val) * 16 + i.val) * 128 + r.val
  omega

theorem lse2_apply (n : Fin 8) (h : Fin 8) (p : Fin 2048) :
    val_main_v84 (F := Ideal) u sl (ix3 n h p)
      = val_main_v82 (F := Ideal) u sl (ix5 n (⟨h.val / 4, by omega⟩ : Fin 2) (⟨h.val % 4, by omega⟩ : Fin 4) (⟨p.val / 128, by omega⟩ : Fin 16) (⟨p.val % 128, by omega⟩ : Fin 128)) := by
  unfold val_main_v84
  generalize val_main_v82 (F := Ideal) u sl = z
  refine shapeCast_apply z shapeCasts_S8x2x4x16x128_S8x8x2048 (ix3 n h p) (ix5 n _ _ _ _) ?_
  rewrite [Shape.rowMajor_val_five, Shape.rowMajor_val_three]
  show (((n.val * 2 + h.val / 4) * 4 + h.val % 4) * 16 + p.val / 128) * 128 + p.val % 128 = (n.val * 8 + h.val) * 2048 + p.val
  omega

theorem back (h : Fin 8) : hdOf (⟨h.val / 4, by omega⟩ : Fin 2) (⟨h.val % 4, by omega⟩ : Fin 4) = h :=
  Fin.ext (by show 4 * (h.val / 4) + h.val % 4 = h.val; omega)

theorem logistic_eq (x : EReal) : Ideal.div Rms.one (Rms.one + Ideal.exp (-x)) = Ideal.logistic x := by
  rw [Rms.one_eq]
  rfl

/-- The gate of a head at a position. -/
theorem gate_apply (n : Fin 8) (h : Fin 8) (p : Fin 2048) :
    val_main_v93 (F := Ideal) u sl sk (ix3 n h p)
      = SwaSpec.gate (SwaSpec.S u sl n h (⟨p.val / 128, by omega⟩ : Fin 16) (⟨p.val % 128, by omega⟩ : Fin 128)) (sk (ix1 h)) := by
  have e := lse2_apply u sl n h p
  rw [lse1_apply, lse_apply, back] at e
  rw [val_main_v93_apply, val_main_v92_apply, val_main_cst_13_apply, val_main_v91_apply, val_main_v90_apply, val_main_cst_12_apply,
    val_main_v89_apply, val_main_v88_apply, val_main_v87_apply, val_main_v86_apply, val_main_v85_apply]
  have hi : idx_main_v85 (idx_main_v86 (ix3 n h p)) = ix1 h := by
    funext a
    match a with
    | ⟨0, _⟩ => rfl
  rw [hi]
  unfold SwaSpec.gate
  rw [← e]
  generalize val_main_v84 (F := Ideal) u sl (ix3 n h p) = z
  generalize sk (ix1 h) = k
  exact logistic_eq (z - k)

theorem o2_apply (n : Fin 8) (h : Fin 8) (p : Fin 2048) (d : Fin 128) :
    val_main_v83 (F := Ideal) u sl (ix4 n h p d)
      = val_main_v79 (F := Ideal) u sl (ix6 n (⟨h.val / 4, by omega⟩ : Fin 2) (⟨h.val % 4, by omega⟩ : Fin 4) (⟨p.val / 128, by omega⟩ : Fin 16) (⟨p.val % 128, by omega⟩ : Fin 128) d) := by
  unfold val_main_v83
  generalize val_main_v79 (F := Ideal) u sl = z
  refine shapeCast_apply z shapeCasts_S8x2x4x16x128x128_S8x8x2048x128 (ix4 n h p d) (ix6 n _ _ _ _ d) ?_
  rewrite [Shape.rowMajor_val_six, Shape.rowMajor_val_four]
  show ((((n.val * 2 + h.val / 4) * 4 + h.val % 4) * 16 + p.val / 128) * 128 + p.val % 128) * 128 + d.val = ((n.val * 8 + h.val) * 2048 + p.val) * 128 + d.val
  omega

theorem merged_apply (n : Fin 8) (h : Fin 8) (p : Fin 2048) (d : Fin 128) :
    val_main_v96 (F := Ideal) u sl sk (ix4 n h p d)
      = SwaSpec.gated (SwaSpec.S u sl n h (⟨p.val / 128, by omega⟩ : Fin 16) (⟨p.val % 128, by omega⟩ : Fin 128))
          (SwaSpec.V u n h (⟨p.val / 128, by omega⟩ : Fin 16) d) (sk (ix1 h)) := by
  have e := o2_apply u sl n h p d
  rw [o_apply, back] at e
  refine Eq.trans ?_ (SwaSpec.gated_eq _ _ _)
  rw [val_main_v96_apply, val_main_v95_apply, val_main_v94_apply]
  have hi : idx_main_v94 (idx_main_v95 (ix4 n h p d)) = ix3 n h p := by
    funext a
    match a with
    | ⟨0, _⟩ => rfl
    | ⟨1, _⟩ => rfl
    | ⟨2, _⟩ => rfl
  rw [hi]
  exact congrArg₂ (fun a b : EReal => a * b) e (gate_apply u sl sk n h p)

theorem out_eq : val_main_v99 (F := Ideal) u sl sk = SwaSpec.out u sl sk := by
  funext y
  obtain ⟨n, p, l, rfl⟩ : ∃ (n : Fin 8) (p : Fin 2048) (l : Fin 1024), y = ix3 n p l := ⟨y 0, y 1, y 2, by
    funext a
    match a with
    | ⟨0, _⟩ => rfl
    | ⟨1, _⟩ => rfl
    | ⟨2, _⟩ => rfl⟩
  have e := merged_apply u sl sk n (⟨l.val / 128, by omega⟩ : Fin 8) p (⟨l.val % 128, by omega⟩ : Fin 128)
  refine Eq.trans ?_ e
  unfold val_main_v99 val_main_v98 val_main_v97
  generalize val_main_v96 (F := Ideal) u sl sk = z
  pointwise

end Cert.SwaRef
-- ==== Proof.ConvRun.lean ====
/- The derived facts of the convolution, together. -/
module

public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.ConvIdeal.Value
-- ==== Proof.FinalSpec.lean ====
module
public import proofs.«01_k».proof.Proof.Rms
/-! # The last norm, as a formula over the extended reals -/
@[expose] public section
noncomputable section
namespace Cert.FinalSpec
open Idealize.ShloMosaic

abbrev X : Shape := ⟨2, ![16384, 4096]⟩
abbrev G : Shape := ⟨1, ![4096]⟩

/-- Row `t`, column `n`: the entry, by the row's factor, by the column's gain. -/
def cell (x : FVec Ideal X .f32) (g : FVec Ideal G .f32) (t : Fin 16384) (n : Fin 4096) : EReal :=
  x (ix2 t n) * Rms.factor Rms.len4096 (∑ k : Fin 4096, x (ix2 t k) * x (ix2 t k)) * g (ix1 n)

/-- The normalized rows. -/
def out (x : FVec Ideal X .f32) (g : FVec Ideal G .f32) : FVec Ideal X .f32 := fun y => cell x g (y 0) (y 1)

end Cert.FinalSpec
-- ==== Proof.FinalArray.lean ====
module
public import proofs.«01_k».proof.Proof.Gen.FinalIdeal.Value
public import proofs.«01_k».proof.Proof.FinalSpec
public import Idealize.ShloMosaic.Lib.Pipeline.ValueKit
/-! # The array the last norm's kernel leaves -/
@[expose] public section
set_option maxRecDepth 16384
noncomputable section
namespace Cert.FinalRow
open Cert.FinalIdeal Cert.FinalIdeal.Gen
open Idealize.ShloMosaic Idealize.ShloMosaic.TcCoe

theorem z2 : (![0, 0] : Fin 2 → Nat) = fun _ => 0 := funext fun a => by fin_cases a <;> rfl

/-- What a block leaves. -/
theorem rows_apply (x : FVec Ideal S512x4096 .f32) (g : FVec Ideal S1x4096 .f32) (p : Fin 512) (n : Fin 4096) :
    out0_2 (F := Ideal) x g (ix2 p n)
      = x (ix2 p n) * Rms.factor Rms.len4096 (∑ k : Fin 4096, x (ix2 p k) * x (ix2 p k)) * g (ix2 (0 : Fin 1) n) := by
  unfold out0_2
  rw [View.canon_unit_zero z2, View.ld_unit_zero (S := S512x4096) z2, View.ld_unit_zero (S := S1x4096) z2]
  unfold k0_pay1 Rms.factor
  pointwise
  try simp

variable (m : (ℓ : Loc nD τ sig) → Buf (Elt Ideal) ℓ) (c : Dev nD) (t : Fin cfg0.N)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val, 0] := (by decide +kernel : ∀ t : Fin grid0.N, _)

theorem lt_N (t : Fin cfg0.N) : t.val < 32 := Nat.lt_of_lt_of_eq t.isLt N_0

/-- The array's row of a block's row. -/
def row (p : Fin 512) : Fin 16384 := ⟨t.val * 512 + p.val, by have := lt_N t; omega⟩

/-- The arrays the arguments of a launch on device `c` name: the rows and the gains. -/
abbrev argX : FVec Ideal FinalSpec.X .f32 := m ((c : Thread nD τ).loc main_arg0)
abbrev argG : FVec Ideal FinalSpec.G .f32 := m ((c : Thread nD τ).loc main_arg1)

theorem x_blk (p : Fin 512) (k : Fin 4096) : iblk m c 0 t (ix2 p k) = argX m c (ix2 (row t p) k) := by
  unfold row
  blk_simp [iblk]
  rw [V_main_arg0]
  congr 1
  blk_ext [e0]

/-- The gains as the region finds them. -/
theorem V_g (n : Fin 4096) : V m c main_v0 (ix2 (0 : Fin 1) n) = argG m c (ix1 n) := by
  have h : V m c main_v0 = (shapeCast S1x4096 (argG m c) shapeCasts_S4096_S1x4096 : FVec Ideal S1x4096 .f32) := by
    unfold V
    after_results <;> rfl
  rw [h]
  pointwise

theorem g_blk (n : Fin 4096) : iblk m c 1 t (ix2 0 n) = argG m c (ix1 n) := by
  rw [← V_g]
  blk_simp [iblk]
  congr 1
  blk_ext [e1]

/-- The normalized rows. -/
theorem final2 : (dats m 0 c).arrAt 2 cfg0.N = FinalSpec.out (argX m c) (argG m c) := by
  refine (dats m 0 c).arrAt_eq_of_covers 2 _ (by decide +kernel) fun t hf y => ?_
  blk_simp
  rw [after0_2]
  obtain ⟨p, n, rfl⟩ : ∃ (p : Fin 512) (n : Fin 4096), y = ix2 p n := ⟨y 0, y 1, by
    funext a
    match a with
    | ⟨0, _⟩ => rfl
    | ⟨1, _⟩ => rfl⟩
  have e : (win0_2.blk t).view.emb (ix2 p n) = ix2 (row t p) n := by
    unfold row
    blk_ext [e2]
  rw [e]
  refine (rows_apply _ _ p n).trans ?_
  show _ = FinalSpec.cell (argX m c) (argG m c) (row t p) n
  unfold FinalSpec.cell
  rw [x_blk m c t, g_blk m c t]
  refine congrArg (fun s => argX m c (ix2 (row t p) n) * Rms.factor Rms.len4096 s * argG m c (ix1 n)) ?_
  exact Finset.sum_congr rfl fun k _ => congrArg₂ (· * ·) (x_blk m c t p k) (x_blk m c t p k)

end Cert.FinalRow
-- ==== Proof.FinalRefValue.lean ====
module
public import proofs.«01_k».proof.Proof.Gen.FinalRefIdeal.Read
public import proofs.«01_k».proof.Proof.FinalSpec
/-! # The reference's last norm is the formula -/
@[expose] public section
noncomputable section
namespace Cert.FinalRefIdeal.Last
open Cert.FinalRefIdeal Cert.FinalRefIdeal.Read
open Idealize.ShloMosaic

variable (x0 : FVec Ideal FinalSpec.X .f32) (x1 : FVec Ideal FinalSpec.G .f32)

theorem out_eq : val_main_v12 (F := Ideal) x0 x1 = FinalSpec.out x0 x1 := by
  funext y
  obtain ⟨t, n, rfl⟩ : ∃ (t : Fin 16384) (n : Fin 4096), y = ix2 t n := ⟨y 0, y 1, by
    funext a
    match a with
    | ⟨0, _⟩ => rfl
    | ⟨1, _⟩ => rfl⟩
  show _ = FinalSpec.cell x0 x1 t n
  unfold FinalSpec.cell Rms.factor
  unfold val_main_v12 val_main_v11 val_main_v10 val_main_v9 val_main_v8 val_main_v7 val_main_v6 val_main_v5 val_main_v4 val_main_v3
    val_main_v2 val_main_v1 val_main_v0 val_main_cst val_main_cst_0 val_main_cst_1
  pointwise
  try simp

end Cert.FinalRefIdeal.Last
-- ==== Proof.ConvSpec.lean ====
module
public import proofs.«01_k».proof.Proof.Rms
/-! # The convolution module, as a formula over the extended reals -/
@[expose] public section
noncomputable section
namespace Cert.ConvSpec
open Idealize.ShloMosaic

abbrev U : Shape := ⟨3, ![8, 2048, 2048]⟩
abbrev W : Shape := ⟨2, ![31, 1024]⟩
abbrev C : Shape := ⟨1, ![1024]⟩
abbrev O : Shape := ⟨3, ![8, 2048, 1024]⟩

/-- A value and its gate. -/
def glu (a g : EReal) : EReal := a * Ideal.logistic g

/-- The gated input of sequence `n` at position `s`, channel `c`: the second half of the channels gates the first. -/
def gated (u : FVec Ideal U .f32) (n : Fin 8) (s : Fin 2048) (c : Fin 1024) : EReal :=
  glu (u (ix3 n s (⟨c.val, by omega⟩ : Fin 2048))) (u (ix3 n s (⟨1024 + c.val, by omega⟩ : Fin 2048)))

/-- The gated input at position `j - 15`, with zeros before the first position and after the last. -/
def ext (u : FVec Ideal U .f32) (n : Fin 8) (j : Nat) (c : Fin 1024) : EReal :=
  if h : 15 ≤ j ∧ j < 2063 then gated u n ⟨j - 15, by omega⟩ c else 0

/-- The 31 taps around position `s`, each channel with its own weights, and the channel's bias. -/
def conv (u : FVec Ideal U .f32) (w : FVec Ideal W .f32) (b : FVec Ideal C .f32) (n : Fin 8) (s : Fin 2048) (c : Fin 1024) : EReal :=
  (∑ k : Fin 31, ext u n (s.val + k.val) c * w (ix2 k c)) + b (ix1 c)

/-- The mean of a row. -/
def mean (f : Fin 1024 → EReal) : EReal := Ideal.div (∑ k : Fin 1024, f k) Rms.len1024

/-- Entry `c` of the row `f` with its mean taken off, by the root of its mean square, with a gain and a shift. -/
def norm (f g b : Fin 1024 → EReal) (c : Fin 1024) : EReal :=
  (f c - mean f) * Rms.factor Rms.len1024 (∑ k : Fin 1024, (f k - mean f) * (f k - mean f)) * g c + b c

/-- A value gated by itself. -/
def act (y : EReal) : EReal := y * Ideal.logistic y

/-- The module's result at sequence `n`, position `s`, channel `c`. -/
def cell (u : FVec Ideal U .f32) (w : FVec Ideal W .f32) (b g h : FVec Ideal C .f32) (n : Fin 8) (s : Fin 2048) (c : Fin 1024) : EReal :=
  act (norm (fun k => conv u w b n s k) (fun k => g (ix1 k)) (fun k => h (ix1 k)) c)

/-- The module. -/
def out (u : FVec Ideal U .f32) (w : FVec Ideal W .f32) (b g h : FVec Ideal C .f32) : FVec Ideal O .bf16 := fun y =>
  cell u w b g h (y 0) (y 1) (y 2)

end Cert.ConvSpec
-- ==== Proof.ConvScratch.lean ====
module
public import proofs.«01_k».proof.Proof.Gen.ConvIdeal.Value
public import proofs.«01_k».proof.Proof.ConvSpec
public import Idealize.ShloMosaic.Lib.Pipeline.ValueKit
/-! # The gated rows a block keeps in its scratch buffers, and what its loads of them read

A block keeps the gated input of its 256 positions with 16 positions before and 16 after, and seven copies of these
rows, each moved by one row more. -/
@[expose] public section
set_option maxRecDepth 16384
noncomputable section
namespace Cert.ConvRow
open Cert.ConvIdeal Cert.ConvIdeal.Gen
open Idealize.ShloMosaic Idealize.ShloMosaic.TcCoe

theorem z2 : (![0, 0] : Fin 2 → Nat) = fun _ => 0 := funext fun a => by fin_cases a <;> rfl
theorem z3 : (![0, 0, 0] : Fin 3 → Nat) = fun _ => 0 := funext fun a => by fin_cases a <;> rfl

/-- One if there are positions before the block's, else zero; and the same after the block's. -/
def before (i : grid0.Coords) : EReal := if 0 < (i 1).val then 1 else 0
def after (i : grid0.Coords) : EReal := if (i 1).val < 7 then 1 else 0

theorem sit0 : (FloatOps.sitofp .f32 (0#32) : Ideal .f32) = (0 : EReal) := by
  show (((0#32 : BitVec 32).toInt : ℝ) : EReal) = 0
  simp
theorem sit1 : (FloatOps.sitofp .f32 (1#32) : Ideal .f32) = (1 : EReal) := by
  show (((1#32 : BitVec 32).toInt : ℝ) : EReal) = 1
  simp

theorem before_word : ∀ k : Fin 8, (Scalar.extui (Scalar.cmpi .sgt (BitVec.ofNat 32 k.val) 0#32) : BitVec 32) = if 0 < k.val then 1#32 else 0#32 := by
  decide
theorem after_word : ∀ k : Fin 8, (Scalar.extui (Scalar.cmpi .slt (BitVec.ofNat 32 k.val) 7#32) : BitVec 32) = if k.val < 7 then 1#32 else 0#32 := by
  decide

theorem before_eq (i : grid0.Coords) :
    (FloatOps.sitofp .f32 (Scalar.extui (Scalar.cmpi .sgt (BitVec.ofNat 32 (i 1).val) 0#32) : BitVec 32) : Ideal .f32) = before i := by
  unfold before
  rw [before_word (i 1)]
  split
  · exact sit1
  · exact sit0
theorem after_eq (i : grid0.Coords) : k0_pay2 (F := Ideal) i = after i := by
  show (FloatOps.sitofp .f32 (Scalar.extui (Scalar.cmpi .slt (BitVec.ofNat 32 (i 1).val) 7#32) : BitVec 32) : Ideal .f32) = after i
  unfold after
  rw [after_word (i 1)]
  split
  · exact sit1
  · exact sit0

section
variable (i : grid0.Coords) (x0 x1 : FVec Ideal S1x256x1024 .f32) (x2 x3 x4 x5 : FVec Ideal S1x16x1024 .f32)

/-- Row `j`, channel `c` of the gated rows. -/
def gat (j : Nat) (c : Fin 1024) : EReal :=
  if h : j < 16 then ConvSpec.glu (x2 (ix3 0 ⟨j, h⟩ c)) (x3 (ix3 0 ⟨j, h⟩ c)) * before i
  else if h' : j < 272 then ConvSpec.glu (x0 (ix3 0 ⟨j - 16, by omega⟩ c)) (x1 (ix3 0 ⟨j - 16, by omega⟩ c))
  else if h'' : j < 288 then ConvSpec.glu (x4 (ix3 0 ⟨j - 272, by omega⟩ c)) (x5 (ix3 0 ⟨j - 272, by omega⟩ c)) * after i
  else 0

theorem lo (p : Fin 16) (c : Fin 1024) : k0_pay3 (F := Ideal) i x2 x3 (ix2 p c) = gat i x0 x1 x2 x3 x4 x5 p.val c := by
  unfold gat
  rw [dif_pos p.isLt, ← before_eq]
  unfold k0_pay3 ConvSpec.glu
  pointwise
  try rfl

theorem mid (p : Fin 256) (c : Fin 1024) : k0_pay4 (F := Ideal) x0 x1 (ix2 p c) = gat i x0 x1 x2 x3 x4 x5 (16 + p.val) c := by
  unfold gat
  rw [dif_neg (by omega), dif_pos (by omega)]
  unfold k0_pay4 ConvSpec.glu
  pointwise
  try simp

theorem hi (p : Fin 16) (c : Fin 1024) :
    k0_pay6 (F := Ideal) (k0_pay2 i) (k0_pay5 x4 x5) (ix2 p c) = gat i x0 x1 x2 x3 x4 x5 (272 + p.val) c := by
  unfold gat
  rw [dif_neg (by omega), dif_neg (by omega), dif_pos (by omega), ← after_eq]
  unfold k0_pay6 k0_pay5 ConvSpec.glu
  pointwise
  try simp

end

variable (c : Dev nD) (i : grid0.Coords)
  (arg2 : Memref sig .tc .vmem S1x256x1024 .f32) (harg2 : arg2.IsWhole) (arg3 : Memref sig .tc .vmem S1x256x1024 .f32) (harg3 : arg3.IsWhole)
  (arg4 : Memref sig .tc .vmem S1x16x1024 .f32) (harg4 : arg4.IsWhole) (arg5 : Memref sig .tc .vmem S1x16x1024 .f32) (harg5 : arg5.IsWhole)
  (arg6 : Memref sig .tc .vmem S1x16x1024 .f32) (harg6 : arg6.IsWhole) (arg7 : Memref sig .tc .vmem S1x16x1024 .f32) (harg7 : arg7.IsWhole)
  (arg13 : Memref sig .tc .vmem S288x1024 .f32) (arg15 : Memref sig .tc .vmem S7x280x1024 .f32)
  (x0 x1 : FVec Ideal S1x256x1024 .f32) (x2 x3 x4 x5 : FVec Ideal S1x16x1024 .f32)

/-- The rows, as an array. -/
def rows : FVec Ideal S288x1024 .f32 := fun y => gat i x0 x1 x2 x3 x4 x5 (y 0).val (y 1)

theorem rows_at (y : S288x1024.Idx) (j : Nat) (d : Fin 1024) (h0 : (y 0).val = j) (h1 : (y 1).val = d.val) :
    rows i x0 x1 x2 x3 x4 x5 y = gat i x0 x1 x2 x3 x4 x5 j d := by
  unfold rows
  exact congrArg₂ (gat i x0 x1 x2 x3 x4 x5) h0 (Fin.ext h1)

theorem idx2 {a b : Nat} (x : (⟨2, ![a, b]⟩ : Shape).Idx) : ∃ (p : Fin a) (d : Fin b), x = ix2 p d := ⟨x 0, x 1, by
  funext a
  match a with
  | ⟨0, _⟩ => rfl
  | ⟨1, _⟩ => rfl⟩
theorem idx3 {a b : Nat} (x : (⟨3, ![1, a, b]⟩ : Shape).Idx) : ∃ (p : Fin a) (d : Fin b), x = ix3 0 p d := ⟨x 1, x 2, by
  funext a
  match a with
  | ⟨0, _⟩ => exact Subsingleton.elim (α := Fin 1) _ _
  | ⟨1, _⟩ => rfl
  | ⟨2, _⟩ => rfl⟩

/-- The stores of the rows, and those of the copies. -/
abbrev stored0 : List (View.Piece (Elt Ideal) S288x1024 .f32) := kernelRun0_A.sl.HS0_3 (F := Ideal) c i arg2 harg2 arg3 harg3 arg4 harg4 arg5 harg5 arg6 harg6 arg7 harg7 x0 x1 x2 x3 x4 x5
abbrev stored2 : List (View.Piece (Elt Ideal) S7x280x1024 .f32) := kernelRun0_A.sl.HS2_7 (F := Ideal) c i arg2 harg2 arg3 harg3 arg4 harg4 arg5 harg5 arg6 harg6 arg7 harg7 arg13 x0 x1 x2 x3 x4 x5

theorem rows_eq : View.canon (stored0 c i arg2 harg2 arg3 harg3 arg4 harg4 arg5 harg5 arg6 harg6 arg7 harg7 x0 x1 x2 x3 x4 x5) = rows i x0 x1 x2 x3 x4 x5 := by
  funext y
  unfold stored0 kernelRun0_A.sl.HS0_3 kernelRun0_A.sl.r
  simp only [View.readAt_eq_ld, harg2.read_unread, harg3.read_unread, harg4.read_unread, harg5.read_unread, harg6.read_unread,
    harg7.read_unread, View.ld_unit_zero (S := S1x256x1024) z3, View.ld_unit_zero (S := S1x16x1024) z3]
  refine View.canon_apply_of_pieces _ _ (fun p hp => ?_) y ?_
  · simp only [List.mem_cons, List.not_mem_nil, or_false] at hp
    rcases hp with rfl | rfl | rfl
    · intro x
      obtain ⟨p, d, rfl⟩ : ∃ (p : Fin 16) (d : Fin 1024), x = ix2 p d := idx2 x
      have h : ∀ a, ((Rect.unit (s := S288x1024) ![272, 0] S16x1024.size inb_S288x1024_S16x1024_272_0).emb (ix2 p d) a).val
        = ![272, 0] a + (ix2 p d a).val := fun a => Rect.idx_unit_val ..
      exact (hi i x0 x1 x2 x3 x4 x5 p d).trans (rows_at i x0 x1 x2 x3 x4 x5 _ _ d (h 0) ((h 1).trans (Nat.zero_add _))).symm
    · intro x
      obtain ⟨p, d, rfl⟩ : ∃ (p : Fin 256) (d : Fin 1024), x = ix2 p d := idx2 x
      have h : ∀ a, ((Rect.unit (s := S288x1024) ![16, 0] S256x1024.size inb_S288x1024_S256x1024_16_0).emb (ix2 p d) a).val
        = ![16, 0] a + (ix2 p d a).val := fun a => Rect.idx_unit_val ..
      exact (mid i x0 x1 x2 x3 x4 x5 p d).trans (rows_at i x0 x1 x2 x3 x4 x5 _ _ d (h 0) ((h 1).trans (Nat.zero_add _))).symm
    · intro x
      obtain ⟨p, d, rfl⟩ : ∃ (p : Fin 16) (d : Fin 1024), x = ix2 p d := idx2 x
      have h : ∀ a, ((Rect.unit (s := S288x1024) ![0, 0] S16x1024.size inb_S288x1024_S16x1024_0_0).emb (ix2 p d) a).val
        = ![0, 0] a + (ix2 p d a).val := fun a => Rect.idx_unit_val ..
      exact (lo i x0 x1 x2 x3 x4 x5 p d).trans
        (rows_at i x0 x1 x2 x3 x4 x5 _ _ d ((h 0).trans (Nat.zero_add _)) ((h 1).trans (Nat.zero_add _))).symm
  · have h0 : (y 0).val < 288 := (y 0).isLt
    have h1 : (y 1).val < 1024 := (y 1).isLt
    by_cases ha : (y 0).val < 16
    · refine ⟨_, .tail _ (.tail _ (.head _)), (Rect.mem_set_unit (inb := inb_S288x1024_S16x1024_0_0)).mpr fun a => ?_⟩
      match a with
      | ⟨0, _⟩ => exact ⟨Nat.zero_le _, show (y 0).val < 0 + 16 by omega⟩
      | ⟨1, _⟩ => exact ⟨Nat.zero_le _, show (y 1).val < 0 + 1024 by omega⟩
    · by_cases hb : (y 0).val < 272
      · refine ⟨_, .tail _ (.head _), (Rect.mem_set_unit (inb := inb_S288x1024_S256x1024_16_0)).mpr fun a => ?_⟩
        match a with
        | ⟨0, _⟩ => exact ⟨show 16 ≤ (y 0).val by omega, show (y 0).val < 16 + 256 by omega⟩
        | ⟨1, _⟩ => exact ⟨Nat.zero_le _, show (y 1).val < 0 + 1024 by omega⟩
      · refine ⟨_, .head _, (Rect.mem_set_unit (inb := inb_S288x1024_S16x1024_272_0)).mpr fun a => ?_⟩
        match a with
        | ⟨0, _⟩ => exact ⟨show 272 ≤ (y 0).val by omega, show (y 0).val < 272 + 16 by omega⟩
        | ⟨1, _⟩ => exact ⟨Nat.zero_le _, show (y 1).val < 0 + 1024 by omega⟩

/-- A load of the rows from row `r`. -/
theorem slab_load (r : Nat) (inb : ∀ a, ![r, 0] a + S280x1024.size a ≤ S288x1024.size a) (p : Fin 280) (d : Fin 1024) :
    arg13.view.readCov (stored0 c i arg2 harg2 arg3 harg3 arg4 harg4 arg5 harg5 arg6 harg6 arg7 harg7 x0 x1 x2 x3 x4 x5) (Rect.unit (s := S288x1024) ![r, 0] S280x1024.size inb).toLoadRect (ix2 p d)
      = gat i x0 x1 x2 x3 x4 x5 (r + p.val) d := by
  rw [View.readCov_eq_canon', rows_eq]
  have h : ∀ a, ((Rect.unit (s := S288x1024) ![r, 0] S280x1024.size inb).toLoadRect.idx (ix2 p d) a).val
    = ![r, 0] a + (ix2 p d a).val := fun a => Rect.idx_unit_val ..
  exact rows_at i x0 x1 x2 x3 x4 x5 _ _ d (h 0) ((h 1).trans (Nat.zero_add _))

theorem col_lt {a b k : Nat} (inb : ∀ e, ![a, k] e + S256x128.size e ≤ (⟨2, ![b, 1024]⟩ : Shape).size e) (l : Fin 128) : k + l.val < 1024 := by
  have : k + 128 ≤ 1024 := inb 1
  omega
theorem col_lt1 {a b k : Nat} (inb : ∀ e, ![a, k] e + S1x128.size e ≤ (⟨2, ![b, 1024]⟩ : Shape).size e) (l : Fin 128) : k + l.val < 1024 := by
  have : k + 128 ≤ 1024 := inb 1
  omega
theorem col_lt3 {a a' k : Nat} (inb : ∀ e, ![a, a', k] e + S1x256x128.size e ≤ S7x280x1024.size e) (l : Fin 128) : k + l.val < 1024 := by
  have : k + 128 ≤ 1024 := inb 2
  omega

/-- A load of 128 channels of the rows from row `r`. -/
theorem rows_load (r k : Nat) (inb : ∀ a, ![r, k] a + S256x128.size a ≤ S288x1024.size a) (p : Fin 256) (l : Fin 128) :
    arg13.view.readCov (stored0 c i arg2 harg2 arg3 harg3 arg4 harg4 arg5 harg5 arg6 harg6 arg7 harg7 x0 x1 x2 x3 x4 x5) (Rect.unit (s := S288x1024) ![r, k] S256x128.size inb).toLoadRect (ix2 p l)
      = gat i x0 x1 x2 x3 x4 x5 (r + p.val) ⟨k + l.val, col_lt inb l⟩ := by
  rw [View.readCov_eq_canon', rows_eq]
  have h : ∀ a, ((Rect.unit (s := S288x1024) ![r, k] S256x128.size inb).toLoadRect.idx (ix2 p l) a).val
    = ![r, k] a + (ix2 p l a).val := fun a => Rect.idx_unit_val ..
  exact rows_at i x0 x1 x2 x3 x4 x5 _ _ ⟨k + l.val, col_lt inb l⟩ (h 0) (h 1)

/-- The seven copies, as an array. -/
def copies : FVec Ideal S7x280x1024 .f32 := fun y => gat i x0 x1 x2 x3 x4 x5 ((y 0).val + 1 + (y 1).val) (y 2)

theorem copies_at (y : S7x280x1024.Idx) (j : Nat) (d : Fin 1024) (h0 : (y 0).val + 1 + (y 1).val = j) (h1 : (y 2).val = d.val) :
    copies i x0 x1 x2 x3 x4 x5 y = gat i x0 x1 x2 x3 x4 x5 j d := by
  unfold copies
  exact congrArg₂ (gat i x0 x1 x2 x3 x4 x5) h0 (Fin.ext h1)

/-- A copy's payload is the rows from its row on. -/
theorem copy_piece (r : Nat) (v : FVec Ideal S280x1024 .f32) (inb : ∀ a, ![r, 0, 0] a + S1x280x1024.size a ≤ S7x280x1024.size a)
    (hv : ∀ (p : Fin 280) (d : Fin 1024), v (ix2 p d) = gat i x0 x1 x2 x3 x4 x5 (r + 1 + p.val) d)
    (x : (Rect.unit (s := S7x280x1024) ![r, 0, 0] S1x280x1024.size inb).shape.Idx) :
    (shapeCast S1x280x1024 v shapeCasts_S280x1024_S1x280x1024 : FVec Ideal S1x280x1024 .f32) x
      = copies i x0 x1 x2 x3 x4 x5 ((Rect.unit (s := S7x280x1024) ![r, 0, 0] S1x280x1024.size inb).emb x) := by
  obtain ⟨p, d, rfl⟩ : ∃ (p : Fin 280) (d : Fin 1024), x = ix3 0 p d := idx3 x
  have h : ∀ a, ((Rect.unit (s := S7x280x1024) ![r, 0, 0] S1x280x1024.size inb).emb (ix3 0 p d) a).val
    = ![r, 0, 0] a + (ix3 (0 : Fin 1) p d a).val := fun a => Rect.idx_unit_val ..
  refine Eq.trans ?_ (copies_at i x0 x1 x2 x3 x4 x5 _ (r + 1 + p.val) d ?_ ((h 2).trans (Nat.zero_add _))).symm
  · rw [← hv]
    pointwise
  · rw [h 0, h 1]
    show r + 0 + 1 + (0 + p.val) = r + 1 + p.val
    omega

theorem copies_cover (y : S7x280x1024.Idx) : ∃ p ∈ (stored2 c i arg2 harg2 arg3 harg3 arg4 harg4 arg5 harg5 arg6 harg6 arg7 harg7 arg13 x0 x1 x2 x3 x4 x5), y ∈ p.1.set :=
  View.cover_of_tiled (stored2 c i arg2 harg2 arg3 harg3 arg4 harg4 arg5 harg5 arg6 harg6 arg7 harg7 arg13 x0 x1 x2 x3 x4 x5) S1x280x1024.size (by rfl) y

theorem copies_eq : View.canon (stored2 c i arg2 harg2 arg3 harg3 arg4 harg4 arg5 harg5 arg6 harg6 arg7 harg7 arg13 x0 x1 x2 x3 x4 x5) = copies i x0 x1 x2 x3 x4 x5 := by
  funext y
  refine View.canon_apply_of_pieces _ _ (fun p hp => ?_) y (copies_cover ..)
  unfold stored2 kernelRun0_A.sl.HS2_7 at hp
  simp only [List.mem_cons, List.not_mem_nil, or_false] at hp
  rcases hp with rfl | rfl | rfl | rfl | rfl | rfl | rfl
  · exact copy_piece i x0 x1 x2 x3 x4 x5 6 _ inb_S7x280x1024_S1x280x1024_6_0_0 fun p d =>
      slab_load c i arg2 harg2 arg3 harg3 arg4 harg4 arg5 harg5 arg6 harg6 arg7 harg7 arg13 x0 x1 x2 x3 x4 x5 7 inb_S288x1024_S280x1024_7_0 p d
  · exact copy_piece i x0 x1 x2 x3 x4 x5 5 _ inb_S7x280x1024_S1x280x1024_5_0_0 fun p d =>
      slab_load c i arg2 harg2 arg3 harg3 arg4 harg4 arg5 harg5 arg6 harg6 arg7 harg7 arg13 x0 x1 x2 x3 x4 x5 6 inb_S288x1024_S280x1024_6_0 p d
  · exact copy_piece i x0 x1 x2 x3 x4 x5 4 _ inb_S7x280x1024_S1x280x1024_4_0_0 fun p d =>
      slab_load c i arg2 harg2 arg3 harg3 arg4 harg4 arg5 harg5 arg6 harg6 arg7 harg7 arg13 x0 x1 x2 x3 x4 x5 5 inb_S288x1024_S280x1024_5_0 p d
  · exact copy_piece i x0 x1 x2 x3 x4 x5 3 _ inb_S7x280x1024_S1x280x1024_3_0_0 fun p d =>
      slab_load c i arg2 harg2 arg3 harg3 arg4 harg4 arg5 harg5 arg6 harg6 arg7 harg7 arg13 x0 x1 x2 x3 x4 x5 4 inb_S288x1024_S280x1024_4_0 p d
  · exact copy_piece i x0 x1 x2 x3 x4 x5 2 _ inb_S7x280x1024_S1x280x1024_2_0_0 fun p d =>
      slab_load c i arg2 harg2 arg3 harg3 arg4 harg4 arg5 harg5 arg6 harg6 arg7 harg7 arg13 x0 x1 x2 x3 x4 x5 3 inb_S288x1024_S280x1024_3_0 p d
  · exact copy_piece i x0 x1 x2 x3 x4 x5 1 _ inb_S7x280x1024_S1x280x1024_1_0_0 fun p d =>
      slab_load c i arg2 harg2 arg3 harg3 arg4 harg4 arg5 harg5 arg6 harg6 arg7 harg7 arg13 x0 x1 x2 x3 x4 x5 2 inb_S288x1024_S280x1024_2_0 p d
  · exact copy_piece i x0 x1 x2 x3 x4 x5 0 _ inb_S7x280x1024_S1x280x1024_0_0_0 fun p d =>
      slab_load c i arg2 harg2 arg3 harg3 arg4 harg4 arg5 harg5 arg6 harg6 arg7 harg7 arg13 x0 x1 x2 x3 x4 x5 1 inb_S288x1024_S280x1024_1_0 p d

/-- A load of 128 channels of copy `r` from row `b`. -/
theorem copies_load (r b k : Nat) (inb : ∀ a, ![r, b, k] a + S1x256x128.size a ≤ S7x280x1024.size a) (p : Fin 256) (l : Fin 128) :
    arg15.view.readCov (stored2 c i arg2 harg2 arg3 harg3 arg4 harg4 arg5 harg5 arg6 harg6 arg7 harg7 arg13 x0 x1 x2 x3 x4 x5) (Rect.unit (s := S7x280x1024) ![r, b, k] S1x256x128.size inb).toLoadRect (ix3 0 p l)
      = gat i x0 x1 x2 x3 x4 x5 (r + b + 1 + p.val) ⟨k + l.val, col_lt3 inb l⟩ := by
  rw [View.readCov_eq_canon', copies_eq]
  have h : ∀ a, ((Rect.unit (s := S7x280x1024) ![r, b, k] S1x256x128.size inb).toLoadRect.idx (ix3 0 p l) a).val
    = ![r, b, k] a + (ix3 (0 : Fin 1) p l a).val := fun a => Rect.idx_unit_val ..
  refine copies_at i x0 x1 x2 x3 x4 x5 _ _ ⟨k + l.val, col_lt3 inb l⟩ ?_ (h 2)
  rw [h 0, h 1]
  show r + 0 + 1 + (b + p.val) = r + b + 1 + p.val
  omega

end Cert.ConvRow
-- ==== Proof.ConvTaps.lean ====
module
public import proofs.«01_k».proof.Proof.ConvScratch
/-! # The 31 taps of a block's positions

Each group of 128 channels adds the taps in the same order; the sum is the sum over the taps. -/
@[expose] public section
set_option maxRecDepth 16384
noncomputable section
namespace Cert.ConvRow
open Cert.ConvIdeal Cert.ConvIdeal.Gen
open Idealize.ShloMosaic Idealize.ShloMosaic.TcCoe

/-- Tap `k` of channel `d`. -/
def wt (x6 : FVec Ideal S31x1024 .f32) (k : Nat) (d : Fin 1024) : EReal := if h : k < 31 then x6 (ix2 ⟨k, h⟩ d) else 0

/-- The order of the kernel's sum does not matter. -/
theorem sum_order (f : Nat → EReal) : f 7 + f 15 + f 23 + f 0 + f 8 + f 16 + f 24 + f 1 + f 9 + f 17 + f 25 + f 2 + f 10 + f 18 + f 26 + f 3 + f 11 + f 19 + f 27 + f 4 + f 12 + f 20 + f 28 + f 5 + f 13 + f 21 + f 29 + f 6 + f 14 + f 22 + f 30 = ∑ k : Fin 31, f k.val := by
  rw [Fin.sum_univ_eq_sum_range]
  simp only [Finset.sum_range_succ, Finset.sum_range_zero]
  ac_rfl

variable (c : Dev nD) (i : grid0.Coords)
  (arg2 : Memref sig .tc .vmem S1x256x1024 .f32) (harg2 : arg2.IsWhole) (arg3 : Memref sig .tc .vmem S1x256x1024 .f32) (harg3 : arg3.IsWhole)
  (arg4 : Memref sig .tc .vmem S1x16x1024 .f32) (harg4 : arg4.IsWhole) (arg5 : Memref sig .tc .vmem S1x16x1024 .f32) (harg5 : arg5.IsWhole)
  (arg6 : Memref sig .tc .vmem S1x16x1024 .f32) (harg6 : arg6.IsWhole) (arg7 : Memref sig .tc .vmem S1x16x1024 .f32) (harg7 : arg7.IsWhole)
  (arg8 : Memref sig .tc .vmem S31x1024 .f32) (harg8 : arg8.IsWhole) (arg9 : Memref sig .tc .vmem S1x1024 .f32) (harg9 : arg9.IsWhole)
  (arg13 : Memref sig .tc .vmem S288x1024 .f32) (arg15 : Memref sig .tc .vmem S7x280x1024 .f32)
  (x0 x1 : FVec Ideal S1x256x1024 .f32) (x2 x3 x4 x5 : FVec Ideal S1x16x1024 .f32)
  (x6 : FVec Ideal S31x1024 .f32) (x7 : FVec Ideal S1x1024 .f32)

/-- A load of 128 channels of a tap's weights. -/
theorem w_load (k q : Nat) (inb : ∀ a, ![k, q] a + S1x128.size a ≤ S31x1024.size a) (l : Fin 128) :
    arg8.view.readAt (Elt Ideal) (Rect.unit (s := S31x1024) ![k, q] S1x128.size inb).toLoadRect (harg8.unread x6) (ix2 0 l)
      = wt x6 k ⟨q + l.val, col_lt1 inb l⟩ := by
  simp only [View.readAt_eq_ld, harg8.read_unread]
  have hk : k < 31 := inb 0
  unfold wt
  rw [dif_pos hk]
  have h : ∀ a, ((Rect.unit (s := S31x1024) ![k, q] S1x128.size inb).emb (ix2 0 l) a).val
    = ![k, q] a + (ix2 (0 : Fin 1) l a).val := fun a => Rect.idx_unit_val ..
  refine congrArg x6 (funext fun a => Fin.ext ?_)
  match a with
  | ⟨0, _⟩ => exact h 0
  | ⟨1, _⟩ => exact h 1

/-- A load of 128 channels of the biases. -/
theorem b_load (q : Nat) (inb : ∀ a, ![0, q] a + S1x128.size a ≤ S1x1024.size a) (l : Fin 128) :
    arg9.view.readAt (Elt Ideal) (Rect.unit (s := S1x1024) ![0, q] S1x128.size inb).toLoadRect (harg9.unread x7) (ix2 0 l)
      = x7 (ix2 0 ⟨q + l.val, col_lt1 inb l⟩) := by
  simp only [View.readAt_eq_ld, harg9.read_unread]
  have h : ∀ a, ((Rect.unit (s := S1x1024) ![0, q] S1x128.size inb).emb (ix2 0 l) a).val
    = ![0, q] a + (ix2 (0 : Fin 1) l a).val := fun a => Rect.idx_unit_val ..
  refine congrArg x7 (funext fun a => Fin.ext ?_)
  match a with
  | ⟨0, _⟩ => exact h 0
  | ⟨1, _⟩ => exact h 1

theorem w_load' (k q : Nat) (inb : ∀ a, ![k, q] a + (![1, 128] : Fin 2 → Nat) a ≤ S31x1024.size a) (l : Fin 128) :
    arg8.view.readAt (Elt Ideal) (Rect.unit (s := S31x1024) ![k, q] ![1, 128] inb).toLoadRect (harg8.unread x6) (ix2 0 l)
      = wt x6 k ⟨q + l.val, col_lt1 inb l⟩ := w_load arg8 harg8 x6 k q inb l

theorem b_load' (q : Nat) (inb : ∀ a, ![0, q] a + (![1, 128] : Fin 2 → Nat) a ≤ S1x1024.size a) (l : Fin 128) :
    arg9.view.readAt (Elt Ideal) (Rect.unit (s := S1x1024) ![0, q] ![1, 128] inb).toLoadRect (harg9.unread x7) (ix2 0 l)
      = x7 (ix2 0 ⟨q + l.val, col_lt1 inb l⟩) := b_load arg9 harg9 x7 q inb l

theorem rows_load' (r k : Nat) (inb : ∀ a, ![r, k] a + (![256, 128] : Fin 2 → Nat) a ≤ S288x1024.size a) (p : Fin 256) (l : Fin 128) :
    arg13.view.readCov (kernelRun0_A.sl.HS0_3 (F := Ideal) c i arg2 harg2 arg3 harg3 arg4 harg4 arg5 harg5 arg6 harg6 arg7 harg7 x0 x1 x2 x3 x4 x5) (Rect.unit (s := S288x1024) ![r, k] ![256, 128] inb).toLoadRect (ix2 p l)
      = gat i x0 x1 x2 x3 x4 x5 (r + p.val) ⟨k + l.val, col_lt inb l⟩ :=
  rows_load c i arg2 harg2 arg3 harg3 arg4 harg4 arg5 harg5 arg6 harg6 arg7 harg7 arg13 x0 x1 x2 x3 x4 x5 r k inb p l

theorem copies_load' (r b k : Nat) (inb : ∀ a, ![r, b, k] a + (![1, 256, 128] : Fin 3 → Nat) a ≤ S7x280x1024.size a) (p : Fin 256) (l : Fin 128) :
    arg15.view.readCov (kernelRun0_A.sl.HS2_7 (F := Ideal) c i arg2 harg2 arg3 harg3 arg4 harg4 arg5 harg5 arg6 harg6 arg7 harg7 arg13 x0 x1 x2 x3 x4 x5) (Rect.unit (s := S7x280x1024) ![r, b, k] ![1, 256, 128] inb).toLoadRect (ix3 0 p l)
      = gat i x0 x1 x2 x3 x4 x5 (r + b + 1 + p.val) ⟨k + l.val, col_lt3 inb l⟩ :=
  copies_load c i arg2 harg2 arg3 harg3 arg4 harg4 arg5 harg5 arg6 harg6 arg7 harg7 arg13 arg15 x0 x1 x2 x3 x4 x5 r b k inb p l

/-- Position `p` of the block, channel `d`: the taps and the bias. -/
def acc (p : Nat) (d : Fin 1024) : EReal :=
  (∑ k : Fin 31, gat i x0 x1 x2 x3 x4 x5 (k.val + 1 + p) d * wt x6 k.val d) + x7 (ix2 0 d)

theorem taps0 (p : Fin 256) (l : Fin 128) :
    (k0_pay23 (F := Ideal) (kernelRun0_A.sl.r_8 c i arg2 harg2 arg3 harg3 arg4 harg4 arg5 harg5 arg6 harg6 arg7 harg7 arg8 harg8 arg13 arg15 x0 x1 x2 x3 x4 x5 x6) (kernelRun0_A.sl.r_9 c arg9 harg9 x7) : FVec Ideal S256x128 .f32) (ix2 p l)
      = acc i x0 x1 x2 x3 x4 x5 x6 x7 p.val ⟨0 + l.val, by omega⟩ := by
  unfold kernelRun0_A.sl.r_8 kernelRun0_A.sl.r_7 kernelRun0_A.sl.r_5 kernelRun0_A.sl.r_4 kernelRun0_A.sl.r_2 kernelRun0_A.sl.r_1 kernelRun0_A.sl.r_3
    kernelRun0_A.sl.r_6 kernelRun0_A.sl.r_9 k0_pay23 k0_pay21 k0_pay20 k0_pay18 k0_pay17 k0_pay15 k0_pay14 k0_pay16 k0_pay19 k0_pay22
  pointwise
  simp only [kernelRun0_A.sl.v66, kernelRun0_A.sl.v71, kernelRun0_A.sl.v76, kernelRun0_A.sl.v81, kernelRun0_A.sl.v87, kernelRun0_A.sl.v93,
    kernelRun0_A.sl.v99, kernelRun0_A.sl.v105, kernelRun0_A.sl.v111, kernelRun0_A.sl.v117, kernelRun0_A.sl.v123, kernelRun0_A.sl.v129,
    kernelRun0_A.sl.v135, kernelRun0_A.sl.v141, kernelRun0_A.sl.v147, kernelRun0_A.sl.v153, kernelRun0_A.sl.v159, kernelRun0_A.sl.v165,
    kernelRun0_A.sl.v171, kernelRun0_A.sl.v177, kernelRun0_A.sl.v183, kernelRun0_A.sl.v189, kernelRun0_A.sl.v195, kernelRun0_A.sl.v201,
    kernelRun0_A.sl.v207, kernelRun0_A.sl.v213, kernelRun0_A.sl.v219, kernelRun0_A.sl.v225, kernelRun0_A.sl.v231, kernelRun0_A.sl.v237,
    kernelRun0_A.sl.v243, rows_load', copies_load', w_load', b_load', Ideal.ofBits_zero_f32, zero_add, Nat.reduceAdd]
  have h := sum_order fun k => gat i x0 x1 x2 x3 x4 x5 (k + 1 + p.val) ⟨0 + l.val, by omega⟩ * wt x6 k ⟨0 + l.val, by omega⟩
  simp only [zero_add, Nat.reduceAdd] at h
  unfold acc
  exact congrArg (· + _) h

theorem taps1 (p : Fin 256) (l : Fin 128) :
    (k0_pay31 (F := Ideal) (kernelRun0_A.sl.r_16 c i arg2 harg2 arg3 harg3 arg4 harg4 arg5 harg5 arg6 harg6 arg7 harg7 arg8 harg8 arg13 arg15 x0 x1 x2 x3 x4 x5 x6) (kernelRun0_A.sl.v416 c i arg2 harg2 arg3 harg3 arg4 harg4 arg5 harg5 arg6 harg6 arg7 harg7 arg13 arg15 x0 x1 x2 x3 x4 x5) (View.readAt (Elt Ideal) arg8.view (Rect.unit (s := S31x1024) ![6, 128] S1x128.size inb_S31x1024_S1x128_6_128).toLoadRect (harg8.unread x6)) (kernelRun0_A.sl.v422 c i arg2 harg2 arg3 harg3 arg4 harg4 arg5 harg5 arg6 harg6 arg7 harg7 arg13 arg15 x0 x1 x2 x3 x4 x5) (View.readAt (Elt Ideal) arg8.view (Rect.unit (s := S31x1024) ![14, 128] S1x128.size inb_S31x1024_S1x128_14_128).toLoadRect (harg8.unread x6)) (kernelRun0_A.sl.v428 c i arg2 harg2 arg3 harg3 arg4 harg4 arg5 harg5 arg6 harg6 arg7 harg7 arg13 arg15 x0 x1 x2 x3 x4 x5) (View.readAt (Elt Ideal) arg8.view (Rect.unit (s := S31x1024) ![22, 128] S1x128.size inb_S31x1024_S1x128_22_128).toLoadRect (harg8.unread x6)) (kernelRun0_A.sl.v434 c i arg2 harg2 arg3 harg3 arg4 harg4 arg5 harg5 arg6 harg6 arg7 harg7 arg13 arg15 x0 x1 x2 x3 x4 x5) (View.readAt (Elt Ideal) arg8.view (Rect.unit (s := S31x1024) ![30, 128] S1x128.size inb_S31x1024_S1x128_30_128).toLoadRect (harg8.unread x6)) (View.readAt (Elt Ideal) arg9.view (Rect.unit (s := S1x1024) ![0, 128] S1x128.size inb_S1x1024_S1x128_0_128).toLoadRect (harg9.unread x7)) : FVec Ideal S256x128 .f32) (ix2 p l)
      = acc i x0 x1 x2 x3 x4 x5 x6 x7 p.val ⟨128 + l.val, by omega⟩ := by
  unfold kernelRun0_A.sl.r_16 kernelRun0_A.sl.r_14 kernelRun0_A.sl.r_13 kernelRun0_A.sl.r_11 kernelRun0_A.sl.r_10 kernelRun0_A.sl.r_12
    kernelRun0_A.sl.r_15 k0_pay31 k0_pay30 k0_pay28 k0_pay27 k0_pay25 k0_pay24 k0_pay26 k0_pay29
  pointwise
  simp only [kernelRun0_A.sl.v257, kernelRun0_A.sl.v262, kernelRun0_A.sl.v267, kernelRun0_A.sl.v272, kernelRun0_A.sl.v278, kernelRun0_A.sl.v284,
    kernelRun0_A.sl.v290, kernelRun0_A.sl.v296, kernelRun0_A.sl.v302, kernelRun0_A.sl.v308, kernelRun0_A.sl.v314, kernelRun0_A.sl.v320,
    kernelRun0_A.sl.v326, kernelRun0_A.sl.v332, kernelRun0_A.sl.v338, kernelRun0_A.sl.v344, kernelRun0_A.sl.v350, kernelRun0_A.sl.v356,
    kernelRun0_A.sl.v362, kernelRun0_A.sl.v368, kernelRun0_A.sl.v374, kernelRun0_A.sl.v380, kernelRun0_A.sl.v386, kernelRun0_A.sl.v392,
    kernelRun0_A.sl.v398, kernelRun0_A.sl.v404, kernelRun0_A.sl.v410, kernelRun0_A.sl.v416, kernelRun0_A.sl.v422, kernelRun0_A.sl.v428,
    kernelRun0_A.sl.v434, rows_load', copies_load', w_load', b_load', Ideal.ofBits_zero_f32, zero_add, Nat.reduceAdd]
  have h := sum_order fun k => gat i x0 x1 x2 x3 x4 x5 (k + 1 + p.val) ⟨128 + l.val, by omega⟩ * wt x6 k ⟨128 + l.val, by omega⟩
  simp only [zero_add, Nat.reduceAdd] at h
  unfold acc
  exact congrArg (· + _) h

theorem taps2 (p : Fin 256) (l : Fin 128) :
    (k0_pay40 (F := Ideal) (kernelRun0_A.sl.r_23 c i arg2 harg2 arg3 harg3 arg4 harg4 arg5 harg5 arg6 harg6 arg7 harg7 arg8 harg8 arg13 arg15 x0 x1 x2 x3 x4 x5 x6) (kernelRun0_A.sl.v613 c i arg2 harg2 arg3 harg3 arg4 harg4 arg5 harg5 arg6 harg6 arg7 harg7 arg13 arg15 x0 x1 x2 x3 x4 x5) (View.readAt (Elt Ideal) arg8.view (Rect.unit (s := S31x1024) ![14, 256] S1x128.size inb_S31x1024_S1x128_14_256).toLoadRect (harg8.unread x6)) (kernelRun0_A.sl.v619 c i arg2 harg2 arg3 harg3 arg4 harg4 arg5 harg5 arg6 harg6 arg7 harg7 arg13 arg15 x0 x1 x2 x3 x4 x5) (View.readAt (Elt Ideal) arg8.view (Rect.unit (s := S31x1024) ![22, 256] S1x128.size inb_S31x1024_S1x128_22_256).toLoadRect (harg8.unread x6)) (kernelRun0_A.sl.v625 c i arg2 harg2 arg3 harg3 arg4 harg4 arg5 harg5 arg6 harg6 arg7 harg7 arg13 arg15 x0 x1 x2 x3 x4 x5) (View.readAt (Elt Ideal) arg8.view (Rect.unit (s := S31x1024) ![30, 256] S1x128.size inb_S31x1024_S1x128_30_256).toLoadRect (harg8.unread x6)) (View.readAt (Elt Ideal) arg9.view (Rect.unit (s := S1x1024) ![0, 256] S1x128.size inb_S1x1024_S1x128_0_256).toLoadRect (harg9.unread x7)) : FVec Ideal S256x128 .f32) (ix2 p l)
      = acc i x0 x1 x2 x3 x4 x5 x6 x7 p.val ⟨256 + l.val, by omega⟩ := by
  unfold kernelRun0_A.sl.r_23 kernelRun0_A.sl.r_21 kernelRun0_A.sl.r_20 kernelRun0_A.sl.r_18 kernelRun0_A.sl.r_17 kernelRun0_A.sl.r_19
    kernelRun0_A.sl.r_22 k0_pay40 k0_pay39 k0_pay37 k0_pay36 k0_pay34 k0_pay33 k0_pay32 k0_pay35 k0_pay38
  pointwise
  simp only [kernelRun0_A.sl.v448, kernelRun0_A.sl.v453, kernelRun0_A.sl.v458, kernelRun0_A.sl.v463, kernelRun0_A.sl.v469, kernelRun0_A.sl.v475,
    kernelRun0_A.sl.v481, kernelRun0_A.sl.v487, kernelRun0_A.sl.v493, kernelRun0_A.sl.v499, kernelRun0_A.sl.v505, kernelRun0_A.sl.v511,
    kernelRun0_A.sl.v517, kernelRun0_A.sl.v523, kernelRun0_A.sl.v529, kernelRun0_A.sl.v535, kernelRun0_A.sl.v541, kernelRun0_A.sl.v547,
    kernelRun0_A.sl.v553, kernelRun0_A.sl.v559, kernelRun0_A.sl.v565, kernelRun0_A.sl.v571, kernelRun0_A.sl.v577, kernelRun0_A.sl.v583,
    kernelRun0_A.sl.v589, kernelRun0_A.sl.v595, kernelRun0_A.sl.v601, kernelRun0_A.sl.v607, kernelRun0_A.sl.v613, kernelRun0_A.sl.v619,
    kernelRun0_A.sl.v625, rows_load', copies_load', w_load', b_load', Ideal.ofBits_zero_f32, zero_add, Nat.reduceAdd]
  have h := sum_order fun k => gat i x0 x1 x2 x3 x4 x5 (k + 1 + p.val) ⟨256 + l.val, by omega⟩ * wt x6 k ⟨256 + l.val, by omega⟩
  simp only [zero_add, Nat.reduceAdd] at h
  unfold acc
  exact congrArg (· + _) h

theorem taps3 (p : Fin 256) (l : Fin 128) :
    (k0_pay49 (F := Ideal) (kernelRun0_A.sl.r_31 c i arg2 harg2 arg3 harg3 arg4 harg4 arg5 harg5 arg6 harg6 arg7 harg7 arg8 harg8 arg13 arg15 x0 x1 x2 x3 x4 x5 x6) (kernelRun0_A.sl.v810 c i arg2 harg2 arg3 harg3 arg4 harg4 arg5 harg5 arg6 harg6 arg7 harg7 arg13 arg15 x0 x1 x2 x3 x4 x5) (View.readAt (Elt Ideal) arg8.view (Rect.unit (s := S31x1024) ![22, 384] S1x128.size inb_S31x1024_S1x128_22_384).toLoadRect (harg8.unread x6)) (kernelRun0_A.sl.v816 c i arg2 harg2 arg3 harg3 arg4 harg4 arg5 harg5 arg6 harg6 arg7 harg7 arg13 arg15 x0 x1 x2 x3 x4 x5) (View.readAt (Elt Ideal) arg8.view (Rect.unit (s := S31x1024) ![30, 384] S1x128.size inb_S31x1024_S1x128_30_384).toLoadRect (harg8.unread x6)) (View.readAt (Elt Ideal) arg9.view (Rect.unit (s := S1x1024) ![0, 384] S1x128.size inb_S1x1024_S1x128_0_384).toLoadRect (harg9.unread x7)) : FVec Ideal S256x128 .f32) (ix2 p l)
      = acc i x0 x1 x2 x3 x4 x5 x6 x7 p.val ⟨384 + l.val, by omega⟩ := by
  unfold kernelRun0_A.sl.r_31 kernelRun0_A.sl.r_29 kernelRun0_A.sl.r_28 kernelRun0_A.sl.r_26 kernelRun0_A.sl.r_25 kernelRun0_A.sl.r_24
    kernelRun0_A.sl.r_27 kernelRun0_A.sl.r_30 k0_pay49 k0_pay48 k0_pay46 k0_pay45 k0_pay43 k0_pay42 k0_pay41 k0_pay44 k0_pay47
  pointwise
  simp only [kernelRun0_A.sl.v639, kernelRun0_A.sl.v644, kernelRun0_A.sl.v649, kernelRun0_A.sl.v654, kernelRun0_A.sl.v660, kernelRun0_A.sl.v666,
    kernelRun0_A.sl.v672, kernelRun0_A.sl.v678, kernelRun0_A.sl.v684, kernelRun0_A.sl.v690, kernelRun0_A.sl.v696, kernelRun0_A.sl.v702,
    kernelRun0_A.sl.v708, kernelRun0_A.sl.v714, kernelRun0_A.sl.v720, kernelRun0_A.sl.v726, kernelRun0_A.sl.v732, kernelRun0_A.sl.v738,
    kernelRun0_A.sl.v744, kernelRun0_A.sl.v750, kernelRun0_A.sl.v756, kernelRun0_A.sl.v762, kernelRun0_A.sl.v768, kernelRun0_A.sl.v774,
    kernelRun0_A.sl.v780, kernelRun0_A.sl.v786, kernelRun0_A.sl.v792, kernelRun0_A.sl.v798, kernelRun0_A.sl.v804, kernelRun0_A.sl.v810,
    kernelRun0_A.sl.v816, rows_load', copies_load', w_load', b_load', Ideal.ofBits_zero_f32, zero_add, Nat.reduceAdd]
  have h := sum_order fun k => gat i x0 x1 x2 x3 x4 x5 (k + 1 + p.val) ⟨384 + l.val, by omega⟩ * wt x6 k ⟨384 + l.val, by omega⟩
  simp only [zero_add, Nat.reduceAdd] at h
  unfold acc
  exact congrArg (· + _) h

theorem taps4 (p : Fin 256) (l : Fin 128) :
    (k0_pay58 (F := Ideal) (kernelRun0_A.sl.r_40 c i arg2 harg2 arg3 harg3 arg4 harg4 arg5 harg5 arg6 harg6 arg7 harg7 arg8 harg8 arg13 arg15 x0 x1 x2 x3 x4 x5 x6) (kernelRun0_A.sl.v1007 c i arg2 harg2 arg3 harg3 arg4 harg4 arg5 harg5 arg6 harg6 arg7 harg7 arg13 arg15 x0 x1 x2 x3 x4 x5) (View.readAt (Elt Ideal) arg8.view (Rect.unit (s := S31x1024) ![30, 512] S1x128.size inb_S31x1024_S1x128_30_512).toLoadRect (harg8.unread x6)) (View.readAt (Elt Ideal) arg9.view (Rect.unit (s := S1x1024) ![0, 512] S1x128.size inb_S1x1024_S1x128_0_512).toLoadRect (harg9.unread x7)) : FVec Ideal S256x128 .f32) (ix2 p l)
      = acc i x0 x1 x2 x3 x4 x5 x6 x7 p.val ⟨512 + l.val, by omega⟩ := by
  unfold kernelRun0_A.sl.r_40 kernelRun0_A.sl.r_38 kernelRun0_A.sl.r_37 kernelRun0_A.sl.r_35 kernelRun0_A.sl.r_34 kernelRun0_A.sl.r_32
    kernelRun0_A.sl.r_33 kernelRun0_A.sl.r_36 kernelRun0_A.sl.r_39 k0_pay58 k0_pay57 k0_pay55 k0_pay54 k0_pay52 k0_pay51 k0_pay50 k0_pay53 k0_pay56
  pointwise
  simp only [kernelRun0_A.sl.v830, kernelRun0_A.sl.v835, kernelRun0_A.sl.v840, kernelRun0_A.sl.v845, kernelRun0_A.sl.v851, kernelRun0_A.sl.v857,
    kernelRun0_A.sl.v863, kernelRun0_A.sl.v869, kernelRun0_A.sl.v875, kernelRun0_A.sl.v881, kernelRun0_A.sl.v887, kernelRun0_A.sl.v893,
    kernelRun0_A.sl.v899, kernelRun0_A.sl.v905, kernelRun0_A.sl.v911, kernelRun0_A.sl.v917, kernelRun0_A.sl.v923, kernelRun0_A.sl.v929,
    kernelRun0_A.sl.v935, kernelRun0_A.sl.v941, kernelRun0_A.sl.v947, kernelRun0_A.sl.v953, kernelRun0_A.sl.v959, kernelRun0_A.sl.v965,
    kernelRun0_A.sl.v971, kernelRun0_A.sl.v977, kernelRun0_A.sl.v983, kernelRun0_A.sl.v989, kernelRun0_A.sl.v995, kernelRun0_A.sl.v1001,
    kernelRun0_A.sl.v1007, rows_load', copies_load', w_load', b_load', Ideal.ofBits_zero_f32, zero_add, Nat.reduceAdd]
  have h := sum_order fun k => gat i x0 x1 x2 x3 x4 x5 (k + 1 + p.val) ⟨512 + l.val, by omega⟩ * wt x6 k ⟨512 + l.val, by omega⟩
  simp only [zero_add, Nat.reduceAdd] at h
  unfold acc
  exact congrArg (· + _) h

theorem taps5 (p : Fin 256) (l : Fin 128) :
    (k0_pay68 (F := Ideal) (kernelRun0_A.sl.r_50 c i arg2 harg2 arg3 harg3 arg4 harg4 arg5 harg5 arg6 harg6 arg7 harg7 arg8 harg8 arg13 arg15 x0 x1 x2 x3 x4 x5 x6) (View.readAt (Elt Ideal) arg9.view (Rect.unit (s := S1x1024) ![0, 640] S1x128.size inb_S1x1024_S1x128_0_640).toLoadRect (harg9.unread x7)) : FVec Ideal S256x128 .f32) (ix2 p l)
      = acc i x0 x1 x2 x3 x4 x5 x6 x7 p.val ⟨640 + l.val, by omega⟩ := by
  unfold kernelRun0_A.sl.r_50 kernelRun0_A.sl.r_48 kernelRun0_A.sl.r_47 kernelRun0_A.sl.r_45 kernelRun0_A.sl.r_44 kernelRun0_A.sl.r_41
    kernelRun0_A.sl.r_42 kernelRun0_A.sl.r_43 kernelRun0_A.sl.r_46 kernelRun0_A.sl.r_49 k0_pay68 k0_pay67 k0_pay65 k0_pay64 k0_pay62 k0_pay61 k0_pay59
    k0_pay60 k0_pay63 k0_pay66
  pointwise
  simp only [kernelRun0_A.sl.v1021, kernelRun0_A.sl.v1026, kernelRun0_A.sl.v1031, kernelRun0_A.sl.v1036, kernelRun0_A.sl.v1042, kernelRun0_A.sl.v1048,
    kernelRun0_A.sl.v1054, kernelRun0_A.sl.v1060, kernelRun0_A.sl.v1066, kernelRun0_A.sl.v1072, kernelRun0_A.sl.v1078, kernelRun0_A.sl.v1084,
    kernelRun0_A.sl.v1090, kernelRun0_A.sl.v1096, kernelRun0_A.sl.v1102, kernelRun0_A.sl.v1108, kernelRun0_A.sl.v1114, kernelRun0_A.sl.v1120,
    kernelRun0_A.sl.v1126, kernelRun0_A.sl.v1132, kernelRun0_A.sl.v1138, kernelRun0_A.sl.v1144, kernelRun0_A.sl.v1150, kernelRun0_A.sl.v1156,
    kernelRun0_A.sl.v1162, kernelRun0_A.sl.v1168, kernelRun0_A.sl.v1174, kernelRun0_A.sl.v1180, kernelRun0_A.sl.v1186, kernelRun0_A.sl.v1192,
    kernelRun0_A.sl.v1198, rows_load', copies_load', w_load', b_load', Ideal.ofBits_zero_f32, zero_add, Nat.reduceAdd]
  have h := sum_order fun k => gat i x0 x1 x2 x3 x4 x5 (k + 1 + p.val) ⟨640 + l.val, by omega⟩ * wt x6 k ⟨640 + l.val, by omega⟩
  simp only [zero_add, Nat.reduceAdd] at h
  unfold acc
  exact congrArg (· + _) h

theorem taps6 (p : Fin 256) (l : Fin 128) :
    (kernelRun0_A.sl.r_60 c i arg2 harg2 arg3 harg3 arg4 harg4 arg5 harg5 arg6 harg6 arg7 harg7 arg8 harg8 arg9 harg9 arg13 arg15 x0 x1 x2 x3 x4 x5 x6 x7 : FVec Ideal S256x128 .f32) (ix2 p l)
      = acc i x0 x1 x2 x3 x4 x5 x6 x7 p.val ⟨768 + l.val, by omega⟩ := by
  unfold kernelRun0_A.sl.r_60 kernelRun0_A.sl.r_58 kernelRun0_A.sl.r_57 kernelRun0_A.sl.r_55 kernelRun0_A.sl.r_54 kernelRun0_A.sl.r_51
    kernelRun0_A.sl.r_52 kernelRun0_A.sl.r_53 kernelRun0_A.sl.r_56 kernelRun0_A.sl.r_59 k0_pay77 k0_pay75 k0_pay74 k0_pay72 k0_pay71 k0_pay69 k0_pay70
    k0_pay73 k0_pay76
  pointwise
  simp only [kernelRun0_A.sl.v1212, kernelRun0_A.sl.v1217, kernelRun0_A.sl.v1222, kernelRun0_A.sl.v1227, kernelRun0_A.sl.v1233, kernelRun0_A.sl.v1239,
    kernelRun0_A.sl.v1245, kernelRun0_A.sl.v1251, kernelRun0_A.sl.v1257, kernelRun0_A.sl.v1263, kernelRun0_A.sl.v1269, kernelRun0_A.sl.v1275,
    kernelRun0_A.sl.v1281, kernelRun0_A.sl.v1287, kernelRun0_A.sl.v1293, kernelRun0_A.sl.v1299, kernelRun0_A.sl.v1305, kernelRun0_A.sl.v1311,
    kernelRun0_A.sl.v1317, kernelRun0_A.sl.v1323, kernelRun0_A.sl.v1329, kernelRun0_A.sl.v1335, kernelRun0_A.sl.v1341, kernelRun0_A.sl.v1347,
    kernelRun0_A.sl.v1353, kernelRun0_A.sl.v1359, kernelRun0_A.sl.v1365, kernelRun0_A.sl.v1371, kernelRun0_A.sl.v1377, kernelRun0_A.sl.v1383,
    kernelRun0_A.sl.v1389, rows_load', copies_load', w_load', b_load', Ideal.ofBits_zero_f32, zero_add, Nat.reduceAdd]
  have h := sum_order fun k => gat i x0 x1 x2 x3 x4 x5 (k + 1 + p.val) ⟨768 + l.val, by omega⟩ * wt x6 k ⟨768 + l.val, by omega⟩
  simp only [zero_add, Nat.reduceAdd] at h
  unfold acc
  exact congrArg (· + _) h

theorem taps7 (p : Fin 256) (l : Fin 128) :
    (k0_pay86 (F := Ideal) (kernelRun0_A.sl.r_68 c i arg2 harg2 arg3 harg3 arg4 harg4 arg5 harg5 arg6 harg6 arg7 harg7 arg8 harg8 arg13 arg15 x0 x1 x2 x3 x4 x5 x6) (kernelRun0_A.sl.r_69 c i arg2 harg2 arg3 harg3 arg4 harg4 arg5 harg5 arg6 harg6 arg7 harg7 arg13 arg15 x0 x1 x2 x3 x4 x5) (View.readAt (Elt Ideal) arg8.view (Rect.unit (s := S31x1024) ![6, 896] S1x128.size inb_S31x1024_S1x128_6_896).toLoadRect (harg8.unread x6)) (kernelRun0_A.sl.v1568 c i arg2 harg2 arg3 harg3 arg4 harg4 arg5 harg5 arg6 harg6 arg7 harg7 arg13 arg15 x0 x1 x2 x3 x4 x5) (View.readAt (Elt Ideal) arg8.view (Rect.unit (s := S31x1024) ![14, 896] S1x128.size inb_S31x1024_S1x128_14_896).toLoadRect (harg8.unread x6)) (kernelRun0_A.sl.v1574 c i arg2 harg2 arg3 harg3 arg4 harg4 arg5 harg5 arg6 harg6 arg7 harg7 arg13 arg15 x0 x1 x2 x3 x4 x5) (View.readAt (Elt Ideal) arg8.view (Rect.unit (s := S31x1024) ![22, 896] S1x128.size inb_S31x1024_S1x128_22_896).toLoadRect (harg8.unread x6)) (kernelRun0_A.sl.v1580 c i arg2 harg2 arg3 harg3 arg4 harg4 arg5 harg5 arg6 harg6 arg7 harg7 arg13 arg15 x0 x1 x2 x3 x4 x5) (View.readAt (Elt Ideal) arg8.view (Rect.unit (s := S31x1024) ![30, 896] S1x128.size inb_S31x1024_S1x128_30_896).toLoadRect (harg8.unread x6)) (View.readAt (Elt Ideal) arg9.view (Rect.unit (s := S1x1024) ![0, 896] S1x128.size inb_S1x1024_S1x128_0_896).toLoadRect (harg9.unread x7)) : FVec Ideal S256x128 .f32) (ix2 p l)
      = acc i x0 x1 x2 x3 x4 x5 x6 x7 p.val ⟨896 + l.val, by omega⟩ := by
  unfold kernelRun0_A.sl.r_68 kernelRun0_A.sl.r_67 kernelRun0_A.sl.r_65 kernelRun0_A.sl.r_64 kernelRun0_A.sl.r_61 kernelRun0_A.sl.r_62
    kernelRun0_A.sl.r_63 kernelRun0_A.sl.r_66 kernelRun0_A.sl.r_69 k0_pay86 k0_pay84 k0_pay83 k0_pay81 k0_pay80 k0_pay78 k0_pay79 k0_pay82 k0_pay85
  pointwise
  simp only [kernelRun0_A.sl.v1403, kernelRun0_A.sl.v1408, kernelRun0_A.sl.v1413, kernelRun0_A.sl.v1418, kernelRun0_A.sl.v1424, kernelRun0_A.sl.v1430,
    kernelRun0_A.sl.v1436, kernelRun0_A.sl.v1442, kernelRun0_A.sl.v1448, kernelRun0_A.sl.v1454, kernelRun0_A.sl.v1460, kernelRun0_A.sl.v1466,
    kernelRun0_A.sl.v1472, kernelRun0_A.sl.v1478, kernelRun0_A.sl.v1484, kernelRun0_A.sl.v1490, kernelRun0_A.sl.v1496, kernelRun0_A.sl.v1502,
    kernelRun0_A.sl.v1508, kernelRun0_A.sl.v1514, kernelRun0_A.sl.v1520, kernelRun0_A.sl.v1526, kernelRun0_A.sl.v1532, kernelRun0_A.sl.v1538,
    kernelRun0_A.sl.v1544, kernelRun0_A.sl.v1550, kernelRun0_A.sl.v1556, kernelRun0_A.sl.v1562, kernelRun0_A.sl.v1568, kernelRun0_A.sl.v1574,
    kernelRun0_A.sl.v1580, rows_load', copies_load', w_load', b_load', Ideal.ofBits_zero_f32, zero_add, Nat.reduceAdd]
  have h := sum_order fun k => gat i x0 x1 x2 x3 x4 x5 (k + 1 + p.val) ⟨896 + l.val, by omega⟩ * wt x6 k ⟨896 + l.val, by omega⟩
  simp only [zero_add, Nat.reduceAdd] at h
  unfold acc
  exact congrArg (· + _) h

end Cert.ConvRow
-- ==== Proof.ConvBlock.lean ====
module
public import proofs.«01_k».proof.Proof.ConvTaps
/-! # What a block of the convolution module leaves in its output block -/
@[expose] public section
set_option maxRecDepth 16384
noncomputable section
namespace Cert.ConvRow
open Cert.ConvIdeal Cert.ConvIdeal.Gen
open Idealize.ShloMosaic Idealize.ShloMosaic.TcCoe

variable (c : Dev nD) (i : grid0.Coords)
  (arg2 : Memref sig .tc .vmem S1x256x1024 .f32) (harg2 : arg2.IsWhole) (arg3 : Memref sig .tc .vmem S1x256x1024 .f32) (harg3 : arg3.IsWhole)
  (arg4 : Memref sig .tc .vmem S1x16x1024 .f32) (harg4 : arg4.IsWhole) (arg5 : Memref sig .tc .vmem S1x16x1024 .f32) (harg5 : arg5.IsWhole)
  (arg6 : Memref sig .tc .vmem S1x16x1024 .f32) (harg6 : arg6.IsWhole) (arg7 : Memref sig .tc .vmem S1x16x1024 .f32) (harg7 : arg7.IsWhole)
  (arg8 : Memref sig .tc .vmem S31x1024 .f32) (harg8 : arg8.IsWhole) (arg9 : Memref sig .tc .vmem S1x1024 .f32) (harg9 : arg9.IsWhole)
  (arg10 : Memref sig .tc .vmem S1x1024 .f32) (harg10 : arg10.IsWhole) (arg11 : Memref sig .tc .vmem S1x1024 .f32) (harg11 : arg11.IsWhole)
  (arg12 : Memref sig .tc .vmem S1x256x1024 .bf16) (harg12 : arg12.IsWhole)
  (arg13 : Memref sig .tc .vmem S288x1024 .f32) (harg13 : arg13.IsWhole) (arg14 : Memref sig .tc .vmem S256x1024 .f32) (harg14 : arg14.IsWhole)
  (arg15 : Memref sig .tc .vmem S7x280x1024 .f32) (harg15 : arg15.IsWhole)
  (x0 x1 : FVec Ideal S1x256x1024 .f32) (x2 x3 x4 x5 : FVec Ideal S1x16x1024 .f32)
  (x6 : FVec Ideal S31x1024 .f32) (x7 x8 x9 : FVec Ideal S1x1024 .f32)

/-- The block's convolution, as an array. -/
def accs : FVec Ideal S256x1024 .f32 := fun y => acc i x0 x1 x2 x3 x4 x5 x6 x7 (y 0).val (y 1)

theorem accs_at (y : S256x1024.Idx) (p : Nat) (d : Fin 1024) (h0 : (y 0).val = p) (h1 : (y 1).val = d.val) :
    accs i x0 x1 x2 x3 x4 x5 x6 x7 y = acc i x0 x1 x2 x3 x4 x5 x6 x7 p d := by
  unfold accs
  exact congrArg₂ (acc i x0 x1 x2 x3 x4 x5 x6 x7) h0 (Fin.ext h1)

theorem col_ok {q : Nat} (inb : ∀ a, ![0, q] a + S256x128.size a ≤ S256x1024.size a) (l : Fin 128) : q + l.val < 1024 := by
  have : q + 128 ≤ 1024 := inb 1
  omega

/-- A store of 128 channels holds the convolution. -/
theorem acc_piece (q : Nat) (v : FVec Ideal S256x128 .f32) (inb : ∀ a, ![0, q] a + S256x128.size a ≤ S256x1024.size a)
    (hv : ∀ (p : Fin 256) (l : Fin 128), v (ix2 p l) = acc i x0 x1 x2 x3 x4 x5 x6 x7 p.val ⟨q + l.val, col_ok inb l⟩)
    (x : (Rect.unit (s := S256x1024) ![0, q] S256x128.size inb).shape.Idx) :
    v x = accs i x0 x1 x2 x3 x4 x5 x6 x7 ((Rect.unit (s := S256x1024) ![0, q] S256x128.size inb).emb x) := by
  obtain ⟨p, l, rfl⟩ : ∃ (p : Fin 256) (l : Fin 128), x = ix2 p l := idx2 x
  have h : ∀ a, ((Rect.unit (s := S256x1024) ![0, q] S256x128.size inb).emb (ix2 p l) a).val
    = ![0, q] a + (ix2 p l a).val := fun a => Rect.idx_unit_val ..
  exact (hv p l).trans (accs_at i x0 x1 x2 x3 x4 x5 x6 x7 _ p.val ⟨q + l.val, col_ok inb l⟩ ((h 0).trans (Nat.zero_add _)) (h 1)).symm

/-- The stores of the convolution. -/
abbrev stored1 : List (View.Piece (Elt Ideal) S256x1024 .f32) := kernelRun0_A.sl.HS1_8 (F := Ideal) c i arg2 harg2 arg3 harg3 arg4 harg4 arg5 harg5 arg6 harg6 arg7 harg7 arg8 harg8 arg9 harg9 arg13 arg15 x0 x1 x2 x3 x4 x5 x6 x7

theorem accs_cover (y : S256x1024.Idx) : ∃ p ∈ stored1 c i arg2 harg2 arg3 harg3 arg4 harg4 arg5 harg5 arg6 harg6 arg7 harg7 arg8 harg8 arg9 harg9 arg13 arg15 x0 x1 x2 x3 x4 x5 x6 x7, y ∈ p.1.set :=
  View.cover_of_tiled (stored1 c i arg2 harg2 arg3 harg3 arg4 harg4 arg5 harg5 arg6 harg6 arg7 harg7 arg8 harg8 arg9 harg9 arg13 arg15 x0 x1 x2 x3 x4 x5 x6 x7) S256x128.size (by rfl) y

theorem accs_eq : View.canon (stored1 c i arg2 harg2 arg3 harg3 arg4 harg4 arg5 harg5 arg6 harg6 arg7 harg7 arg8 harg8 arg9 harg9 arg13 arg15 x0 x1 x2 x3 x4 x5 x6 x7) = accs i x0 x1 x2 x3 x4 x5 x6 x7 := by
  funext y
  refine View.canon_apply_of_pieces _ _ (fun p hp => ?_) y (accs_cover ..)
  unfold stored1 kernelRun0_A.sl.HS1_8 at hp
  simp only [List.mem_cons, List.not_mem_nil, or_false] at hp
  rcases hp with rfl | rfl | rfl | rfl | rfl | rfl | rfl | rfl
  · exact acc_piece i x0 x1 x2 x3 x4 x5 x6 x7 896 _ inb_S256x1024_S256x128_0_896 fun p l => taps7 c i arg2 harg2 arg3 harg3 arg4 harg4 arg5 harg5 arg6 harg6 arg7 harg7 arg8 harg8 arg9 harg9 arg13 arg15 x0 x1 x2 x3 x4 x5 x6 x7 p l
  · exact acc_piece i x0 x1 x2 x3 x4 x5 x6 x7 768 _ inb_S256x1024_S256x128_0_768 fun p l => taps6 c i arg2 harg2 arg3 harg3 arg4 harg4 arg5 harg5 arg6 harg6 arg7 harg7 arg8 harg8 arg9 harg9 arg13 arg15 x0 x1 x2 x3 x4 x5 x6 x7 p l
  · exact acc_piece i x0 x1 x2 x3 x4 x5 x6 x7 640 _ inb_S256x1024_S256x128_0_640 fun p l => taps5 c i arg2 harg2 arg3 harg3 arg4 harg4 arg5 harg5 arg6 harg6 arg7 harg7 arg8 harg8 arg9 harg9 arg13 arg15 x0 x1 x2 x3 x4 x5 x6 x7 p l
  · exact acc_piece i x0 x1 x2 x3 x4 x5 x6 x7 512 _ inb_S256x1024_S256x128_0_512 fun p l => taps4 c i arg2 harg2 arg3 harg3 arg4 harg4 arg5 harg5 arg6 harg6 arg7 harg7 arg8 harg8 arg9 harg9 arg13 arg15 x0 x1 x2 x3 x4 x5 x6 x7 p l
  · exact acc_piece i x0 x1 x2 x3 x4 x5 x6 x7 384 _ inb_S256x1024_S256x128_0_384 fun p l => taps3 c i arg2 harg2 arg3 harg3 arg4 harg4 arg5 harg5 arg6 harg6 arg7 harg7 arg8 harg8 arg9 harg9 arg13 arg15 x0 x1 x2 x3 x4 x5 x6 x7 p l
  · exact acc_piece i x0 x1 x2 x3 x4 x5 x6 x7 256 _ inb_S256x1024_S256x128_0_256 fun p l => taps2 c i arg2 harg2 arg3 harg3 arg4 harg4 arg5 harg5 arg6 harg6 arg7 harg7 arg8 harg8 arg9 harg9 arg13 arg15 x0 x1 x2 x3 x4 x5 x6 x7 p l
  · exact acc_piece i x0 x1 x2 x3 x4 x5 x6 x7 128 _ inb_S256x1024_S256x128_0_128 fun p l => taps1 c i arg2 harg2 arg3 harg3 arg4 harg4 arg5 harg5 arg6 harg6 arg7 harg7 arg8 harg8 arg9 harg9 arg13 arg15 x0 x1 x2 x3 x4 x5 x6 x7 p l
  · exact acc_piece i x0 x1 x2 x3 x4 x5 x6 x7 0 _ inb_S256x1024_S256x128_0_0 fun p l => taps0 c i arg2 harg2 arg3 harg3 arg4 harg4 arg5 harg5 arg6 harg6 arg7 harg7 arg8 harg8 arg9 harg9 arg13 arg15 x0 x1 x2 x3 x4 x5 x6 x7 p l

/-- The convolution as the norm reads it. -/
theorem read_accs : kernelRun0_A.sl.v1593 (F := Ideal) c i arg2 harg2 arg3 harg3 arg4 harg4 arg5 harg5 arg6 harg6 arg7 harg7 arg8 harg8 arg9 harg9 arg13 arg14 arg15 x0 x1 x2 x3 x4 x5 x6 x7 = accs i x0 x1 x2 x3 x4 x5 x6 x7 := by
  unfold kernelRun0_A.sl.v1593
  rw [View.readCov_eq_canon']
  refine Eq.trans (funext fun y => ?_) (accs_eq c i arg2 harg2 arg3 harg3 arg4 harg4 arg5 harg5 arg6 harg6 arg7 harg7 arg8 harg8 arg9 harg9 arg13 arg15 x0 x1 x2 x3 x4 x5 x6 x7)
  refine congrArg (View.canon (stored1 c i arg2 harg2 arg3 harg3 arg4 harg4 arg5 harg5 arg6 harg6 arg7 harg7 arg8 harg8 arg9 harg9 arg13 arg15 x0 x1 x2 x3 x4 x5 x6 x7)) (funext fun a => Fin.ext ?_)
  have h : ∀ a, ((Rect.unit (s := S256x1024) ![0, 0] S256x1024.size inb_S256x1024_S256x1024_0_0).toLoadRect.idx y a).val
    = ![0, 0] a + (y a).val := fun a => Rect.idx_unit_val ..
  match a with
  | ⟨0, _⟩ => exact (h 0).trans (Nat.zero_add _)
  | ⟨1, _⟩ => exact (h 1).trans (Nat.zero_add _)

/-- The norm and the activation of a block's rows. -/
theorem normed (v : FVec Ideal S256x1024 .f32) (p : Fin 256) (d : Fin 1024) :
    k0_pay1 (F := Ideal) (k0_pay88 v (k0_pay87 v)) (k0_pay89 v (k0_pay87 v)) x8 x9 (ix3 0 p d)
      = ConvSpec.act (ConvSpec.norm (fun k => v (ix2 p k)) (fun k => x8 (ix2 0 k)) (fun k => x9 (ix2 0 k)) d) := by
  unfold k0_pay1 k0_pay89 k0_pay88 k0_pay87 ConvSpec.act ConvSpec.norm ConvSpec.mean Rms.factor
  pointwise
  try simp

/-- What a block leaves. -/
theorem block_apply (p : Fin 256) (d : Fin 1024) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9 (ix3 0 p d)
      = ConvSpec.act (ConvSpec.norm (fun k => acc i x0 x1 x2 x3 x4 x5 x6 x7 p.val k) (fun k => x8 (ix2 0 k)) (fun k => x9 (ix2 0 k)) d) := by
  unfold out0_A_10
  rw [View.read_writes_eq_canon _ _ _ (cover0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 x8 x9)]
  unfold kernelRun0_A
  dsimp only
  rw [View.canon_unit_zero z3]
  unfold kernelRun0_A.sl.r_71 kernelRun0_A.sl.r_72 kernelRun0_A.sl.r_70
  rw [read_accs]
  simp only [View.readAt_eq_ld, harg10.read_unread, harg11.read_unread, View.ld_unit_zero (S := S1x1024) z2]
  exact normed x8 x9 _ p d

end Cert.ConvRow
-- ==== Proof.ConvArray.lean ====
module
public import proofs.«01_k».proof.Proof.ConvBlock
/-! # The array the convolution module's kernel leaves -/
@[expose] public section
set_option maxRecDepth 16384
noncomputable section
namespace Cert.ConvRow
open Cert.ConvIdeal Cert.ConvIdeal.Gen
open Idealize.ShloMosaic Idealize.ShloMosaic.TcCoe

variable (m : (ℓ : Loc nD τ sig) → Buf (Elt Ideal) ℓ) (c : Dev nD) (t : Fin cfg0.N)

theorem e0 : ∀ t : Fin cfg0.N, win0_0.index t = ![t.val / 8, t.val % 8, 0] := (by decide +kernel : ∀ t : Fin grid0.N, _)
theorem e1 : ∀ t : Fin cfg0.N, win0_1.index t = ![t.val / 8, t.val % 8, 1] := (by decide +kernel : ∀ t : Fin grid0.N, _)
theorem e2 : ∀ t : Fin cfg0.N, win0_2.index t = ![t.val / 8, 16 * (t.val % 8) - 1, 0] := (by decide +kernel : ∀ t : Fin grid0.N, _)
theorem e3 : ∀ t : Fin cfg0.N, win0_3.index t = ![t.val / 8, 16 * (t.val % 8) - 1, 1] := (by decide +kernel : ∀ t : Fin grid0.N, _)
theorem e4 : ∀ t : Fin cfg0.N, win0_4.index t = ![t.val / 8, min (16 * (t.val % 8) + 16) 127, 0] := (by decide +kernel : ∀ t : Fin grid0.N, _)
theorem e5 : ∀ t : Fin cfg0.N, win0_5.index t = ![t.val / 8, min (16 * (t.val % 8) + 16) 127, 1] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val / 8, t.val % 8, 0] := (by decide +kernel : ∀ t : Fin grid0.N, _)
theorem tile : ∀ t : Fin cfg0.N, (grid0.coords t 1).val = t.val % 8 := (by decide +kernel : ∀ t : Fin grid0.N, _)

theorem lt_N (t : Fin cfg0.N) : t.val < 64 := Nat.lt_of_lt_of_eq t.isLt N_0

/-- A point's sequence, and the positions of its block's rows and of the rows before and after. -/
def seq : Fin 8 := ⟨t.val / 8, by have := lt_N t; omega⟩
def pos (p : Fin 256) : Fin 2048 := ⟨t.val % 8 * 256 + p.val, by omega⟩
def posB (p : Fin 16) : Fin 2048 := ⟨(16 * (t.val % 8) - 1) * 16 + p.val, by omega⟩
def posA (p : Fin 16) : Fin 2048 := ⟨min (16 * (t.val % 8) + 16) 127 * 16 + p.val, by omega⟩
/-- A channel's column, and its gate's. -/
def val (d : Fin 1024) : Fin 2048 := ⟨d.val, by omega⟩
def gate (d : Fin 1024) : Fin 2048 := ⟨1024 + d.val, by omega⟩

/-- The arrays the arguments of a launch on device `c` name: the input, the taps, the biases, the gains, the shifts. -/
abbrev argU : FVec Ideal ConvSpec.U .f32 := m ((c : Thread nD τ).loc main_arg0)
abbrev argW : FVec Ideal ConvSpec.W .f32 := m ((c : Thread nD τ).loc main_arg1)
abbrev argB : FVec Ideal ConvSpec.C .f32 := m ((c : Thread nD τ).loc main_arg2)
abbrev argG : FVec Ideal ConvSpec.C .f32 := m ((c : Thread nD τ).loc main_arg3)
abbrev argH : FVec Ideal ConvSpec.C .f32 := m ((c : Thread nD τ).loc main_arg4)

theorem blk0 (p : Fin 256) (d : Fin 1024) : iblk m c 0 t (ix3 0 p d) = argU m c (ix3 (seq t) (pos t p) (val d)) := by
  unfold seq pos val
  blk_simp [iblk]
  rw [V_main_arg0]
  congr 1
  blk_ext [e0]

theorem blk1 (p : Fin 256) (d : Fin 1024) : iblk m c 1 t (ix3 0 p d) = argU m c (ix3 (seq t) (pos t p) (gate d)) := by
  unfold seq pos gate
  blk_simp [iblk]
  rw [V_main_arg0]
  congr 1
  blk_ext [e1]

theorem blk2 (p : Fin 16) (d : Fin 1024) : iblk m c 2 t (ix3 0 p d) = argU m c (ix3 (seq t) (posB t p) (val d)) := by
  unfold seq posB val
  blk_simp [iblk]
  rw [V_main_arg0]
  congr 1
  blk_ext [e2]

theorem blk3 (p : Fin 16) (d : Fin 1024) : iblk m c 3 t (ix3 0 p d) = argU m c (ix3 (seq t) (posB t p) (gate d)) := by
  unfold seq posB gate
  blk_simp [iblk]
  rw [V_main_arg0]
  congr 1
  blk_ext [e3]

theorem blk4 (p : Fin 16) (d : Fin 1024) : iblk m c 4 t (ix3 0 p d) = argU m c (ix3 (seq t) (posA t p) (val d)) := by
  unfold seq posA val
  blk_simp [iblk]
  rw [V_main_arg0]
  congr 1
  blk_ext [e4]

theorem blk5 (p : Fin 16) (d : Fin 1024) : iblk m c 5 t (ix3 0 p d) = argU m c (ix3 (seq t) (posA t p) (gate d)) := by
  unfold seq posA gate
  blk_simp [iblk]
  rw [V_main_arg0]
  congr 1
  blk_ext [e5]

theorem blk6 (k : Fin 31) (d : Fin 1024) : iblk m c 6 t (ix2 k d) = argW m c (ix2 k d) := by
  blk_simp [iblk]
  rw [V_main_arg1]
  congr 1
  blk_ext [e6]

/-- The biases, gains and shifts as the region finds them. -/
theorem V_b (d : Fin 1024) : V m c main_v0 (ix2 (0 : Fin 1) d) = argB m c (ix1 d) := by
  have h : V m c main_v0 = (shapeCast S1x1024 (argB m c) shapeCasts_S1024_S1x1024 : FVec Ideal S1x1024 .f32) := by
    unfold V
    after_results <;> rfl
  rw [h]
  pointwise
theorem V_g (d : Fin 1024) : V m c main_v1 (ix2 (0 : Fin 1) d) = argG m c (ix1 d) := by
  have h : V m c main_v1 = (shapeCast S1x1024 (argG m c) shapeCasts_S1024_S1x1024 : FVec Ideal S1x1024 .f32) := by
    unfold V
    after_results <;> rfl
  rw [h]
  pointwise
theorem V_h (d : Fin 1024) : V m c main_v2 (ix2 (0 : Fin 1) d) = argH m c (ix1 d) := by
  have h : V m c main_v2 = (shapeCast S1x1024 (argH m c) shapeCasts_S1024_S1x1024 : FVec Ideal S1x1024 .f32) := by
    unfold V
    after_results <;> rfl
  rw [h]
  pointwise

theorem blk7 (d : Fin 1024) : iblk m c 7 t (ix2 0 d) = argB m c (ix1 d) := by
  rw [← V_b]
  blk_simp [iblk]
  congr 1
  blk_ext [e7]
theorem blk8 (d : Fin 1024) : iblk m c 8 t (ix2 0 d) = argG m c (ix1 d) := by
  rw [← V_g]
  blk_simp [iblk]
  congr 1
  blk_ext [e8]
theorem blk9 (d : Fin 1024) : iblk m c 9 t (ix2 0 d) = argH m c (ix1 d) := by
  rw [← V_h]
  blk_simp [iblk]
  congr 1
  blk_ext [e9]

/-- The gated input at a position, from its value and gate. -/
theorem gated_at (s : Fin 2048) (d : Fin 1024) (j : Nat) (hj : 15 ≤ j ∧ j < 2063) (h : s.val = j - 15) :
    ConvSpec.glu (argU m c (ix3 (seq t) s (val d))) (argU m c (ix3 (seq t) s (gate d))) = ConvSpec.ext (argU m c) (seq t) j d := by
  unfold ConvSpec.ext
  rw [dif_pos hj]
  exact congrArg (fun r => ConvSpec.gated (argU m c) (seq t) r d) (Fin.ext h)

/-- The rows a block keeps are the gated input around its positions. -/
theorem gat_eq (q : Nat) (hq : q < 286) (d : Fin 1024) :
    gat (grid0.coords t) (iblk m c 0 t) (iblk m c 1 t) (iblk m c 2 t) (iblk m c 3 t) (iblk m c 4 t) (iblk m c 5 t) (q + 1) d
      = ConvSpec.ext (argU m c) (seq t) (t.val % 8 * 256 + q) d := by
  unfold gat before after
  rw [tile]
  split
  · rename_i h
    rw [blk2, blk3]
    by_cases h0 : 0 < t.val % 8
    · rw [if_pos h0, mul_one]
      exact gated_at m c t _ d _ ⟨by omega, by omega⟩ (by unfold posB; dsimp only; omega)
    · rw [if_neg h0, mul_zero]
      unfold ConvSpec.ext
      rw [dif_neg (by omega)]
  · split
    · rename_i h h'
      rw [blk0, blk1]
      exact gated_at m c t _ d _ ⟨by omega, by omega⟩ (by unfold pos; dsimp only; omega)
    · rename_i h h'
      rw [dif_pos (by omega), blk4, blk5]
      by_cases h0 : t.val % 8 < 7
      · rw [if_pos h0, mul_one]
        exact gated_at m c t _ d _ ⟨by omega, by omega⟩ (by unfold posA; dsimp only; omega)
      · rw [if_neg h0, mul_zero]
        unfold ConvSpec.ext
        rw [dif_neg (by omega)]

/-- A block's convolution is the formula's. -/
theorem acc_eq (p : Fin 256) (d : Fin 1024) :
    acc (grid0.coords t) (iblk m c 0 t) (iblk m c 1 t) (iblk m c 2 t) (iblk m c 3 t) (iblk m c 4 t) (iblk m c 5 t) (iblk m c 6 t) (iblk m c 7 t) p.val d
      = ConvSpec.conv (argU m c) (argW m c) (argB m c) (seq t) (pos t p) d := by
  unfold acc ConvSpec.conv
  rw [blk7]
  refine congrArg (· + _) (Finset.sum_congr rfl fun k _ => ?_)
  have hw : wt (iblk m c 6 t) k.val d = argW m c (ix2 k d) := by
    unfold wt
    rw [dif_pos k.isLt]
    exact blk6 m c t k d
  rw [hw, show k.val + 1 + p.val = (p.val + k.val) + 1 by omega, gat_eq m c t _ (by omega),
    show t.val % 8 * 256 + (p.val + k.val) = (pos t p).val + k.val by unfold pos; dsimp only; omega]

/-- The module's result. -/
theorem final10 : (dats m 0 c).arrAt 10 cfg0.N = ConvSpec.out (argU m c) (argW m c) (argB m c) (argG m c) (argH m c) := by
  refine (dats m 0 c).arrAt_eq_of_covers 10 _ (by decide +kernel) fun t hf y => ?_
  blk_simp
  rw [after0_10]
  obtain ⟨p, d, rfl⟩ : ∃ (p : Fin 256) (d : Fin 1024), y = ix3 0 p d := idx3 y
  have e : (win0_10.blk t).view.emb (ix3 0 p d) = ix3 (seq t) (pos t p) d := by
    unfold seq pos
    blk_ext [e10]
  rw [e]
  refine (block_apply ..).trans ?_
  show _ = ConvSpec.cell (argU m c) (argW m c) (argB m c) (argG m c) (argH m c) (seq t) (pos t p) d
  unfold ConvSpec.cell
  simp only [acc_eq m c t, blk8 m c t, blk9 m c t]

end Cert.ConvRow
-- ==== Proof.ConvRefValue.lean ====
module
public import proofs.«01_k».proof.Proof.Gen.ConvRefIdeal.Read
public import proofs.«01_k».proof.Proof.ConvSpec
public import Idealize.ShloMosaic.Lib.KernelVsHost
/-! # The reference's convolution module is the formula -/
@[expose] public section
set_option maxRecDepth 16384
noncomputable section
namespace Cert.ConvRefIdeal.Mod
open Cert.ConvRefIdeal Cert.ConvRefIdeal.Read
open Idealize.ShloMosaic

variable (x0 : FVec Ideal ConvSpec.U .f32) (x1 : FVec Ideal ConvSpec.W .f32) (x2 x3 x4 : FVec Ideal ConvSpec.C .f32)

/-- Positions gathered by a table: the position the table names, if it is one. -/
theorem gather_taps (x : FVec Ideal S8x2078x1024 .f32) (idx : IVec S2048x31x1 32) (n : Fin 8) (s : Fin 2048) (k : Fin 31) (c : Fin 1024)
    (j : Fin 2078) (hj : idx (ix3 s k 0) = BitVec.ofNat 32 j.val) :
    Host.gather gather_S8x2078x1024_S2048x31x1_S8x2048x31x1024_03_1_n_n_1_2_811024 x idx (ix4 n s k c) = x (ix3 n j c) := by
  unfold Host.gather
  congr 1
  funext a
  refine Fin.ext ?_
  show GatherDims.start _ _ idx a + GatherDims.batchCoord _ _ a + GatherDims.offCoord _ _ a = _
  rw [GatherDims.batchCoord_eq_zero _ _ _ List.not_mem_nil]
  match a with
  | ⟨0, _⟩ =>
    show GatherDims.start gather_S8x2078x1024_S2048x31x1_S8x2048x31x1024_03_1_n_n_1_2_811024 (ix4 n s k c) idx (0 : Fin S8x2078x1024.rank) + 0
      + GatherDims.offCoord gather_S8x2078x1024_S2048x31x1_S8x2048x31x1024_03_1_n_n_1_2_811024 (ix4 n s k c) (0 : Fin S8x2078x1024.rank) = _
    unfold GatherDims.start GatherDims.offCoord
    rw [dif_neg (show (0 : Fin S8x2078x1024.rank) ∉ gather_S8x2078x1024_S2048x31x1_S8x2048x31x1024_03_1_n_n_1_2_811024.startIndexMap by decide),
      dif_pos (show (0 : Fin S8x2078x1024.rank) ∈ gather_S8x2078x1024_S2048x31x1_S8x2048x31x1024_03_1_n_n_1_2_811024.sKept by decide)]
    exact Nat.zero_add _
  | ⟨1, _⟩ =>
    show GatherDims.start gather_S8x2078x1024_S2048x31x1_S8x2048x31x1024_03_1_n_n_1_2_811024 (ix4 n s k c) idx (1 : Fin S8x2078x1024.rank) + 0
      + GatherDims.offCoord gather_S8x2078x1024_S2048x31x1_S8x2048x31x1024_03_1_n_n_1_2_811024 (ix4 n s k c) (1 : Fin S8x2078x1024.rank) = _
    unfold GatherDims.start GatherDims.offCoord
    rw [dif_pos (show (1 : Fin S8x2078x1024.rank) ∈ gather_S8x2078x1024_S2048x31x1_S8x2048x31x1024_03_1_n_n_1_2_811024.startIndexMap by decide),
      dif_neg (show (1 : Fin S8x2078x1024.rank) ∉ gather_S8x2078x1024_S2048x31x1_S8x2048x31x1024_03_1_n_n_1_2_811024.sKept by decide)]
    have hsi : ∀ q, (gather_S8x2078x1024_S2048x31x1_S8x2048x31x1024_03_1_n_n_1_2_811024).siIdx (ix4 n s k c) q = ix3 s k 0 := by
      intro q
      funext b; refine Fin.ext ?_
      match b with
      | ⟨0, _⟩ => rfl
      | ⟨1, _⟩ => rfl
      | ⟨2, _⟩ => exact Nat.lt_one_iff.mp q.isLt
    rw [hsi, hj]
    show min (BitVec.ofNat 32 j.val).toInt.toNat 2077 + 0 + 0 = j.val
    have e : (BitVec.ofNat 32 j.val).toInt = (j.val : Int) := by
      rw [BitVec.toInt_eq_toNat_of_lt (by rw [BitVec.toNat_ofNat]; omega), BitVec.toNat_ofNat]
      omega
    rw [e]
    omega
  | ⟨2, _⟩ =>
    show GatherDims.start gather_S8x2078x1024_S2048x31x1_S8x2048x31x1024_03_1_n_n_1_2_811024 (ix4 n s k c) idx (2 : Fin S8x2078x1024.rank) + 0
      + GatherDims.offCoord gather_S8x2078x1024_S2048x31x1_S8x2048x31x1024_03_1_n_n_1_2_811024 (ix4 n s k c) (2 : Fin S8x2078x1024.rank) = _
    unfold GatherDims.start GatherDims.offCoord
    rw [dif_neg (show (2 : Fin S8x2078x1024.rank) ∉ gather_S8x2078x1024_S2048x31x1_S8x2048x31x1024_03_1_n_n_1_2_811024.startIndexMap by decide),
      dif_pos (show (2 : Fin S8x2078x1024.rank) ∈ gather_S8x2078x1024_S2048x31x1_S8x2048x31x1024_03_1_n_n_1_2_811024.sKept by decide)]
    exact Nat.zero_add _

/-- The table: tap `k` of position `s`. -/
theorem taps (s : Fin 2048) (k : Fin 31) : (val_main_v22 (F := Ideal) (ix3 s k 0) : BitVec 32) = BitVec.ofNat 32 (s.val + k.val) := by
  have h16 : (val_main_v16 (F := Ideal) (ix2 s k) : BitVec 32) = BitVec.ofNat 32 (s.val + k.val) := by
    unfold val_main_v16 val_main_v15 val_main_v14 val_main_v13 val_main_v12 val_main_v11 val_main_v10
    pointwise
    simp only [IntOp.addi, BitVec.ofNat_add]
  have h18 : (val_main_v18 (F := Ideal) (ix2 s k) : BitVec 1) = 0#1 := by
    rw [val_main_v18_apply, h16]
    have e : (BitVec.ofNat 32 (s.val + k.val)).toInt = ((s.val + k.val : Nat) : Int) := by
      rw [BitVec.toInt_eq_toNat_of_lt (by rw [BitVec.toNat_ofNat]; omega), BitVec.toNat_ofNat]
      omega
    unfold val_main_v17 val_main_c_1
    pointwise
    simp [IntOp.cmpi, BitVec.slt, e]
    rw [decide_eq_false (by omega)]
    rfl
  have h21 : (val_main_v21 (F := Ideal) (ix2 s k) : BitVec 32) = BitVec.ofNat 32 (s.val + k.val) := by
    rw [val_main_v21_apply, h18, h16]
    rfl
  rw [← h21]
  unfold val_main_v22
  generalize val_main_v21 (F := Ideal) = z
  pointwise

theorem glu_eq (n : Fin 8) (s : Fin 2048) (c : Fin 1024) : val_main_v8 (F := Ideal) x0 (ix3 n s c) = ConvSpec.gated x0 n s c := by
  unfold ConvSpec.gated ConvSpec.glu Ideal.logistic
  unfold val_main_v8 val_main_v7 val_main_v6 val_main_v5 val_main_v4 val_main_v3 val_main_v2 val_main_v1 val_main_v0 val_main_cst val_main_cst_0
  have := Rms.one_eq
  unfold Rms.one at this
  pointwise [this]
  try simp

theorem ext_eq (n : Fin 8) (j : Fin 2078) (c : Fin 1024) : val_main_v9 (F := Ideal) x0 (ix3 n j c) = ConvSpec.ext x0 n j.val c := by
  unfold ConvSpec.ext
  unfold val_main_v9
  split
  · rename_i h
    rw [← glu_eq]
    refine pad_apply_of_inside _ _ _ _ _ _ _ _ (ix3 n (⟨j.val - 15, by omega⟩ : Fin 2048) c) fun a => ?_
    match a with
    | ⟨0, _⟩ => show n.val = 0 + n.val * 1; omega
    | ⟨1, _⟩ => show j.val = 15 + (j.val - 15) * 1; omega
    | ⟨2, _⟩ => show c.val = 0 + c.val * 1; omega
  · rename_i h
    rw [pad_apply_of_not_inside _ _ _ _ _ _ _ _ 1 (by
      show ¬(15 ≤ j.val ∧ (j.val - 15) % 1 = 0 ∧ (j.val - 15) / 1 < 2048)
      omega)]
    show (((0#32 : BitVec 32).toInt : ℝ) : EReal) = 0
    simp

theorem conv_eq (n : Fin 8) (s : Fin 2048) (c : Fin 1024) :
    val_main_v30 (F := Ideal) x0 x1 x2 (ix3 n s c) = ConvSpec.conv x0 x1 x2 n s c := by
  have tap : ∀ k : Fin 31, val_main_v26 (F := Ideal) x0 x1 (ix4 n s k c) = ConvSpec.ext x0 n (s.val + k.val) c * x1 (ix2 k c) := by
    intro k
    rw [val_main_v26_apply]
    have e : val_main_v23 (F := Ideal) x0 (ix4 n s k c) = ConvSpec.ext x0 n (s.val + k.val) c := by
      unfold val_main_v23
      rw [gather_taps _ _ n s k c ⟨s.val + k.val, by omega⟩ (taps s k), ext_eq]
    rw [e]
    unfold val_main_v25 val_main_v24
    pointwise
  unfold ConvSpec.conv
  simp only [← tap]
  unfold val_main_v30 val_main_v29 val_main_v28 val_main_v27 val_main_cst_3
  generalize val_main_v26 (F := Ideal) x0 x1 = z
  pointwise
  try simp

theorem mean_eq (n : Fin 8) (s : Fin 2048) :
    val_main_v34 (F := Ideal) x0 x1 x2 (ix3 n s 0) = ConvSpec.mean fun k => ConvSpec.conv x0 x1 x2 n s k := by
  unfold ConvSpec.mean
  simp only [← conv_eq]
  unfold val_main_v34 val_main_v33 val_main_v32 val_main_v31 val_main_cst_4 val_main_cst_5
  generalize val_main_v30 (F := Ideal) x0 x1 x2 = z
  pointwise
  try simp

theorem norm_eq (n : Fin 8) (s : Fin 2048) (c : Fin 1024) :
    val_main_v54 (F := Ideal) x0 x1 x2 x3 x4 (ix3 n s c)
      = ConvSpec.norm (fun k => ConvSpec.conv x0 x1 x2 n s k) (fun k => x3 (ix1 k)) (fun k => x4 (ix1 k)) c := by
  unfold ConvSpec.norm Rms.factor
  rw [← mean_eq]
  simp only [← conv_eq]
  unfold val_main_v54 val_main_v53 val_main_v52 val_main_v51 val_main_v50 val_main_v49 val_main_v48 val_main_v47 val_main_v46 val_main_v45
    val_main_v44 val_main_v43 val_main_v42 val_main_v41 val_main_v40 val_main_v39 val_main_v38 val_main_v37 val_main_v36 val_main_v35
    val_main_cst_6 val_main_cst_7 val_main_cst_8
  generalize val_main_v30 (F := Ideal) x0 x1 x2 = z
  generalize val_main_v34 (F := Ideal) x0 x1 x2 = y
  pointwise
  try simp

theorem out_eq : val_main_v56 (F := Ideal) x0 x1 x2 x3 x4 = ConvSpec.out x0 x1 x2 x3 x4 := by
  funext y
  obtain ⟨n, s, c, rfl⟩ : ∃ (n : Fin 8) (s : Fin 2048) (c : Fin 1024), y = ix3 n s c := ⟨y 0, y 1, y 2, by
    funext a
    match a with
    | ⟨0, _⟩ => rfl
    | ⟨1, _⟩ => rfl
    | ⟨2, _⟩ => rfl⟩
  show _ = ConvSpec.act (ConvSpec.norm (fun k => ConvSpec.conv x0 x1 x2 n s k) (fun k => x3 (ix1 k)) (fun k => x4 (ix1 k)) c)
  rw [← norm_eq]
  unfold ConvSpec.act Ideal.logistic
  unfold val_main_v56 val_main_v55 val_main_call1_v5 val_main_call1_v4 val_main_call1_v3 val_main_call1_v2 val_main_call1_v1 val_main_call1_v0
    val_main_call1_cst val_main_call1_cst_0
  generalize val_main_v54 (F := Ideal) x0 x1 x2 x3 x4 = z
  have := Rms.one_eq
  unfold Rms.one at this
  pointwise [this]
  try simp

end Cert.ConvRefIdeal.Mod
-- ==== Proof.FfnSpec.lean ====
module
public import proofs.«01_k».proof.Proof.Rms
/-! # The gated activation, as a formula over the extended reals -/
@[expose] public section
noncomputable section
namespace Cert.FfnSpec
open Idealize.ShloMosaic

abbrev X : Shape := ⟨2, ![16384, 4096]⟩
abbrev G : Shape := ⟨2, ![4, 4096]⟩
abbrev W : Shape := ⟨3, ![4, 4096, 12288]⟩
abbrev O : Shape := ⟨2, ![16384, 6144]⟩

/-- The factor of row `t`. -/
def scale (x : FVec Ideal X .f32) (t : Fin 16384) : EReal :=
  Rms.factor Rms.len4096 (∑ k : Fin 4096, x (ix2 t k) * x (ix2 t k))

/-- The normalized row `t` against column `n` of layer 0's matrix. -/
def lin (x : FVec Ideal X .f32) (g : FVec Ideal G .f32) (w : FVec Ideal W .f32) (t : Fin 16384) (n : Fin 12288) : EReal :=
  ∑ k : Fin 4096, x (ix2 t k) * scale x t * g (ix2 (0 : Fin 4) k) * w (ix3 (0 : Fin 4) k n)

/-- A gate and a value. -/
def gated (a b : EReal) : EReal := a * Ideal.logistic a * b

/-- The activation: the first half of the columns gates the second. -/
def out (x : FVec Ideal X .f32) (g : FVec Ideal G .f32) (w : FVec Ideal W .f32) : FVec Ideal O .bf16 := fun y =>
  gated (lin x g w (y 0) ⟨(y 1).val, by have : (y 1).val < 6144 := (y 1).isLt; omega⟩)
    (lin x g w (y 0) ⟨6144 + (y 1).val, by have : (y 1).val < 6144 := (y 1).isLt; omega⟩)

end Cert.FfnSpec
-- ==== Proof.FfnPrep.lean ====
module
public import proofs.«01_k».proof.Proof.Gen.FfnIdeal.Frame
public import proofs.«01_k».proof.Proof.FfnSpec
public import Idealize.ShloMosaic.Lib.Pipeline.ValueKit
/-! # The arrays the activation's first region leaves: the rows, and the sums of their squares -/
@[expose] public section
set_option maxRecDepth 16384
noncomputable section
namespace Cert.FfnRow
open Cert.FfnIdeal Cert.FfnIdeal.Gen
open Idealize.ShloMosaic Idealize.ShloMosaic.TcCoe

theorem z2 : (![0, 0] : Fin 2 → Nat) = fun _ => 0 := funext fun a => by fin_cases a <;> rfl
theorem z3 : (![0, 0, 0] : Fin 3 → Nat) = fun _ => 0 := funext fun a => by fin_cases a <;> rfl

/-- What a block of the first region leaves: the rows. -/
theorem rows_apply (x : FVec Ideal S512x4096 .f32) (y : S512x4096.Idx) : out0_1 (F := Ideal) x y = x y := by
  unfold out0_1
  rw [View.canon_unit_zero z2, View.ld_unit_zero (S := S512x4096) z2]
  rfl

/-- And the sums of their squares, in all 128 lanes. -/
theorem sums_apply (x : FVec Ideal S512x4096 .f32) (p : Fin 512) (q : Fin 128) :
    out0_2 (F := Ideal) x (ix2 p q) = ∑ k : Fin 4096, x (ix2 p k) * x (ix2 p k) := by
  unfold out0_2
  rw [View.canon_unit_zero z2, View.ld_unit_zero (S := S512x4096) z2]
  unfold k0_pay2
  pointwise
  try simp

variable (V : (c : Dev nD) → (b : Ref sig .tc) → Buf (Elt Ideal) ((c : Thread nD τ).loc b)) (c : Dev nD) (t : Fin cfg0.N)

/-- The rows the first region finds. -/
abbrev atX : FVec Ideal S16384x4096 .f32 := V c main_arg0

theorem p0 : ∀ t : Fin cfg0.N, win0_0.index t = ![t.val, 0] := (by decide +kernel : ∀ t : Fin grid0.N, _)
theorem p1 : ∀ t : Fin cfg0.N, win0_1.index t = ![t.val, 0] := (by decide +kernel : ∀ t : Fin grid0.N, _)
theorem p2 : ∀ t : Fin cfg0.N, win0_2.index t = ![t.val, 0] := (by decide +kernel : ∀ t : Fin grid0.N, _)

theorem lt_N0 (t : Fin cfg0.N) : t.val < 32 := Nat.lt_of_lt_of_eq t.isLt N_0

/-- The array's row of a block's row. -/
def row0 (p : Fin 512) : Fin 16384 := ⟨t.val * 512 + p.val, by have := lt_N0 t; omega⟩

theorem x_blk (p : Fin 512) (k : Fin 4096) : iblk0 V c 0 t (ix2 p k) = atX V c (ix2 (row0 t p) k) := by
  unfold row0
  blk_simp [iblk0]
  congr 1
  blk_ext [p0]

theorem prep1 : (dat0 V c).arrAt 1 cfg0.N = (fun y => atX V c y : FVec Ideal S16384x4096 .bf16) := by
  refine (dat0 V c).arrAt_eq_of_covers 1 _ (by decide +kernel) fun t hf y => ?_
  blk_simp
  rw [after0_1]
  obtain ⟨p, q, rfl⟩ : ∃ (p : Fin 512) (q : Fin 4096), y = ix2 p q := ⟨y 0, y 1, by
    funext a
    match a with
    | ⟨0, _⟩ => rfl
    | ⟨1, _⟩ => rfl⟩
  have e : (win0_1.blk t).view.emb (ix2 p q) = ix2 (row0 t p) q := by
    unfold row0
    blk_ext [p1]
  rw [e]
  exact (rows_apply _ _).trans (x_blk V c t p q)

theorem prep2 : (dat0 V c).arrAt 2 cfg0.N
    = (fun y => ∑ k : Fin 4096, atX V c (ix2 (y 0) k) * atX V c (ix2 (y 0) k) : FVec Ideal S16384x128 .f32) := by
  refine (dat0 V c).arrAt_eq_of_covers 2 _ (by decide +kernel) fun t hf y => ?_
  blk_simp
  rw [after0_2]
  obtain ⟨p, q, rfl⟩ : ∃ (p : Fin 512) (q : Fin 128), y = ix2 p q := ⟨y 0, y 1, by
    funext a
    match a with
    | ⟨0, _⟩ => rfl
    | ⟨1, _⟩ => rfl⟩
  have e : (win0_2.blk t).view.emb (ix2 p q) = ix2 (row0 t p) q := by
    unfold row0
    blk_ext [p2]
  rw [e]
  refine (sums_apply _ _ _).trans (Finset.sum_congr rfl fun k _ => ?_)
  exact congrArg₂ (· * ·) (x_blk V c t p k) (x_blk V c t p k)

end Cert.FfnRow
-- ==== Proof.FfnArray.lean ====
module
public import proofs.«01_k».proof.Proof.FfnPrep
/-! # The array the activation's second region leaves -/
@[expose] public section
set_option maxRecDepth 16384
noncomputable section
namespace Cert.FfnRow
open Cert.FfnIdeal Cert.FfnIdeal.Gen
open Idealize.ShloMosaic Idealize.ShloMosaic.TcCoe

/-- A block's row against a column of a block of the matrix. -/
def dot (x0 : FVec Ideal S1024x4096 .bf16) (x1 : FVec Ideal S1024x128 .f32) (x2 : FVec Ideal S1x4096x512 .bf16) (p : Fin 1024) (q : Fin 512) : EReal :=
  (∑ k : Fin 4096, x0 (ix2 p k) * x2 (ix3 (0 : Fin 1) k q)) * Rms.factor Rms.len4096 (x1 (ix2 p (0 : Fin 128)))

theorem lane0 (x1 : FVec Ideal S1024x128 .f32) (p : Fin 1024) :
    View.ld (Val := Elt Ideal) (e' := .f32) x1 r1_0 (ix2 p 0) = x1 (ix2 p (0 : Fin 128)) := by
  refine View.ld_unit_apply_of (Val := Elt Ideal) (e := .f32) x1 _ _ _ _ _ fun a => ?_
  match a with
  | ⟨0, _⟩ => exact (Nat.zero_add _).symm
  | ⟨1, _⟩ => rfl

theorem act_apply (x0 : FVec Ideal S1024x4096 .bf16) (x1 : FVec Ideal S1024x128 .f32) (x2 x3 : FVec Ideal S1x4096x512 .bf16) (p : Fin 1024) (q : Fin 512) :
    out1_4 (F := Ideal) x0 x1 x2 x3 (ix2 p q) = FfnSpec.gated (dot x0 x1 x2 p q) (dot x0 x1 x3 p q) := by
  unfold out1_4 dot
  rw [← lane0 x1 p, View.canon_unit_zero z2, View.ld_unit_zero (S := S1024x4096) z2, View.ld_unit_zero (S := S1x4096x512) z3,
    View.ld_unit_zero (S := S1x4096x512) z3]
  generalize View.ld (Val := Elt Ideal) (e' := .f32) x1 r1_0 = z
  unfold k1_pay1 FfnSpec.gated Rms.factor
  pointwise
  try simp

variable (V : (c : Dev nD) → (b : Ref sig .tc) → Buf (Elt Ideal) ((c : Thread nD τ).loc b)) (c : Dev nD) (t : Fin cfg1.N)

/-- The rows, the sums and the matrix the second region finds. -/
abbrev atH : FVec Ideal S16384x4096 .bf16 := V c main_v0_0
abbrev atS : FVec Ideal S16384x128 .f32 := V c main_v0_1
abbrev atW : FVec Ideal S4x4096x12288 .bf16 := V c main_v4

theorem e0 : ∀ t : Fin cfg1.N, win1_0.index t = ![t.val / 12, 0] := (by decide +kernel : ∀ t : Fin grid1.N, _)
theorem e1 : ∀ t : Fin cfg1.N, win1_1.index t = ![t.val / 12, 0] := (by decide +kernel : ∀ t : Fin grid1.N, _)
theorem e2 : ∀ t : Fin cfg1.N, win1_2.index t = ![0, 0, t.val % 12] := (by decide +kernel : ∀ t : Fin grid1.N, _)
theorem e3 : ∀ t : Fin cfg1.N, win1_3.index t = ![0, 0, t.val % 12 + 12] := (by decide +kernel : ∀ t : Fin grid1.N, _)
theorem e4 : ∀ t : Fin cfg1.N, win1_4.index t = ![t.val / 12, t.val % 12] := (by decide +kernel : ∀ t : Fin grid1.N, _)

theorem lt_N1 (t : Fin cfg1.N) : t.val < 192 := Nat.lt_of_lt_of_eq t.isLt N_1

/-- The array's row of a block's row. -/
def row (p : Fin 1024) : Fin 16384 := ⟨t.val / 12 * 1024 + p.val, by have := lt_N1 t; omega⟩
/-- The array's column of a block's column. -/
def col (q : Fin 512) : Fin 6144 := ⟨t.val % 12 * 512 + q.val, by omega⟩
/-- The matrix's column of the gate. -/
def gcol (n : Fin 6144) : Fin 12288 := ⟨n.val, by omega⟩
/-- The matrix's column of the value. -/
def ucol (n : Fin 6144) : Fin 12288 := ⟨6144 + n.val, by omega⟩

theorem h_blk (p : Fin 1024) (k : Fin 4096) : iblk1 V c 0 t (ix2 p k) = atH V c (ix2 (row t p) k) := by
  unfold row
  blk_simp [iblk1]
  congr 1
  blk_ext [e0]

theorem s_blk (p : Fin 1024) (k : Fin 128) : iblk1 V c 1 t (ix2 p k) = atS V c (ix2 (row t p) k) := by
  unfold row
  blk_simp [iblk1]
  congr 1
  blk_ext [e1]

theorem g_blk (k : Fin 4096) (q : Fin 512) : iblk1 V c 2 t (ix3 0 k q) = atW V c (ix3 (0 : Fin 4) k (gcol (col t q))) := by
  unfold gcol col
  blk_simp [iblk1]
  congr 1
  blk_ext [e2]

theorem u_blk (k : Fin 4096) (q : Fin 512) : iblk1 V c 3 t (ix3 0 k q) = atW V c (ix3 (0 : Fin 4) k (ucol (col t q))) := by
  unfold ucol col
  blk_simp [iblk1]
  congr 1
  blk_ext [e3]

/-- A row of the arrays the region finds against a column of the matrix. -/
def cell (n : Fin 16384) (k : Fin 12288) : EReal :=
  (∑ j : Fin 4096, atH V c (ix2 n j) * atW V c (ix3 (0 : Fin 4) j k))
    * Rms.factor Rms.len4096 (atS V c (ix2 n (0 : Fin 128)))

theorem act1 : (dat1 V c).arrAt 4 cfg1.N
    = (fun y => FfnSpec.gated (cell V c (y 0) (gcol (y 1))) (cell V c (y 0) (ucol (y 1))) : FVec Ideal S16384x6144 .bf16) := by
  refine (dat1 V c).arrAt_eq_of_covers 4 _ (by decide +kernel) fun t hf y => ?_
  blk_simp
  rw [after1_4]
  obtain ⟨p, q, rfl⟩ : ∃ (p : Fin 1024) (q : Fin 512), y = ix2 p q := ⟨y 0, y 1, by
    funext a
    match a with
    | ⟨0, _⟩ => rfl
    | ⟨1, _⟩ => rfl⟩
  have e : (win1_4.blk t).view.emb (ix2 p q) = ix2 (row t p) (col t q) := by
    unfold row col
    blk_ext [e4]
  rw [e]
  refine (act_apply _ _ _ _ p q).trans ?_
  show _ = FfnSpec.gated (cell V c (row t p) (gcol (col t q))) (cell V c (row t p) (ucol (col t q)))
  unfold dot cell
  refine congrArg₂ FfnSpec.gated (congrArg₂ (· * ·) (Finset.sum_congr rfl fun k _ => ?_) (congrArg _ (s_blk V c t p 0)))
    (congrArg₂ (· * ·) (Finset.sum_congr rfl fun k _ => ?_) (congrArg _ (s_blk V c t p 0)))
  · exact congrArg₂ (· * ·) (h_blk V c t p k) (g_blk V c t k q)
  · exact congrArg₂ (· * ·) (h_blk V c t p k) (u_blk V c t k q)

end Cert.FfnRow
-- ==== Proof.FfnValue.lean ====
module
public import proofs.«01_k».proof.Proof.FfnArray
/-! # The activation's run: its result is the formula of its arguments -/
@[expose] public section
set_option maxRecDepth 16384
noncomputable section
namespace Cert.FfnRow
open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable (m : (ℓ : Loc nD τ sig) → Buf (Elt Ideal) ℓ) (ρ : Dev nD → PrngReg) (c : Dev nD)

/-- The arguments. -/
abbrev argX : FVec Ideal FfnSpec.X .f32 := m ((c : Thread nD τ).loc main_arg0)
abbrev argG : FVec Ideal FfnSpec.G .f32 := m ((c : Thread nD τ).loc main_arg1)
abbrev argW : FVec Ideal FfnSpec.W .f32 := m ((c : Thread nD τ).loc main_arg2)

theorem found_h : atH (V2 m ρ) c = (fun y => argX m c y : FVec Ideal S16384x4096 .bf16) :=
  ((W2_of m ρ c main_v0_0 (by decide)).trans (W1_arr m ρ c 1)).trans (prep1 (V0 m ρ) c)

theorem found_s : atS (V2 m ρ) c
    = (fun y => ∑ k : Fin 4096, argX m c (ix2 (y 0) k) * argX m c (ix2 (y 0) k) : FVec Ideal S16384x128 .f32) :=
  ((W2_of m ρ c main_v0_1 (by decide)).trans (W1_arr m ρ c 2)).trans (prep2 (V0 m ρ) c)

/-- The matrix with the gain in it. -/
def folded (g : FVec Ideal FfnSpec.G .f32) (w : FVec Ideal FfnSpec.W .f32) : FVec Ideal S4x4096x12288 .bf16 :=
  truncf .bf16 (mulf w (broadcastInDim S4x4096x12288 ![0, 1, 2] bcast_S4x4096x1_S4x4096x12288_0_1_2
    (broadcastInDim S4x4096x1 ![0, 1] bcast_S4x4096_S4x4096x1_0_1 g))) bitsLt_bf16_f32

theorem folded_apply (g : FVec Ideal FfnSpec.G .f32) (w : FVec Ideal FfnSpec.W .f32) (l : Fin 4) (k : Fin 4096) (n : Fin 12288) :
    folded g w (ix3 l k n) = w (ix3 l k n) * g (ix2 l k) := by
  unfold folded
  pointwise
  try simp

theorem found_w : atW (V2 m ρ) c = folded (argG m c) (argW m c) := by
  have h : atW (V2 m ρ) c = folded (W1 m ρ c (Proc.devRef .tc main_arg1)) (W1 m ρ c (Proc.devRef .tc main_arg2)) := by
    unfold atW V2 W2
    after_results <;> rfl
  rw [h, W1_args m ρ c main_arg1 (by decide), W1_args m ρ c main_arg2 (by decide)]

theorem cell_eq (t : Fin 16384) (n : Fin 12288) : cell (V2 m ρ) c t n = FfnSpec.lin (argX m c) (argG m c) (argW m c) t n := by
  unfold cell FfnSpec.lin
  rw [found_h, found_s, found_w]
  simp only [folded_apply]
  have hb := Rms.factor_bounds Rms.len4096_pos (Rms.sum_sq_nonneg fun k : Fin 4096 => argX m c (ix2 t k))
  exact Rms.fold (fun k : Fin 4096 => argX m c (ix2 t k)) (fun k => argG m c (ix2 (0 : Fin 4) k)) (fun k => argW m c (ix3 (0 : Fin 4) k n)) hb.1 hb.2

/-- What the result's buffer holds at the end. -/
theorem last : W3 m ρ c (Proc.devRef .tc main_v5) = FfnSpec.out (argX m c) (argG m c) (argW m c) := by
  refine (W3_arr m ρ c 4).trans ((act1 (V2 m ρ) c).trans ?_)
  funext y
  exact congrArg₂ FfnSpec.gated (cell_eq m ρ c (y 0) (gcol (y 1))) (cell_eq m ρ c (y 0) (ucol (y 1)))

set_option backward.isDefEq.respectTransparency.types false in
/-- Every run ends with the formula in the result's buffer, and the arguments as they were. -/
theorem run : θ_run defs (onTc (τ := τ) (main (F := Ideal))) ⟨m, fun _ => 0, ρ⟩ (fun r => ∀ c : Dev nD,
      r.2.mem ((c.tc : Thread nD τ).loc main_v5) = FfnSpec.out (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v5 (by decide))).trans (last m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.FfnRow
-- ==== Proof.FfnRefValue.lean ====
module
public import proofs.«01_k».proof.Proof.Gen.FfnRefIdeal.Read
public import proofs.«01_k».proof.Proof.FfnSpec
/-! # The reference's activation is the formula -/
@[expose] public section
noncomputable section
namespace Cert.FfnRefIdeal.Act
open Cert.FfnRefIdeal Cert.FfnRefIdeal.Read
open Idealize.ShloMosaic

variable (x0 : FVec Ideal FfnSpec.X .f32) (x1 : FVec Ideal FfnSpec.G .f32) (x2 : FVec Ideal FfnSpec.W .f32)

theorem scale_eq (t : Fin 16384) : val_main_v9 (F := Ideal) x0 (ix2 t 0) = FfnSpec.scale x0 t := by
  unfold FfnSpec.scale Rms.factor
  unfold val_main_v9 val_main_v8 val_main_v7 val_main_v6 val_main_v5 val_main_v4 val_main_v3 val_main_v2 val_main_cst val_main_cst_0 val_main_cst_1
  pointwise
  try simp

theorem lin_eq (t : Fin 16384) (n : Fin 12288) : val_main_v17 (F := Ideal) x0 x1 x2 (ix2 t n) = FfnSpec.lin x0 x1 x2 t n := by
  unfold FfnSpec.lin
  rw [← scale_eq]
  unfold val_main_v17 val_main_v16 val_main_v15 val_main_v14 val_main_v13 val_main_v12 val_main_v11 val_main_v10 val_main_v1 val_main_v0
  generalize val_main_v9 (F := Ideal) x0 = z
  pointwise
  try simp

theorem out_eq : val_main_v22 (F := Ideal) x0 x1 x2 = FfnSpec.out x0 x1 x2 := by
  funext y
  obtain ⟨t, n, rfl⟩ : ∃ (t : Fin 16384) (n : Fin 6144), y = ix2 t n := ⟨y 0, y 1, by
    funext a
    match a with
    | ⟨0, _⟩ => rfl
    | ⟨1, _⟩ => rfl⟩
  show _ = FfnSpec.gated (FfnSpec.lin x0 x1 x2 t ⟨n.val, _⟩) (FfnSpec.lin x0 x1 x2 t ⟨6144 + n.val, _⟩)
  rw [← lin_eq, ← lin_eq]
  unfold FfnSpec.gated Ideal.logistic
  unfold val_main_v22 val_main_v21 val_main_v20 val_main_v19 val_main_call0_v5 val_main_call0_v4 val_main_call0_v3 val_main_call0_v2
    val_main_call0_v1 val_main_call0_v0 val_main_call0_cst val_main_call0_cst_0 val_main_v18
  generalize val_main_v17 (F := Ideal) x0 x1 x2 = z
  have := Rms.one_eq
  unfold Rms.one at this
  pointwise [this]
  try simp

end Cert.FfnRefIdeal.Act
-- ==== Proof.ResSpec.lean ====
module
public import Idealize.ShloMosaic.Lib.Pointwise
/-! # A half step through a matrix, as a formula over the extended reals

Each row of the first argument goes through layer 0's matrix, and half of the product is added to the third argument. -/
@[expose] public section
noncomputable section
namespace Cert.ResSpec
open Idealize.ShloMosaic

abbrev A : Shape := ⟨2, ![16384, 6144]⟩
abbrev W : Shape := ⟨3, ![4, 6144, 4096]⟩
abbrev H : Shape := ⟨2, ![16384, 4096]⟩
abbrev L : Shape := ⟨2, ![16384, 128]⟩

/-- The new row `t`, column `n`. -/
def cell (a : FVec Ideal A .bf16) (w : FVec Ideal W .f32) (h : FVec Ideal H .f32) (t : Fin 16384) (n : Fin 4096) : EReal :=
  h (ix2 t n) + Ideal.ofBits .f32 0x3F000000#32 * ∑ k : Fin 6144, a (ix2 t k) * w (ix3 (0 : Fin 4) k n)

/-- The new rows. -/
def out (a : FVec Ideal A .bf16) (w : FVec Ideal W .f32) (h : FVec Ideal H .f32) : FVec Ideal H .f32 :=
  fun y => cell a w h (y 0) (y 1)

/-- The new rows, in the narrower type. -/
def outB (a : FVec Ideal A .bf16) (w : FVec Ideal W .f32) (h : FVec Ideal H .f32) : FVec Ideal H .bf16 :=
  fun y => cell a w h (y 0) (y 1)

/-- The sum of the squares of each new row, in all 128 lanes. -/
def squares (a : FVec Ideal A .bf16) (w : FVec Ideal W .f32) (h : FVec Ideal H .f32) : FVec Ideal L .f32 :=
  fun y => ∑ n : Fin 4096, cell a w h (y 0) n * cell a w h (y 0) n

end Cert.ResSpec
-- ==== Proof.ResBlock.lean ====
module
public import proofs.«01_k».proof.Proof.Gen.ResIdeal.Value
public import proofs.«01_k».proof.Proof.ResSpec
/-! # What a block of the half step leaves in its three output blocks -/
@[expose] public section
set_option maxRecDepth 16384
noncomputable section
namespace Cert.ResRow
open Cert.ResIdeal Cert.ResIdeal.Gen
open Idealize.ShloMosaic Idealize.ShloMosaic.TcCoe

theorem z2 : (![0, 0] : Fin 2 → Nat) = fun _ => 0 := funext fun a => by fin_cases a <;> rfl
theorem z3 : (![0, 0, 0] : Fin 3 → Nat) = fun _ => 0 := funext fun a => by fin_cases a <;> rfl

section Cases
variable (c : Dev nD) (i : grid0.Coords) (a0 : Memref sig .tc .vmem S1024x6144 .bf16) (h0 : a0.IsWhole)
    (a1 : Memref sig .tc .vmem S1x6144x512 .bf16) (h1 : a1.IsWhole) (a2 : Memref sig .tc .vmem S1024x512 .f32) (h2 : a2.IsWhole)
    (a3 : Memref sig .tc .vmem S1024x512 .f32) (h3 : a3.IsWhole) (a4 : Memref sig .tc .vmem S1024x512 .bf16) (h4 : a4.IsWhole)
    (a5 : Memref sig .tc .vmem S1024x128 .f32) (h5 : a5.IsWhole)
    (x0 : FVec Ideal S1024x6144 .bf16) (x1 : FVec Ideal S1x6144x512 .bf16) (x2 : FVec Ideal S1024x512 .f32) (xo : FVec Ideal S1024x128 .f32)

theorem first3 (q0 : cond0_0 i) (q1 : ¬cond0_1 i) :
    out0_A_3 (F := Ideal) c i a0 h0 a1 h1 a2 h2 a3 h3 a4 h4 a5 h5 q0 q1 x0 x1 x2 = k0_pay1 (F := Ideal) x2 x0 x1 := by
  unfold out0_A_3
  rw [View.read_writes_eq_canon _ _ _ (cover0_A_3 (F := Ideal) c i a0 h0 a1 h1 a2 h2 a3 h3 a4 h4 a5 h5 q0 q1 x0 x1 x2)]
  unfold kernelRun0_A
  dsimp only
  rw [View.canon_unit_zero z2]
  simp only [View.readAt_eq_ld, h0.read_unread, h1.read_unread, h2.read_unread, View.ld_unit_zero (S := S1024x6144) z2,
    View.ld_unit_zero (S := S1024x512) z2, View.ld_unit_zero (S := S1x6144x512) z3]

theorem first4 (q0 : cond0_0 i) (q1 : ¬cond0_1 i) :
    out0_A_4 (F := Ideal) c i a0 h0 a1 h1 a2 h2 a3 h3 a4 h4 a5 h5 q0 q1 x0 x1 x2 = k0_pay2 (F := Ideal) x2 x0 x1 := by
  unfold out0_A_4
  rw [View.read_writes_eq_canon _ _ _ (cover0_A_4 (F := Ideal) c i a0 h0 a1 h1 a2 h2 a3 h3 a4 h4 a5 h5 q0 q1 x0 x1 x2)]
  unfold kernelRun0_A
  dsimp only
  rw [View.canon_unit_zero z2]
  simp only [View.readAt_eq_ld, h0.read_unread, h1.read_unread, h2.read_unread, View.ld_unit_zero (S := S1024x6144) z2,
    View.ld_unit_zero (S := S1024x512) z2, View.ld_unit_zero (S := S1x6144x512) z3]

theorem first5 (q0 : cond0_0 i) (q1 : ¬cond0_1 i) :
    out0_A_5 (F := Ideal) c i a0 h0 a1 h1 a2 h2 a3 h3 a4 h4 a5 h5 q0 q1 x0 x1 x2 = k0_pay3 (F := Ideal) x2 x0 x1 := by
  unfold out0_A_5
  rw [View.read_writes_eq_canon _ _ _ (cover0_A_5 (F := Ideal) c i a0 h0 a1 h1 a2 h2 a3 h3 a4 h4 a5 h5 q0 q1 x0 x1 x2)]
  unfold kernelRun0_A
  dsimp only
  rw [View.canon_unit_zero z2]
  simp only [View.readAt_eq_ld, h0.read_unread, h1.read_unread, h2.read_unread, View.ld_unit_zero (S := S1024x6144) z2,
    View.ld_unit_zero (S := S1024x512) z2, View.ld_unit_zero (S := S1x6144x512) z3]

theorem next3 (q0 : ¬cond0_0 i) (q1 : cond0_1 i) :
    out0_B_3 (F := Ideal) c i a0 h0 a1 h1 a2 h2 a3 h3 a4 h4 a5 h5 q0 q1 x0 x1 x2 xo = k0_pay1 (F := Ideal) x2 x0 x1 := by
  unfold out0_B_3
  rw [View.read_writes_eq_canon _ _ _ (cover0_B_3 (F := Ideal) c i a0 h0 a1 h1 a2 h2 a3 h3 a4 h4 a5 h5 q0 q1 x0 x1 x2 xo)]
  unfold kernelRun0_B
  dsimp only
  rw [View.canon_unit_zero z2]
  simp only [View.readAt_eq_ld, h0.read_unread, h1.read_unread, h2.read_unread, View.ld_unit_zero (S := S1024x6144) z2,
    View.ld_unit_zero (S := S1024x512) z2, View.ld_unit_zero (S := S1x6144x512) z3]

theorem next4 (q0 : ¬cond0_0 i) (q1 : cond0_1 i) :
    out0_B_4 (F := Ideal) c i a0 h0 a1 h1 a2 h2 a3 h3 a4 h4 a5 h5 q0 q1 x0 x1 x2 xo = k0_pay2 (F := Ideal) x2 x0 x1 := by
  unfold out0_B_4
  rw [View.read_writes_eq_canon _ _ _ (cover0_B_4 (F := Ideal) c i a0 h0 a1 h1 a2 h2 a3 h3 a4 h4 a5 h5 q0 q1 x0 x1 x2 xo)]
  unfold kernelRun0_B
  dsimp only
  rw [View.canon_unit_zero z2]
  simp only [View.readAt_eq_ld, h0.read_unread, h1.read_unread, h2.read_unread, View.ld_unit_zero (S := S1024x6144) z2,
    View.ld_unit_zero (S := S1024x512) z2, View.ld_unit_zero (S := S1x6144x512) z3]

theorem next5 (q0 : ¬cond0_0 i) (q1 : cond0_1 i) :
    out0_B_5 (F := Ideal) c i a0 h0 a1 h1 a2 h2 a3 h3 a4 h4 a5 h5 q0 q1 x0 x1 x2 xo = k0_pay4 (F := Ideal) x2 x0 x1 xo := by
  unfold out0_B_5
  rw [View.read_writes_eq_canon _ _ _ (cover0_B_5 (F := Ideal) c i a0 h0 a1 h1 a2 h2 a3 h3 a4 h4 a5 h5 q0 q1 x0 x1 x2 xo)]
  unfold kernelRun0_B
  dsimp only
  rw [View.canon_unit_zero z2]
  simp only [View.readAt_eq_ld, h0.read_unread, h1.read_unread, h2.read_unread, h5.read_unread, View.ld_unit_zero (S := S1024x6144) z2,
    View.ld_unit_zero (S := S1024x512) z2, View.ld_unit_zero (S := S1024x128) z2, View.ld_unit_zero (S := S1x6144x512) z3]
end Cases

/-- One entry of a block's new rows. -/
def entry (x0 : FVec Ideal S1024x6144 .bf16) (x1 : FVec Ideal S1x6144x512 .bf16) (x2 : FVec Ideal S1024x512 .f32)
    (p : Fin 1024) (q : Fin 512) : EReal :=
  x2 (ix2 p q) + Ideal.ofBits .f32 0x3F000000#32 * ∑ k : Fin 6144, x0 (ix2 p k) * x1 (ix3 (0 : Fin 1) k q)

section Entries
variable (x0 : FVec Ideal S1024x6144 .bf16) (x1 : FVec Ideal S1x6144x512 .bf16) (x2 : FVec Ideal S1024x512 .f32)

theorem pay1_apply (p : Fin 1024) (q : Fin 512) : k0_pay1 (F := Ideal) x2 x0 x1 (ix2 p q) = entry x0 x1 x2 p q := by
  unfold k0_pay1 entry
  pointwise
  try simp

theorem pay2_apply (p : Fin 1024) (q : Fin 512) : k0_pay2 (F := Ideal) x2 x0 x1 (ix2 p q) = entry x0 x1 x2 p q := by
  rw [← pay1_apply]
  unfold k0_pay2
  pointwise

theorem pay3_apply (p : Fin 1024) (q : Fin 128) :
    k0_pay3 (F := Ideal) x2 x0 x1 (ix2 p q) = ∑ n : Fin 512, entry x0 x1 x2 p n * entry x0 x1 x2 p n := by
  simp only [← pay1_apply]
  unfold k0_pay3
  generalize k0_pay1 (F := Ideal) x2 x0 x1 = z
  pointwise
  try simp

theorem pay4_apply (xo : FVec Ideal S1024x128 .f32) (p : Fin 1024) (q : Fin 128) :
    k0_pay4 (F := Ideal) x2 x0 x1 xo (ix2 p q) = xo (ix2 p q) + ∑ n : Fin 512, entry x0 x1 x2 p n * entry x0 x1 x2 p n := by
  rw [← pay3_apply x0 x1 x2 p q]
  unfold k0_pay4
  generalize k0_pay3 (F := Ideal) x2 x0 x1 = z
  pointwise
end Entries

end Cert.ResRow
-- ==== Proof.RowSums.lean ====
module
public import Idealize.ShloMosaic.Lib.Pointwise
/-! # Sums over a row, block of columns by block of columns -/
@[expose] public section
noncomputable section
namespace Cert.RowSums
open Idealize.ShloMosaic

/-- A sum over `a * b` columns, `b` at a time. -/
theorem split {N : Nat} (a b : Nat) (h : N = a * b) (f : Fin N → EReal) :
    ∑ n, f n = ∑ i : Fin a, ∑ j : Fin b, f ⟨i.val * b + j.val, by
      have := i.isLt; have := j.isLt
      calc i.val * b + j.val < i.val * b + b := by omega
        _ = (i.val + 1) * b := by ring
        _ ≤ a * b := Nat.mul_le_mul_right _ i.isLt
        _ = N := h.symm⟩ := by
  subst h
  rw [← Fintype.sum_prod_type' (f := fun (i : Fin a) (j : Fin b) => f ⟨i.val * b + j.val, _⟩)]
  refine (Fintype.sum_equiv (finProdFinEquiv (m := a) (n := b)) _ _ fun x => ?_).symm
  refine congrArg f (Fin.ext ?_)
  show x.1.val * b + x.2.val = x.2.val + b * x.1.val
  ring

end Cert.RowSums
-- ==== Proof.ResArray.lean ====
module
public import proofs.«01_k».proof.Proof.ResBlock
public import Idealize.ShloMosaic.Lib.Pipeline.ValueKit
public import proofs.«01_k».proof.Proof.RowSums
/-! # The three arrays the half step's kernel leaves -/
@[expose] public section
set_option maxRecDepth 16384
noncomputable section
namespace Cert.ResRow
open Cert.ResIdeal Cert.ResIdeal.Gen
open Idealize.ShloMosaic Idealize.ShloMosaic.TcCoe

variable (m : (ℓ : Loc nD τ sig) → Buf (Elt Ideal) ℓ) (c : Dev nD) (t : Fin cfg0.N)

theorem e0 : ∀ t : Fin cfg0.N, win0_0.index t = ![t.val / 8, 0] := (by decide +kernel : ∀ t : Fin grid0.N, _)
theorem e1 : ∀ t : Fin cfg0.N, win0_1.index t = ![0, 0, t.val % 8] := (by decide +kernel : ∀ t : Fin grid0.N, _)
theorem e2 : ∀ t : Fin cfg0.N, win0_2.index t = ![t.val / 8, t.val % 8] := (by decide +kernel : ∀ t : Fin grid0.N, _)
theorem e3 : ∀ t : Fin cfg0.N, win0_3.index t = ![t.val / 8, t.val % 8] := (by decide +kernel : ∀ t : Fin grid0.N, _)
theorem e4 : ∀ t : Fin cfg0.N, win0_4.index t = ![t.val / 8, t.val % 8] := (by decide +kernel : ∀ t : Fin grid0.N, _)
theorem e5 : ∀ t : Fin cfg0.N, win0_5.index t = ![t.val / 8, 0] := (by decide +kernel : ∀ t : Fin grid0.N, _)

theorem lt_N (t : Fin cfg0.N) : t.val < 128 := Nat.lt_of_lt_of_eq t.isLt N_0

/-- The array's row of a block's row. -/
def row (p : Fin 1024) : Fin 16384 := ⟨t.val / 8 * 1024 + p.val, by have := lt_N t; omega⟩
/-- The array's column of a block's column. -/
def col (q : Fin 512) : Fin 4096 := ⟨t.val % 8 * 512 + q.val, by omega⟩

/-- The array the first argument of a launch on device `c` names. -/
abbrev argA : FVec Ideal ResSpec.A .bf16 := m ((c : Thread nD τ).loc main_arg0)
/-- The second argument. -/
abbrev argW : FVec Ideal ResSpec.W .f32 := m ((c : Thread nD τ).loc main_arg1)
/-- The third argument. -/
abbrev argH : FVec Ideal ResSpec.H .f32 := m ((c : Thread nD τ).loc main_arg2)

theorem a_blk (p : Fin 1024) (k : Fin 6144) : iblk m c 0 t (ix2 p k) = argA m c (ix2 (row t p) k) := by
  unfold row
  blk_simp [iblk]
  rw [V_main_arg0]
  congr 1
  blk_ext [e0]

/-- The matrix as the region finds it. -/
theorem V_w : V m c main_v0 = (truncf .bf16 (argW m c) bitsLt_bf16_f32 : FVec Ideal S4x6144x4096 .bf16) := by
  unfold V
  after_results <;> rfl

theorem w_blk (k : Fin 6144) (q : Fin 512) : iblk m c 1 t (ix3 0 k q) = argW m c (ix3 (0 : Fin 4) k (col t q)) := by
  unfold col
  blk_simp [iblk]
  rw [V_w]
  show argW m c _ = _
  congr 1
  blk_ext [e1]

theorem h_blk (p : Fin 1024) (q : Fin 512) : iblk m c 2 t (ix2 p q) = argH m c (ix2 (row t p) (col t q)) := by
  unfold row col
  blk_simp [iblk]
  rw [V_main_arg2]
  congr 1
  blk_ext [e2]

/-- A block's entry is the formula at the array's row and column. -/
theorem entry_eq (p : Fin 1024) (q : Fin 512) :
    entry (iblk m c 0 t) (iblk m c 1 t) (iblk m c 2 t) p q = ResSpec.cell (argA m c) (argW m c) (argH m c) (row t p) (col t q) := by
  unfold entry ResSpec.cell
  refine congrArg₂ (· + ·) (h_blk m c t p q) (congrArg (_ * ·) (Finset.sum_congr rfl fun k _ => ?_))
  exact congrArg₂ (· * ·) (a_blk m c t p k) (w_blk m c t k q)

/-- The rows a point leaves. -/
theorem left3 : (outsAt0 m c t.val t.isLt).1 = k0_pay1 (F := Ideal) (iblk m c 2 t) (iblk m c 0 t) (iblk m c 1 t) := by
  by_cases h : t.val % 8 = 0
  · rw [outsAt0_A m c t h (by omega)]; dsimp only; exact first3 ..
  · rw [outsAt0_B m c t h (by omega)]; dsimp only; exact next3 ..

theorem left4 : (outsAt0 m c t.val t.isLt).2.1 = k0_pay2 (F := Ideal) (iblk m c 2 t) (iblk m c 0 t) (iblk m c 1 t) := by
  by_cases h : t.val % 8 = 0
  · rw [outsAt0_A m c t h (by omega)]; dsimp only; exact first4 ..
  · rw [outsAt0_B m c t h (by omega)]; dsimp only; exact next4 ..

/-- The sum of the squares of a row's columns in the block `n`. -/
def part (r : Fin 16384) (n : ℕ) : EReal :=
  ∑ q : Fin 512, ResSpec.cell (argA m c) (argW m c) (argH m c) r ⟨n % 8 * 512 + q.val, by omega⟩
    * ResSpec.cell (argA m c) (argW m c) (argH m c) r ⟨n % 8 * 512 + q.val, by omega⟩

theorem part_eq (p : Fin 1024) :
    ∑ n : Fin 512, entry (iblk m c 0 t) (iblk m c 1 t) (iblk m c 2 t) p n * entry (iblk m c 0 t) (iblk m c 1 t) (iblk m c 2 t) p n
      = part m c (row t p) (t.val % 8) := by
  unfold part
  refine Finset.sum_congr rfl fun q _ => ?_
  rw [entry_eq]
  have : col t q = ⟨t.val % 8 % 8 * 512 + q.val, by omega⟩ := Fin.ext (by unfold col; dsimp only; omega)
  rw [this]

/-- The running sum a point leaves: the blocks of columns up to its own. -/
theorem left5 (p : Fin 1024) (q : Fin 128) : ∀ (n : ℕ) (h : n < cfg0.N),
    (outsAt0 m c n h).2.2 (ix2 p q) = ∑ j ∈ Finset.range (n % 8 + 1), part m c (row ⟨n, h⟩ p) j := by
  intro n
  induction n with
  | zero =>
    intro h
    rw [show outsAt0 m c 0 h = outsAt0 m c (⟨0, h⟩ : Fin cfg0.N).val (⟨0, h⟩ : Fin cfg0.N).isLt from rfl,
      outsAt0_A m c ⟨0, h⟩ (Nat.zero_mod _) (by show ¬1 ≤ 0 % 8; decide)]
    dsimp only
    rw [first5]
    refine (pay3_apply _ _ _ p q).trans ((part_eq m c ⟨0, h⟩ p).trans ?_)
    simp
  | succ n ih =>
    intro h
    rw [show outsAt0 m c (n + 1) h = outsAt0 m c (⟨n + 1, h⟩ : Fin cfg0.N).val (⟨n + 1, h⟩ : Fin cfg0.N).isLt from rfl]
    by_cases h0 : (n + 1) % 8 = 0
    · rw [outsAt0_A m c ⟨n + 1, h⟩ h0 (by show ¬1 ≤ (n + 1) % 8; omega)]
      dsimp only
      rw [first5]
      refine (pay3_apply _ _ _ p q).trans ((part_eq m c ⟨n + 1, h⟩ p).trans ?_)
      show part m c _ ((n + 1) % 8) = _
      rw [h0]
      simp
    · rw [outsAt0_B m c ⟨n + 1, h⟩ h0 (by show 1 ≤ (n + 1) % 8; omega)]
      dsimp only
      rw [next5]
      refine (pay4_apply _ _ _ _ p q).trans ?_
      rw [part_eq m c ⟨n + 1, h⟩ p]
      have hm : (n + 1) % 8 = n % 8 + 1 := by omega
      have hr : row ⟨n, Nat.lt_of_succ_lt h⟩ p = row ⟨n + 1, h⟩ p := Fin.ext (by unfold row; dsimp only; omega)
      show (outsAt0 m c n _).2.2 (ix2 p q) + part m c _ ((n + 1) % 8) = _
      rw [ih (Nat.lt_of_succ_lt h), hm, Finset.sum_range_succ _ (n % 8 + 1), hr]

/-- The new rows. -/
theorem final3 : (dats m 0 c).arrAt 3 cfg0.N = ResSpec.out (argA m c) (argW m c) (argH m c) := by
  refine (dats m 0 c).arrAt_eq_of_covers 3 _ (by decide +kernel) fun t hf y => ?_
  blk_simp
  rw [after0_3, left3]
  obtain ⟨p, q, rfl⟩ : ∃ (p : Fin 1024) (q : Fin 512), y = ix2 p q := ⟨y 0, y 1, by
    funext a
    match a with
    | ⟨0, _⟩ => rfl
    | ⟨1, _⟩ => rfl⟩
  have e : (win0_3.blk t).view.emb (ix2 p q) = ix2 (row t p) (col t q) := by
    unfold row col
    blk_ext [e3]
  rw [e]
  exact (pay1_apply _ _ _ p q).trans (entry_eq m c t p q)

/-- The new rows, in the narrower type. -/
theorem final4 : (dats m 0 c).arrAt 4 cfg0.N = ResSpec.outB (argA m c) (argW m c) (argH m c) := by
  refine (dats m 0 c).arrAt_eq_of_covers 4 _ (by decide +kernel) fun t hf y => ?_
  blk_simp
  rw [after0_4, left4]
  obtain ⟨p, q, rfl⟩ : ∃ (p : Fin 1024) (q : Fin 512), y = ix2 p q := ⟨y 0, y 1, by
    funext a
    match a with
    | ⟨0, _⟩ => rfl
    | ⟨1, _⟩ => rfl⟩
  have e : (win0_4.blk t).view.emb (ix2 p q) = ix2 (row t p) (col t q) := by
    unfold row col
    blk_ext [e4]
  rw [e]
  exact (pay2_apply _ _ _ p q).trans (entry_eq m c t p q)

/-- The sums of squares. -/
theorem final5 : (dats m 0 c).arrAt 5 cfg0.N = ResSpec.squares (argA m c) (argW m c) (argH m c) := by
  refine (dats m 0 c).arrAt_eq_of_covers 5 _ (by decide +kernel) fun t hf y => ?_
  have h7 : t.val % 8 = 7 := by have := (flush0_5 t).mp hf; omega
  blk_simp
  rw [after0_5]
  obtain ⟨p, q, rfl⟩ : ∃ (p : Fin 1024) (q : Fin 128), y = ix2 p q := ⟨y 0, y 1, by
    funext a
    match a with
    | ⟨0, _⟩ => rfl
    | ⟨1, _⟩ => rfl⟩
  have e : (win0_5.blk t).view.emb (ix2 p q) = ix2 (row t p) q := by
    unfold row
    blk_ext [e5]
  rw [e]
  refine (left5 m c p q t.val t.isLt).trans ?_
  rw [h7]
  show _ = ∑ n : Fin 4096, ResSpec.cell _ _ _ (row t p) n * ResSpec.cell _ _ _ (row t p) n
  rw [RowSums.split 8 512 rfl, ← Fin.sum_univ_eq_sum_range (fun j => part m c (row t p) j) 8]
  refine Finset.sum_congr rfl fun j _ => ?_
  unfold part
  refine Finset.sum_congr rfl fun q _ => ?_
  have : (⟨j.val % 8 * 512 + q.val, by omega⟩ : Fin 4096) = ⟨j.val * 512 + q.val, by omega⟩ := Fin.ext (by dsimp only; omega)
  rw [this]

end Cert.ResRow
-- ==== Proof.ResRefValue.lean ====
module
public import proofs.«01_k».proof.Proof.Gen.ResRefIdeal.Read
public import proofs.«01_k».proof.Proof.ResSpec
/-! # The reference's half step is the formula -/
@[expose] public section
noncomputable section
namespace Cert.ResRefIdeal.Half
open Cert.ResRefIdeal Cert.ResRefIdeal.Read
open Idealize.ShloMosaic

variable (x0 : FVec Ideal ResSpec.A .bf16) (x1 : FVec Ideal ResSpec.W .f32) (x2 : FVec Ideal ResSpec.H .f32)

theorem out_eq : val_main_v6 (F := Ideal) x0 x1 x2 = ResSpec.out x0 x1 x2 := by
  funext y
  obtain ⟨t, n, rfl⟩ : ∃ (t : Fin 16384) (n : Fin 4096), y = ix2 t n := ⟨y 0, y 1, by
    funext a
    match a with
    | ⟨0, _⟩ => rfl
    | ⟨1, _⟩ => rfl⟩
  show _ = ResSpec.cell x0 x1 x2 t n
  unfold ResSpec.cell
  unfold val_main_v6 val_main_v5 val_main_v4 val_main_v3 val_main_v2 val_main_v1 val_main_v0 val_main_cst
  pointwise
  try simp

theorem outB_eq : val_main_v7 (F := Ideal) x0 x1 x2 = ResSpec.outB x0 x1 x2 := by
  funext y
  exact congrFun (out_eq x0 x1 x2) y

theorem squares_eq : val_main_v11 (F := Ideal) x0 x1 x2 = ResSpec.squares x0 x1 x2 := by
  funext y
  obtain ⟨t, n, rfl⟩ : ∃ (t : Fin 16384) (n : Fin 128), y = ix2 t n := ⟨y 0, y 1, by
    funext a
    match a with
    | ⟨0, _⟩ => rfl
    | ⟨1, _⟩ => rfl⟩
  show _ = ∑ k : Fin 4096, ResSpec.out x0 x1 x2 (ix2 t k) * ResSpec.out x0 x1 x2 (ix2 t k)
  rw [← out_eq]
  unfold val_main_v11 val_main_v10 val_main_v9 val_main_v8 val_main_cst_0
  generalize val_main_v6 (F := Ideal) x0 x1 x2 = z
  pointwise
  try simp

end Cert.ResRefIdeal.Half
-- ==== Proof.MixInSpec.lean ====
module
public import proofs.«01_k».proof.Proof.Rms
/-! # The combined projection, as a formula over the extended reals -/
@[expose] public section
noncomputable section
namespace Cert.MixInSpec
open Idealize.ShloMosaic

abbrev X : Shape := ⟨2, ![16384, 4096]⟩
abbrev G : Shape := ⟨2, ![4, 4096]⟩
abbrev W : Shape := ⟨3, ![4, 4096, 9728]⟩
abbrev H : Shape := ⟨3, ![60, 16384, 128]⟩
abbrev B : Shape := ⟨2, ![16384, 2048]⟩

/-- The factor of row `t`. -/
def scale (x : FVec Ideal X .f32) (t : Fin 16384) : EReal :=
  Rms.factor Rms.len4096 (∑ k : Fin 4096, x (ix2 t k) * x (ix2 t k))

/-- The normalized row `t` against column `n` of layer 0's matrix. -/
def lin (x : FVec Ideal X .f32) (g : FVec Ideal G .f32) (w : FVec Ideal W .f32) (t : Fin 16384) (n : Fin 9728) : EReal :=
  ∑ k : Fin 4096, x (ix2 t k) * scale x t * g (ix2 (0 : Fin 4) k) * w (ix3 (0 : Fin 4) k n)

/-- The matrix's column of lane `d` of head `g`: the heads skip the 2048 columns from 3072 on. -/
def headCol (g : Fin 60) (d : Fin 128) : Fin 9728 :=
  ⟨if g.val < 24 then g.val * 128 + d.val else 2048 + (g.val * 128 + d.val), by split <;> omega⟩

/-- The matrix's column of column `n` of the part the heads skip. -/
def convCol (n : Fin 2048) : Fin 9728 := ⟨3072 + n.val, by omega⟩

/-- The heads: head, row, lane. -/
def heads (x : FVec Ideal X .f32) (g : FVec Ideal G .f32) (w : FVec Ideal W .f32) : FVec Ideal H .bf16 :=
  fun y => lin x g w (y 1) (headCol (y 0) (y 2))

/-- The columns the heads skip. -/
def conv (x : FVec Ideal X .f32) (g : FVec Ideal G .f32) (w : FVec Ideal W .f32) : FVec Ideal B .f32 :=
  fun y => lin x g w (y 0) (convCol (y 1))

end Cert.MixInSpec
-- ==== Proof.MixInPrep.lean ====
module
public import proofs.«01_k».proof.Proof.Gen.MixInIdeal.Frame
public import proofs.«01_k».proof.Proof.MixInSpec
public import Idealize.ShloMosaic.Lib.Pipeline.ValueKit
/-! # The arrays the projection's first region leaves: the rows, and the sums of their squares -/
@[expose] public section
set_option maxRecDepth 16384
noncomputable section
namespace Cert.MixInRow
open Cert.MixInIdeal Cert.MixInIdeal.Gen
open Idealize.ShloMosaic Idealize.ShloMosaic.TcCoe

theorem z2 : (![0, 0] : Fin 2 → Nat) = fun _ => 0 := funext fun a => by fin_cases a <;> rfl
theorem z3 : (![0, 0, 0] : Fin 3 → Nat) = fun _ => 0 := funext fun a => by fin_cases a <;> rfl

/-- What a block of the first region leaves: the rows. -/
theorem rows_apply (x : FVec Ideal S512x4096 .f32) (y : S512x4096.Idx) : out0_1 (F := Ideal) x y = x y := by
  unfold out0_1
  rw [View.canon_unit_zero z2, View.ld_unit_zero (S := S512x4096) z2]
  rfl

/-- And the sums of their squares, in all 128 lanes. -/
theorem sums_apply (x : FVec Ideal S512x4096 .f32) (p : Fin 512) (q : Fin 128) :
    out0_2 (F := Ideal) x (ix2 p q) = ∑ k : Fin 4096, x (ix2 p k) * x (ix2 p k) := by
  unfold out0_2
  rw [View.canon_unit_zero z2, View.ld_unit_zero (S := S512x4096) z2]
  unfold k0_pay2
  pointwise
  try simp

variable (V : (c : Dev nD) → (b : Ref sig .tc) → Buf (Elt Ideal) ((c : Thread nD τ).loc b)) (c : Dev nD) (t : Fin cfg0.N)

/-- The rows the first region finds. -/
abbrev atX : FVec Ideal S16384x4096 .f32 := V c main_arg0

theorem p0 : ∀ t : Fin cfg0.N, win0_0.index t = ![t.val, 0] := (by decide +kernel : ∀ t : Fin grid0.N, _)
theorem p1 : ∀ t : Fin cfg0.N, win0_1.index t = ![t.val, 0] := (by decide +kernel : ∀ t : Fin grid0.N, _)
theorem p2 : ∀ t : Fin cfg0.N, win0_2.index t = ![t.val, 0] := (by decide +kernel : ∀ t : Fin grid0.N, _)

theorem lt_N0 (t : Fin cfg0.N) : t.val < 32 := Nat.lt_of_lt_of_eq t.isLt N_0

/-- The array's row of a block's row. -/
def row0 (p : Fin 512) : Fin 16384 := ⟨t.val * 512 + p.val, by have := lt_N0 t; omega⟩

theorem x_blk (p : Fin 512) (k : Fin 4096) : iblk0 V c 0 t (ix2 p k) = atX V c (ix2 (row0 t p) k) := by
  unfold row0
  blk_simp [iblk0]
  congr 1
  blk_ext [p0]

theorem prep1 : (dat0 V c).arrAt 1 cfg0.N = (fun y => atX V c y : FVec Ideal S16384x4096 .bf16) := by
  refine (dat0 V c).arrAt_eq_of_covers 1 _ (by decide +kernel) fun t hf y => ?_
  blk_simp
  rw [after0_1]
  obtain ⟨p, q, rfl⟩ : ∃ (p : Fin 512) (q : Fin 4096), y = ix2 p q := ⟨y 0, y 1, by
    funext a
    match a with
    | ⟨0, _⟩ => rfl
    | ⟨1, _⟩ => rfl⟩
  have e : (win0_1.blk t).view.emb (ix2 p q) = ix2 (row0 t p) q := by
    unfold row0
    blk_ext [p1]
  rw [e]
  exact (rows_apply _ _).trans (x_blk V c t p q)

theorem prep2 : (dat0 V c).arrAt 2 cfg0.N
    = (fun y => ∑ k : Fin 4096, atX V c (ix2 (y 0) k) * atX V c (ix2 (y 0) k) : FVec Ideal S16384x128 .f32) := by
  refine (dat0 V c).arrAt_eq_of_covers 2 _ (by decide +kernel) fun t hf y => ?_
  blk_simp
  rw [after0_2]
  obtain ⟨p, q, rfl⟩ : ∃ (p : Fin 512) (q : Fin 128), y = ix2 p q := ⟨y 0, y 1, by
    funext a
    match a with
    | ⟨0, _⟩ => rfl
    | ⟨1, _⟩ => rfl⟩
  have e : (win0_2.blk t).view.emb (ix2 p q) = ix2 (row0 t p) q := by
    unfold row0
    blk_ext [p2]
  rw [e]
  refine (sums_apply _ _ _).trans (Finset.sum_congr rfl fun k _ => ?_)
  exact congrArg₂ (· * ·) (x_blk V c t p k) (x_blk V c t p k)

end Cert.MixInRow
-- ==== Proof.MixInArray.lean ====
module
public import proofs.«01_k».proof.Proof.MixInPrep
/-! # The arrays the projection's second and third regions leave -/
@[expose] public section
set_option maxRecDepth 16384
noncomputable section
namespace Cert.MixInRow
open Cert.MixInIdeal Cert.MixInIdeal.Gen
open Idealize.ShloMosaic Idealize.ShloMosaic.TcCoe

/-- A block's row against a column of a block of the matrix. -/
def dot (x0 : FVec Ideal S2048x4096 .bf16) (x1 : FVec Ideal S2048x128 .f32) (x2 : FVec Ideal S1x4096x512 .bf16) (p : Fin 2048) (q : Fin 512) : EReal :=
  (∑ k : Fin 4096, x0 (ix2 p k) * x2 (ix3 (0 : Fin 1) k q)) * Rms.factor Rms.len4096 (x1 (ix2 p (0 : Fin 128)))

theorem idx1 (x : S1x2048x128.Idx) : ∃ (p : Fin 2048) (d : Fin 128), x = ix3 0 p d := ⟨x 1, x 2, by
  funext a
  match a with
  | ⟨0, _⟩ => exact Subsingleton.elim (α := Fin 1) _ _
  | ⟨1, _⟩ => rfl
  | ⟨2, _⟩ => rfl⟩

section Blocks
variable (x0 : FVec Ideal S2048x4096 .bf16) (x1 : FVec Ideal S2048x128 .f32) (x2 : FVec Ideal S1x4096x512 .bf16)

theorem lane0 (p : Fin 2048) : View.ld (Val := Elt Ideal) (e' := .f32) x1 r1_2 (ix2 p 0) = x1 (ix2 p (0 : Fin 128)) := by
  refine View.ld_unit_apply_of (Val := Elt Ideal) (e := .f32) x1 _ _ _ _ _ fun a => ?_
  match a with
  | ⟨0, _⟩ => exact (Nat.zero_add _).symm
  | ⟨1, _⟩ => rfl

/-- The product a block of the heads stores, lane by lane. -/
theorem prod_apply (p : Fin 2048) (q : Fin 512) :
    k1_pay2 (F := Ideal) x0 x2 (View.ld (Val := Elt Ideal) (e' := .f32) x1 r1_2) (ix2 p q) = dot x0 x1 x2 p q := by
  unfold dot
  rw [← lane0 x1 p]
  generalize View.ld (Val := Elt Ideal) (e' := .f32) x1 r1_2 = z
  unfold k1_pay2 Rms.factor
  pointwise
  try simp

theorem conv_apply (p : Fin 2048) (q : Fin 512) : out2_3 (F := Ideal) x0 x1 x2 (ix2 p q) = dot x0 x1 x2 p q := by
  unfold out2_3 dot
  rw [← lane0 x1 p, View.canon_unit_zero z2, View.ld_unit_zero (S := S2048x4096) z2, View.ld_unit_zero (S := S1x4096x512) z3]
  show k2_pay1 (F := Ideal) x0 x2 (View.ld (Val := Elt Ideal) (e' := .f32) x1 r1_2) (ix2 p q) = _
  generalize View.ld (Val := Elt Ideal) (e' := .f32) x1 r1_2 = z
  unfold k2_pay1 Rms.factor
  pointwise
  try simp

/-- A block of the heads: head of the block, row, lane. -/
def headsOut : FVec Ideal S4x2048x128 .bf16 := fun y =>
  dot x0 x1 x2 (y 1) ⟨(y 0).val * 128 + (y 2).val, by
    have h0 : (y 0).val < 4 := (y 0).isLt
    have h2 : (y 2).val < 128 := (y 2).isLt
    omega⟩

section Stores
variable (v0 : FVec Ideal S2048x4096 .bf16) (v2 : FVec Ideal S1x4096x512 .bf16) (v5 : FVec Ideal S2048x1 .f32) (p : Fin 2048) (d : Fin 128)

theorem store0 : k1_pay3 (F := Ideal) v0 v2 v5 (ix3 0 p d) = k1_pay2 (F := Ideal) v0 v2 v5 (ix2 p ⟨d.val, by omega⟩) := by
  unfold k1_pay3
  generalize k1_pay2 (F := Ideal) v0 v2 v5 = z
  pointwise

theorem store1 : k1_pay4 (F := Ideal) v0 v2 v5 (ix3 0 p d) = k1_pay2 (F := Ideal) v0 v2 v5 (ix2 p ⟨128 + d.val, by omega⟩) := by
  unfold k1_pay4
  generalize k1_pay2 (F := Ideal) v0 v2 v5 = z
  pointwise

theorem store2 : k1_pay5 (F := Ideal) v0 v2 v5 (ix3 0 p d) = k1_pay2 (F := Ideal) v0 v2 v5 (ix2 p ⟨256 + d.val, by omega⟩) := by
  unfold k1_pay5
  generalize k1_pay2 (F := Ideal) v0 v2 v5 = z
  pointwise

theorem store3 : k1_pay1 (F := Ideal) (k1_pay6 v0 v2 v5) (ix3 0 p d) = k1_pay2 (F := Ideal) v0 v2 v5 (ix2 p ⟨384 + d.val, by omega⟩) := by
  unfold k1_pay1 k1_pay6
  generalize k1_pay2 (F := Ideal) v0 v2 v5 = z
  pointwise
end Stores

theorem at_place (p : Fin 2048) (d : Fin 128) (y : S4x2048x128.Idx) (n : Fin 512) (h1 : (y 1).val = p.val)
    (h : (y 0).val * 128 + (y 2).val = n.val) : headsOut x0 x1 x2 y = dot x0 x1 x2 p n := by
  unfold headsOut
  exact congrArg₂ (dot x0 x1 x2) (Fin.ext h1) (Fin.ext h)

theorem heads_eq : out1_3 (F := Ideal) x0 x1 x2 = headsOut x0 x1 x2 := by
  funext y
  unfold out1_3
  refine View.canon_apply_of_pieces _ _ (fun p hp => ?_) y (cover1_3 (F := Ideal) _ _ _ _ y)
  rw [View.ld_unit_zero (S := S2048x4096) z2, View.ld_unit_zero (S := S1x4096x512) z3] at hp
  simp only [List.mem_cons, List.not_mem_nil, or_false] at hp
  rcases hp with rfl | rfl | rfl | rfl
  · intro x
    obtain ⟨p, d, rfl⟩ : ∃ (p : Fin 2048) (d : Fin 128), x = ix3 0 p d := idx1 x
    have h : ∀ a, (r1_6.emb (ix3 0 p d) a).val = ![3, 0, 0] a + (ix3 (0 : Fin 1) p d a).val := fun a => Rect.idx_unit_val ..
    refine ((store3 _ _ _ p d).trans (prod_apply x0 x1 x2 p _)).trans (at_place x0 x1 x2 p d _ _ ?_ ?_).symm
    · exact (h 1).trans (Nat.zero_add _)
    · rw [h 0, h 2]
      show (3 + 0) * 128 + (0 + d.val) = 384 + d.val
      omega
  · intro x
    obtain ⟨p, d, rfl⟩ : ∃ (p : Fin 2048) (d : Fin 128), x = ix3 0 p d := idx1 x
    have h : ∀ a, (r1_5.emb (ix3 0 p d) a).val = ![2, 0, 0] a + (ix3 (0 : Fin 1) p d a).val := fun a => Rect.idx_unit_val ..
    refine ((store2 _ _ _ p d).trans (prod_apply x0 x1 x2 p _)).trans (at_place x0 x1 x2 p d _ _ ?_ ?_).symm
    · exact (h 1).trans (Nat.zero_add _)
    · rw [h 0, h 2]
      show (2 + 0) * 128 + (0 + d.val) = 256 + d.val
      omega
  · intro x
    obtain ⟨p, d, rfl⟩ : ∃ (p : Fin 2048) (d : Fin 128), x = ix3 0 p d := idx1 x
    have h : ∀ a, (r1_4.emb (ix3 0 p d) a).val = ![1, 0, 0] a + (ix3 (0 : Fin 1) p d a).val := fun a => Rect.idx_unit_val ..
    refine ((store1 _ _ _ p d).trans (prod_apply x0 x1 x2 p _)).trans (at_place x0 x1 x2 p d _ _ ?_ ?_).symm
    · exact (h 1).trans (Nat.zero_add _)
    · rw [h 0, h 2]
      show (1 + 0) * 128 + (0 + d.val) = 128 + d.val
      omega
  · intro x
    obtain ⟨p, d, rfl⟩ : ∃ (p : Fin 2048) (d : Fin 128), x = ix3 0 p d := idx1 x
    have h : ∀ a, (r1_3.emb (ix3 0 p d) a).val = ![0, 0, 0] a + (ix3 (0 : Fin 1) p d a).val := fun a => Rect.idx_unit_val ..
    refine ((store0 _ _ _ p d).trans (prod_apply x0 x1 x2 p _)).trans (at_place x0 x1 x2 p d _ _ ?_ ?_).symm
    · exact (h 1).trans (Nat.zero_add _)
    · rw [h 0, h 2]
      show (0 + 0) * 128 + (0 + d.val) = d.val
      omega
end Blocks

variable (V : (c : Dev nD) → (b : Ref sig .tc) → Buf (Elt Ideal) ((c : Thread nD τ).loc b)) (c : Dev nD)

/-- The rows, the sums and the matrix the later regions find. -/
abbrev atH : FVec Ideal S16384x4096 .bf16 := V c main_v0_0
abbrev atS : FVec Ideal S16384x128 .f32 := V c main_v0_1
abbrev atW : FVec Ideal S4x4096x9728 .bf16 := V c main_v4

/-- A row of the arrays the region finds against a column of the matrix. -/
def cell (n : Fin 16384) (k : Fin 9728) : EReal :=
  (∑ j : Fin 4096, atH V c (ix2 n j) * atW V c (ix3 (0 : Fin 4) j k))
    * Rms.factor Rms.len4096 (atS V c (ix2 n (0 : Fin 128)))

section Heads
variable (t : Fin cfg1.N)

theorem e0 : ∀ t : Fin cfg1.N, win1_0.index t = ![t.val / 15, 0] := (by decide +kernel : ∀ t : Fin grid1.N, _)
theorem e1 : ∀ t : Fin cfg1.N, win1_1.index t = ![t.val / 15, 0] := (by decide +kernel : ∀ t : Fin grid1.N, _)
/-- The matrix's block of a point: the heads' blocks skip four. -/
def wb (t : Nat) : Nat := if t % 15 < 6 then t % 15 else t % 15 + 4
theorem e2 : ∀ t : Fin cfg1.N, win1_2.index t = ![0, 0, wb t.val] :=
  (by decide +kernel : ∀ t : Fin grid1.N, _)
theorem e3 : ∀ t : Fin cfg1.N, win1_3.index t = ![t.val % 15, t.val / 15, 0] := (by decide +kernel : ∀ t : Fin grid1.N, _)

theorem lt_N1 (t : Fin cfg1.N) : t.val < 120 := Nat.lt_of_lt_of_eq t.isLt N_1

/-- The array's row of a block's row. -/
def row (p : Fin 2048) : Fin 16384 := ⟨t.val / 15 * 2048 + p.val, by have := lt_N1 t; omega⟩
/-- The head of a block's head. -/
def head (g : Fin 4) : Fin 60 := ⟨t.val % 15 * 4 + g.val, by omega⟩
/-- The matrix's column of a block's column. -/
def col (q : Fin 512) : Fin 9728 := ⟨wb t.val * 512 + q.val, by unfold wb; split <;> omega⟩

theorem h_blk (p : Fin 2048) (k : Fin 4096) : iblk1 V c 0 t (ix2 p k) = atH V c (ix2 (row t p) k) := by
  unfold row
  blk_simp [iblk1]
  congr 1
  blk_ext [e0]

theorem s_blk (p : Fin 2048) (k : Fin 128) : iblk1 V c 1 t (ix2 p k) = atS V c (ix2 (row t p) k) := by
  unfold row
  blk_simp [iblk1]
  congr 1
  blk_ext [e1]

theorem w_blk (k : Fin 4096) (q : Fin 512) : iblk1 V c 2 t (ix3 0 k q) = atW V c (ix3 (0 : Fin 4) k (col t q)) := by
  unfold col
  blk_simp [iblk1]
  congr 1
  blk_ext [e2]

theorem col_head (g : Fin 4) (d : Fin 128) (q : Fin 512) (h : g.val * 128 + d.val = q.val) : col t q = MixInSpec.headCol (head t g) d := by
  refine Fin.ext ?_
  show (if t.val % 15 < 6 then t.val % 15 else t.val % 15 + 4) * 512 + q.val
    = if t.val % 15 * 4 + g.val < 24 then (t.val % 15 * 4 + g.val) * 128 + d.val else 2048 + ((t.val % 15 * 4 + g.val) * 128 + d.val)
  split <;> split <;> omega

theorem blk_dot (p : Fin 2048) (q : Fin 512) : dot (iblk1 V c 0 t) (iblk1 V c 1 t) (iblk1 V c 2 t) p q = cell V c (row t p) (col t q) := by
  unfold dot cell
  refine congrArg₂ (· * ·) (Finset.sum_congr rfl fun k _ => ?_) (congrArg _ (s_blk V c t p 0))
  exact congrArg₂ (· * ·) (h_blk V c t p k) (w_blk V c t k _)

theorem heads_blk (g : Fin 4) (p : Fin 2048) (d : Fin 128) :
    headsOut (iblk1 V c 0 t) (iblk1 V c 1 t) (iblk1 V c 2 t) (ix3 g p d) = cell V c (row t p) (MixInSpec.headCol (head t g) d) := by
  have hq : g.val * 128 + d.val < 512 := by omega
  rw [at_place _ _ _ p d (ix3 g p d) ⟨g.val * 128 + d.val, hq⟩ rfl rfl, blk_dot, col_head t g d ⟨g.val * 128 + d.val, hq⟩ rfl]

/-- The heads as an array over the rows the region finds. -/
def headsArr : FVec Ideal S60x16384x128 .bf16 := fun y => cell V c (y 1) (MixInSpec.headCol (y 0) (y 2))

theorem headsArr_apply (g : Fin 60) (p : Fin 16384) (d : Fin 128) : headsArr V c (ix3 g p d) = cell V c p (MixInSpec.headCol g d) := rfl

theorem place3 (g : Fin 4) (p : Fin 2048) (d : Fin 128) : (win1_3.blk t).view.emb (ix3 g p d) = ix3 (head t g) (row t p) d := by
  unfold row head
  blk_ext [e3]

theorem act1 : (dat1 V c).arrAt 3 cfg1.N = headsArr V c := by
  refine (dat1 V c).arrAt_eq_of_covers 3 _ (by decide +kernel) fun t hf y => ?_
  blk_simp
  rw [after1_3]
  obtain ⟨g, p, d, rfl⟩ : ∃ (g : Fin 4) (p : Fin 2048) (d : Fin 128), y = ix3 g p d := ⟨y 0, y 1, y 2, by
    funext a
    match a with
    | ⟨0, _⟩ => rfl
    | ⟨1, _⟩ => rfl
    | ⟨2, _⟩ => rfl⟩
  rw [place3, headsArr_apply, heads_eq]
  exact heads_blk V c t g p d
end Heads

section Conv
variable (t : Fin cfg2.N)

theorem f0 : ∀ t : Fin cfg2.N, win2_0.index t = ![t.val / 4, 0] := (by decide +kernel : ∀ t : Fin grid2.N, _)
theorem f1 : ∀ t : Fin cfg2.N, win2_1.index t = ![t.val / 4, 0] := (by decide +kernel : ∀ t : Fin grid2.N, _)
theorem f2 : ∀ t : Fin cfg2.N, win2_2.index t = ![0, 0, t.val % 4 + 6] := (by decide +kernel : ∀ t : Fin grid2.N, _)
theorem f3 : ∀ t : Fin cfg2.N, win2_3.index t = ![t.val / 4, t.val % 4] := (by decide +kernel : ∀ t : Fin grid2.N, _)

theorem lt_N2 (t : Fin cfg2.N) : t.val < 32 := Nat.lt_of_lt_of_eq t.isLt N_2

/-- The array's row of a block's row. -/
def rowC (p : Fin 2048) : Fin 16384 := ⟨t.val / 4 * 2048 + p.val, by have := lt_N2 t; omega⟩
/-- The array's column of a block's column. -/
def colC (q : Fin 512) : Fin 2048 := ⟨t.val % 4 * 512 + q.val, by omega⟩

theorem hc_blk (p : Fin 2048) (k : Fin 4096) : iblk2 V c 0 t (ix2 p k) = atH V c (ix2 (rowC t p) k) := by
  unfold rowC
  blk_simp [iblk2]
  congr 1
  blk_ext [f0]

theorem sc_blk (p : Fin 2048) (k : Fin 128) : iblk2 V c 1 t (ix2 p k) = atS V c (ix2 (rowC t p) k) := by
  unfold rowC
  blk_simp [iblk2]
  congr 1
  blk_ext [f1]

theorem wc_blk (k : Fin 4096) (q : Fin 512) : iblk2 V c 2 t (ix3 0 k q) = atW V c (ix3 (0 : Fin 4) k (MixInSpec.convCol (colC t q))) := by
  unfold MixInSpec.convCol colC
  blk_simp [iblk2]
  congr 1
  blk_ext [f2]

theorem act2 : (dat2 V c).arrAt 3 cfg2.N
    = (fun y => cell V c (y 0) (MixInSpec.convCol (y 1)) : FVec Ideal S16384x2048 .f32) := by
  refine (dat2 V c).arrAt_eq_of_covers 3 _ (by decide +kernel) fun t hf y => ?_
  blk_simp
  rw [after2_3]
  obtain ⟨p, q, rfl⟩ : ∃ (p : Fin 2048) (q : Fin 512), y = ix2 p q := ⟨y 0, y 1, by
    funext a
    match a with
    | ⟨0, _⟩ => rfl
    | ⟨1, _⟩ => rfl⟩
  have e : (win2_3.blk t).view.emb (ix2 p q) = ix2 (rowC t p) (colC t q) := by
    unfold rowC colC
    blk_ext [f3]
  rw [e]
  refine (conv_apply _ _ _ p q).trans ?_
  show _ = cell V c (rowC t p) (MixInSpec.convCol (colC t q))
  unfold dot cell
  refine congrArg₂ (· * ·) (Finset.sum_congr rfl fun k _ => ?_) (congrArg _ (sc_blk V c t p 0))
  exact congrArg₂ (· * ·) (hc_blk V c t p k) (wc_blk V c t k q)
end Conv

end Cert.MixInRow
-- ==== Proof.MixInValue.lean ====
module
public import proofs.«01_k».proof.Proof.MixInArray
/-! # The projection's run: its results are the formula of its arguments -/
@[expose] public section
set_option maxRecDepth 16384
noncomputable section
namespace Cert.MixInRow
open Cert.MixInIdeal Cert.MixInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window)

variable (m : (ℓ : Loc nD τ sig) → Buf (Elt Ideal) ℓ) (ρ : Dev nD → PrngReg) (c : Dev nD)

/-- The arguments. -/
abbrev argX : FVec Ideal MixInSpec.X .f32 := m ((c : Thread nD τ).loc main_arg0)
abbrev argG : FVec Ideal MixInSpec.G .f32 := m ((c : Thread nD τ).loc main_arg1)
abbrev argW : FVec Ideal MixInSpec.W .f32 := m ((c : Thread nD τ).loc main_arg2)

theorem found_h : atH (V2 m ρ) c = (fun y => argX m c y : FVec Ideal S16384x4096 .bf16) :=
  ((W2_of m ρ c main_v0_0 (by decide)).trans (W1_arr m ρ c 1)).trans (prep1 (V0 m ρ) c)

theorem found_s : atS (V2 m ρ) c
    = (fun y => ∑ k : Fin 4096, argX m c (ix2 (y 0) k) * argX m c (ix2 (y 0) k) : FVec Ideal S16384x128 .f32) :=
  ((W2_of m ρ c main_v0_1 (by decide)).trans (W1_arr m ρ c 2)).trans (prep2 (V0 m ρ) c)

/-- The matrix with the gain in it. -/
def folded (g : FVec Ideal MixInSpec.G .f32) (w : FVec Ideal MixInSpec.W .f32) : FVec Ideal S4x4096x9728 .bf16 :=
  truncf .bf16 (mulf w (broadcastInDim S4x4096x9728 ![0, 1, 2] bcast_S4x4096x1_S4x4096x9728_0_1_2
    (broadcastInDim S4x4096x1 ![0, 1] bcast_S4x4096_S4x4096x1_0_1 g))) bitsLt_bf16_f32

theorem folded_apply (g : FVec Ideal MixInSpec.G .f32) (w : FVec Ideal MixInSpec.W .f32) (l : Fin 4) (k : Fin 4096) (n : Fin 9728) :
    folded g w (ix3 l k n) = w (ix3 l k n) * g (ix2 l k) := by
  unfold folded
  pointwise
  try simp

theorem found_w : atW (V2 m ρ) c = folded (argG m c) (argW m c) := by
  have h : atW (V2 m ρ) c = folded (W1 m ρ c (Proc.devRef .tc main_arg1)) (W1 m ρ c (Proc.devRef .tc main_arg2)) := by
    unfold atW V2 W2
    after_results <;> rfl
  rw [h, W1_args m ρ c main_arg1 (by decide), W1_args m ρ c main_arg2 (by decide)]

theorem cell_eq (t : Fin 16384) (n : Fin 9728) : cell (V2 m ρ) c t n = MixInSpec.lin (argX m c) (argG m c) (argW m c) t n := by
  unfold cell MixInSpec.lin
  rw [found_h, found_s, found_w]
  simp only [folded_apply]
  have hb := Rms.factor_bounds Rms.len4096_pos (Rms.sum_sq_nonneg fun k : Fin 4096 => argX m c (ix2 t k))
  exact Rms.fold (fun k : Fin 4096 => argX m c (ix2 t k)) (fun k => argG m c (ix2 (0 : Fin 4) k)) (fun k => argW m c (ix3 (0 : Fin 4) k n)) hb.1 hb.2

theorem found_h3 : atH (V3 m ρ) c = atH (V2 m ρ) c := W3_of m ρ c main_v0_0 (by decide)
theorem found_s3 : atS (V3 m ρ) c = atS (V2 m ρ) c := W3_of m ρ c main_v0_1 (by decide)
theorem found_w3 : atW (V3 m ρ) c = atW (V2 m ρ) c := W3_of m ρ c main_v4 (by decide)

theorem cell_eq3 (t : Fin 16384) (n : Fin 9728) : cell (V3 m ρ) c t n = MixInSpec.lin (argX m c) (argG m c) (argW m c) t n := by
  rw [← cell_eq m ρ c]
  unfold cell
  rw [found_h3, found_s3, found_w3]

/-- What the heads' buffer holds at the end. -/
theorem last5 : W4 m ρ c (Proc.devRef .tc main_v5) = MixInSpec.heads (argX m c) (argG m c) (argW m c) := by
  refine (W4_of m ρ c main_v5 (by decide)).trans ((W3_arr m ρ c 3).trans ((act1 (V2 m ρ) c).trans ?_))
  funext y
  exact cell_eq m ρ c (y 1) (MixInSpec.headCol (y 0) (y 2))

/-- What the skipped columns' buffer holds at the end. -/
theorem last6 : W4 m ρ c (Proc.devRef .tc main_v6) = MixInSpec.conv (argX m c) (argG m c) (argW m c) := by
  refine (W4_arr m ρ c 3).trans ((act2 (V3 m ρ) c).trans ?_)
  funext y
  exact cell_eq3 m ρ c (y 0) (MixInSpec.convCol (y 1))

set_option backward.isDefEq.respectTransparency.types false in
/-- Every run ends with the formulas in the results' buffers, and the arguments as they were. -/
theorem run : θ_run defs (onTc (τ := τ) (main (F := Ideal))) ⟨m, fun _ => 0, ρ⟩ (fun r => ∀ c : Dev nD,
      r.2.mem ((c.tc : Thread nD τ).loc main_v5) = MixInSpec.heads (argX m c) (argG m c) (argW m c)
      ∧ r.2.mem ((c.tc : Thread nD τ).loc main_v6) = MixInSpec.conv (argX m c) (argG m c) (argW m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨(h c _ (mem_uc main_v5 (by decide))).trans (last5 m ρ c),
       (h c _ (mem_uc main_v6 (by decide))).trans (last6 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c)⟩)

end Cert.MixInRow
-- ==== Proof.MixInRefValue.lean ====
module
public import proofs.«01_k».proof.Proof.Gen.MixInRefIdeal.Read
public import proofs.«01_k».proof.Proof.MixInSpec
/-! # The reference's combined projection is the formula -/
@[expose] public section
noncomputable section
namespace Cert.MixInRefIdeal.Proj
open Cert.MixInRefIdeal Cert.MixInRefIdeal.Read
open Idealize.ShloMosaic

variable (x0 : FVec Ideal MixInSpec.X .f32) (x1 : FVec Ideal MixInSpec.G .f32) (x2 : FVec Ideal MixInSpec.W .f32)

theorem scale_eq (t : Fin 16384) : val_main_v9 (F := Ideal) x0 (ix2 t 0) = MixInSpec.scale x0 t := by
  unfold MixInSpec.scale Rms.factor
  unfold val_main_v9 val_main_v8 val_main_v7 val_main_v6 val_main_v5 val_main_v4 val_main_v3 val_main_v2 val_main_cst val_main_cst_0 val_main_cst_1
  pointwise
  try simp

theorem lin_eq (t : Fin 16384) (n : Fin 9728) : val_main_v17 (F := Ideal) x0 x1 x2 (ix2 t n) = MixInSpec.lin x0 x1 x2 t n := by
  unfold MixInSpec.lin
  rw [← scale_eq]
  unfold val_main_v17 val_main_v16 val_main_v15 val_main_v14 val_main_v13 val_main_v12 val_main_v11 val_main_v10 val_main_v1 val_main_v0
  generalize val_main_v9 (F := Ideal) x0 = z
  pointwise
  try simp

theorem conv_eq : val_main_v24 (F := Ideal) x0 x1 x2 = MixInSpec.conv x0 x1 x2 := by
  funext y
  obtain ⟨t, n, rfl⟩ : ∃ (t : Fin 16384) (n : Fin 2048), y = ix2 t n := ⟨y 0, y 1, by
    funext a
    match a with
    | ⟨0, _⟩ => rfl
    | ⟨1, _⟩ => rfl⟩
  show _ = MixInSpec.lin x0 x1 x2 t (MixInSpec.convCol n)
  rw [← lin_eq]
  unfold MixInSpec.convCol
  unfold val_main_v24
  generalize val_main_v17 (F := Ideal) x0 x1 x2 = z
  pointwise
  try simp

theorem heads_eq : val_main_v23 (F := Ideal) x0 x1 x2 = MixInSpec.heads x0 x1 x2 := by
  funext y
  obtain ⟨g, t, d, rfl⟩ : ∃ (g : Fin 60) (t : Fin 16384) (d : Fin 128), y = ix3 g t d := ⟨y 0, y 1, y 2, by
    funext a
    match a with
    | ⟨0, _⟩ => rfl
    | ⟨1, _⟩ => rfl
    | ⟨2, _⟩ => rfl⟩
  show _ = MixInSpec.lin x0 x1 x2 t (MixInSpec.headCol g d)
  rw [← lin_eq]
  unfold val_main_v23 val_main_v22 val_main_v21 val_main_v20 val_main_v19 val_main_v18
  generalize val_main_v17 (F := Ideal) x0 x1 x2 = z
  by_cases h : g.val < 24
  · have e : MixInSpec.headCol g d = ⟨g.val * 128 + d.val, by omega⟩ := Fin.ext (by simp [MixInSpec.headCol, h])
    rw [e]
    pointwise
    rw [dif_pos (by omega)]
  · have e : MixInSpec.headCol g d = ⟨2048 + (g.val * 128 + d.val), by omega⟩ := Fin.ext (by simp [MixInSpec.headCol, h])
    rw [e]
    pointwise
    rw [dif_neg (by omega)]
    exact congrArg (fun j => z (ix2 t j)) (Fin.ext (by show 5120 + (g.val * 128 + d.val - 3072) = 2048 + (g.val * 128 + d.val); omega))

end Cert.MixInRefIdeal.Proj
-- ==== Proof.MixOutBlock.lean ====
module
public import proofs.«01_k».proof.Proof.Gen.MixOutIdeal.Value
public import proofs.«01_k».proof.Proof.Rms
public import Idealize.ShloMosaic.Lib.Pointwise
public import Idealize.ShloMosaic.Lib.Pipeline.ValueKit
/-! # What a block of the output projection leaves in its output blocks and its scratch -/
@[expose] public section
set_option maxRecDepth 16384
noncomputable section
namespace Cert.MixOutRow
open Cert.MixOutIdeal Cert.MixOutIdeal.Gen
open Idealize.ShloMosaic Idealize.ShloMosaic.TcCoe

theorem z2 : (![0, 0] : Fin 2 → Nat) = fun _ => 0 := funext fun a => by fin_cases a <;> rfl
theorem z3 : (![0, 0, 0] : Fin 3 → Nat) = fun _ => 0 := funext fun a => by fin_cases a <;> rfl

/-- The four heads of the scratch. -/
abbrev rS0 : Rect S4x1024x128 := Rect.unit (s := S4x1024x128) ![0, 0, 0] S1x1024x128.size inb_S4x1024x128_S1x1024x128_0_0_0
abbrev rS1 : Rect S4x1024x128 := Rect.unit (s := S4x1024x128) ![1, 0, 0] S1x1024x128.size inb_S4x1024x128_S1x1024x128_1_0_0
abbrev rS2 : Rect S4x1024x128 := Rect.unit (s := S4x1024x128) ![2, 0, 0] S1x1024x128.size inb_S4x1024x128_S1x1024x128_2_0_0
abbrev rS3 : Rect S4x1024x128 := Rect.unit (s := S4x1024x128) ![3, 0, 0] S1x1024x128.size inb_S4x1024x128_S1x1024x128_3_0_0
/-- The four blocks of rows of the matrix's block. -/
abbrev rW0 : Rect S1x4096x512 := Rect.unit (s := S1x4096x512) ![0, 0, 0] S1x1024x512.size inb_S1x4096x512_S1x1024x512_0_0_0
abbrev rW1 : Rect S1x4096x512 := Rect.unit (s := S1x4096x512) ![0, 1024, 0] S1x1024x512.size inb_S1x4096x512_S1x1024x512_0_1024_0
abbrev rW2 : Rect S1x4096x512 := Rect.unit (s := S1x4096x512) ![0, 2048, 0] S1x1024x512.size inb_S1x4096x512_S1x1024x512_0_2048_0
abbrev rW3 : Rect S1x4096x512 := Rect.unit (s := S1x4096x512) ![0, 3072, 0] S1x1024x512.size inb_S1x4096x512_S1x1024x512_0_3072_0

/-- The stores that fill the scratch, the last first. -/
abbrev fills (x0 x1 x2 x3 : FVec Ideal S1024x1024 .bf16) : List (View.Piece (Elt Ideal) S4x1024x128 .f32) :=
  [⟨rS3, k0_pay9 (F := Ideal) x3⟩, ⟨rS2, k0_pay8 (F := Ideal) (k0_pay7 x2) (FloatOps.ofBits .f32 0x358637BD#32)⟩,
    ⟨rS1, k0_pay6 (F := Ideal) x1⟩, ⟨rS0, k0_pay5 (F := Ideal) x0⟩]

theorem fills_cover (x0 x1 x2 x3 : FVec Ideal S1024x1024 .bf16) (y : S4x1024x128.Idx) : ∃ p ∈ fills x0 x1 x2 x3, y ∈ p.1.set :=
  View.cover_of_tiled (fills x0 x1 x2 x3) S1x1024x128.size (by rfl) y

/-- The factor of a block's row. -/
def fac (x : FVec Ideal S1024x1024 .bf16) (p : Fin 1024) : EReal :=
  Rms.factor Rms.len1024 (∑ k : Fin 1024, x (ix2 p k) * x (ix2 p k))

/-- The scratch the first point of a row of blocks leaves: a group's factors, in every lane. -/
def stat (x0 x1 x2 x3 : FVec Ideal S1024x1024 .bf16) : FVec Ideal S4x1024x128 .f32 :=
  fun y => fac ((![x0, x1, x2, x3] : Fin 4 → FVec Ideal S1024x1024 .bf16) (y 0)) (y 1)

section Fills
variable (x : FVec Ideal S1024x1024 .bf16) (p : Fin 1024) (d : Fin 128)

theorem fill0 : k0_pay5 (F := Ideal) x (ix3 0 p d) = fac x p := by
  unfold k0_pay5 fac Rms.factor
  pointwise
  try simp

theorem fill1 : k0_pay6 (F := Ideal) x (ix3 0 p d) = fac x p := by
  unfold k0_pay6 fac Rms.factor
  pointwise
  try simp

theorem fill2 : k0_pay8 (F := Ideal) (k0_pay7 x) (FloatOps.ofBits .f32 0x358637BD#32) (ix3 0 p d) = fac x p := by
  unfold k0_pay8 k0_pay7 fac Rms.factor
  pointwise
  try simp

theorem fill3 : k0_pay9 (F := Ideal) x (ix3 0 p d) = fac x p := by
  unfold k0_pay9 fac Rms.factor
  pointwise
  try simp

end Fills

theorem idx1 (x : S1x1024x128.Idx) : ∃ (p : Fin 1024) (d : Fin 128), x = ix3 0 p d := ⟨x 1, x 2, by
  funext a
  match a with
  | ⟨0, _⟩ => exact Subsingleton.elim (α := Fin 1) _ _
  | ⟨1, _⟩ => rfl
  | ⟨2, _⟩ => rfl⟩

theorem stat_at (x0 x1 x2 x3 : FVec Ideal S1024x1024 .bf16) (y : S4x1024x128.Idx) (g : Fin 4) (p : Fin 1024)
    (h0 : (y 0).val = g.val) (h1 : (y 1).val = p.val) :
    stat x0 x1 x2 x3 y = fac ((![x0, x1, x2, x3] : Fin 4 → FVec Ideal S1024x1024 .bf16) g) p := by
  unfold stat
  exact congrArg₂ (fun g p => fac ((![x0, x1, x2, x3] : Fin 4 → FVec Ideal S1024x1024 .bf16) g) p) (Fin.ext h0) (Fin.ext h1)

theorem stat_eq (x0 x1 x2 x3 : FVec Ideal S1024x1024 .bf16) : View.canon (fills x0 x1 x2 x3) = stat x0 x1 x2 x3 := by
  funext y
  refine View.canon_apply_of_pieces _ _ (fun p hp => ?_) y (fills_cover x0 x1 x2 x3 y)
  simp only [List.mem_cons, List.not_mem_nil, or_false] at hp
  rcases hp with rfl | rfl | rfl | rfl
  · intro x
    obtain ⟨p, d, rfl⟩ : ∃ (p : Fin 1024) (d : Fin 128), x = ix3 0 p d := idx1 x
    have h : ∀ a, (rS3.emb (ix3 0 p d) a).val = ![3, 0, 0] a + (ix3 (0 : Fin 1) p d a).val := fun a => Rect.idx_unit_val ..
    exact (fill3 x3 p d).trans (stat_at x0 x1 x2 x3 _ (3 : Fin 4) p (h 0) ((h 1).trans (Nat.zero_add _))).symm
  · intro x
    obtain ⟨p, d, rfl⟩ : ∃ (p : Fin 1024) (d : Fin 128), x = ix3 0 p d := idx1 x
    have h : ∀ a, (rS2.emb (ix3 0 p d) a).val = ![2, 0, 0] a + (ix3 (0 : Fin 1) p d a).val := fun a => Rect.idx_unit_val ..
    exact (fill2 x2 p d).trans (stat_at x0 x1 x2 x3 _ (2 : Fin 4) p (h 0) ((h 1).trans (Nat.zero_add _))).symm
  · intro x
    obtain ⟨p, d, rfl⟩ : ∃ (p : Fin 1024) (d : Fin 128), x = ix3 0 p d := idx1 x
    have h : ∀ a, (rS1.emb (ix3 0 p d) a).val = ![1, 0, 0] a + (ix3 (0 : Fin 1) p d a).val := fun a => Rect.idx_unit_val ..
    exact (fill1 x1 p d).trans (stat_at x0 x1 x2 x3 _ (1 : Fin 4) p (h 0) ((h 1).trans (Nat.zero_add _))).symm
  · intro x
    obtain ⟨p, d, rfl⟩ : ∃ (p : Fin 1024) (d : Fin 128), x = ix3 0 p d := idx1 x
    have h : ∀ a, (rS0.emb (ix3 0 p d) a).val = ![0, 0, 0] a + (ix3 (0 : Fin 1) p d a).val := fun a => Rect.idx_unit_val ..
    exact (fill0 x0 p d).trans (stat_at x0 x1 x2 x3 _ (0 : Fin 4) p (h 0) ((h 1).trans (Nat.zero_add _))).symm

section Rows
variable (x0 x1 x2 x3 : FVec Ideal S1024x1024 .bf16) (x4 : FVec Ideal S1x4096x512 .bf16) (x5 : FVec Ideal S1024x512 .f32)
    (S : FVec Ideal S4x1024x128 .f32)

/-- The new rows, given the scratch. -/
abbrev rows : FVec Ideal S1024x512 .f32 :=
  k0_pay1 (F := Ideal) (k0_pay10 x5 (View.ld (Val := Elt Ideal) (e' := .f32) S rS0) x0 (View.ld (Val := Elt Ideal) (e' := .bf16) x4 rW0)
      (View.ld (Val := Elt Ideal) (e' := .f32) S rS1) x1 (View.ld (Val := Elt Ideal) (e' := .bf16) x4 rW1))
    (k0_pay11 (View.ld (Val := Elt Ideal) (e' := .f32) S rS2)) x2 (View.ld (Val := Elt Ideal) (e' := .bf16) x4 rW2)
    (View.ld (Val := Elt Ideal) (e' := .f32) S rS3) x3 (View.ld (Val := Elt Ideal) (e' := .bf16) x4 rW3)

/-- The new rows in the narrower type. -/
abbrev rowsB : FVec Ideal S1024x512 .bf16 :=
  k0_pay2 (F := Ideal) (k0_pay10 x5 (View.ld (Val := Elt Ideal) (e' := .f32) S rS0) x0 (View.ld (Val := Elt Ideal) (e' := .bf16) x4 rW0)
      (View.ld (Val := Elt Ideal) (e' := .f32) S rS1) x1 (View.ld (Val := Elt Ideal) (e' := .bf16) x4 rW1))
    (k0_pay11 (View.ld (Val := Elt Ideal) (e' := .f32) S rS2)) x2 (View.ld (Val := Elt Ideal) (e' := .bf16) x4 rW2)
    (View.ld (Val := Elt Ideal) (e' := .f32) S rS3) x3 (View.ld (Val := Elt Ideal) (e' := .bf16) x4 rW3)

/-- The sums of their squares. -/
abbrev sums : FVec Ideal S1024x128 .f32 :=
  k0_pay3 (F := Ideal) (k0_pay10 x5 (View.ld (Val := Elt Ideal) (e' := .f32) S rS0) x0 (View.ld (Val := Elt Ideal) (e' := .bf16) x4 rW0)
      (View.ld (Val := Elt Ideal) (e' := .f32) S rS1) x1 (View.ld (Val := Elt Ideal) (e' := .bf16) x4 rW1))
    (k0_pay11 (View.ld (Val := Elt Ideal) (e' := .f32) S rS2)) x2 (View.ld (Val := Elt Ideal) (e' := .bf16) x4 rW2)
    (View.ld (Val := Elt Ideal) (e' := .f32) S rS3) x3 (View.ld (Val := Elt Ideal) (e' := .bf16) x4 rW3)

/-- The sums of their squares, onto what was there. -/
abbrev sumsOn (xo : FVec Ideal S1024x128 .f32) : FVec Ideal S1024x128 .f32 :=
  k0_pay4 (F := Ideal) (k0_pay10 x5 (View.ld (Val := Elt Ideal) (e' := .f32) S rS0) x0 (View.ld (Val := Elt Ideal) (e' := .bf16) x4 rW0)
      (View.ld (Val := Elt Ideal) (e' := .f32) S rS1) x1 (View.ld (Val := Elt Ideal) (e' := .bf16) x4 rW1))
    (k0_pay11 (View.ld (Val := Elt Ideal) (e' := .f32) S rS2)) x2 (View.ld (Val := Elt Ideal) (e' := .bf16) x4 rW2)
    (View.ld (Val := Elt Ideal) (e' := .f32) S rS3) x3 (View.ld (Val := Elt Ideal) (e' := .bf16) x4 rW3) xo
end Rows

section Cases
variable (c : Dev nD) (i : grid0.Coords) (a0 : Memref sig .tc .vmem S1024x1024 .bf16) (h0 : a0.IsWhole)
    (a1 : Memref sig .tc .vmem S1024x1024 .bf16) (h1 : a1.IsWhole) (a2 : Memref sig .tc .vmem S1024x1024 .bf16) (h2 : a2.IsWhole)
    (a3 : Memref sig .tc .vmem S1024x1024 .bf16) (h3 : a3.IsWhole) (a4 : Memref sig .tc .vmem S1x4096x512 .bf16) (h4 : a4.IsWhole)
    (a5 : Memref sig .tc .vmem S1024x512 .f32) (h5 : a5.IsWhole) (a6 : Memref sig .tc .vmem S1024x512 .f32) (h6 : a6.IsWhole)
    (a7 : Memref sig .tc .vmem S1024x512 .bf16) (h7 : a7.IsWhole) (a8 : Memref sig .tc .vmem S1024x128 .f32) (h8 : a8.IsWhole)
    (a9 : Memref sig .tc .vmem S4x1024x128 .f32) (h9 : a9.IsWhole)
    (x0 x1 x2 x3 : FVec Ideal S1024x1024 .bf16) (x4 : FVec Ideal S1x4096x512 .bf16) (x5 : FVec Ideal S1024x512 .f32)
    (xo : FVec Ideal S1024x128 .f32) (xs : FVec Ideal S4x1024x128 .f32)

theorem first6 (q0 : cond0_0 i) (q1 : cond0_1 i) (q2 : ¬cond0_2 i) :
    out0_A_6 (F := Ideal) c i a0 h0 a1 h1 a2 h2 a3 h3 a4 h4 a5 h5 a6 h6 a7 h7 a8 h8 a9 h9 q0 q1 q2 x0 x1 x2 x3 x4 x5 = rows x0 x1 x2 x3 x4 x5 (stat x0 x1 x2 x3) := by
  unfold out0_A_6
  rw [View.read_writes_eq_canon _ _ _ (cover0_A_6 (F := Ideal) c i a0 h0 a1 h1 a2 h2 a3 h3 a4 h4 a5 h5 a6 h6 a7 h7 a8 h8 a9 h9 q0 q1 q2 x0 x1 x2 x3 x4 x5)]
  unfold kernelRun0_A
  dsimp only
  sl_unfold_words
  rw [View.canon_unit_zero z2]
  simp only [View.readAt_eq_ld, h0.read_unread, h1.read_unread, h2.read_unread, h3.read_unread, h4.read_unread, h5.read_unread,
    h8.read_unread, h9.read_unread, View.ld_unit_zero (S := S1024x1024) z2, View.ld_unit_zero (S := S1024x512) z2, View.ld_unit_zero (S := S1024x128) z2]
  rw [View.readCov_eq_canon_ld a9.view (fills x0 x1 x2 x3) rS0 (fills_cover x0 x1 x2 x3),
    View.readCov_eq_canon_ld a9.view (fills x0 x1 x2 x3) rS1 (fills_cover x0 x1 x2 x3),
    View.readCov_eq_canon_ld a9.view (fills x0 x1 x2 x3) rS2 (fills_cover x0 x1 x2 x3),
    View.readCov_eq_canon_ld a9.view (fills x0 x1 x2 x3) rS3 (fills_cover x0 x1 x2 x3), stat_eq]

theorem first7 (q0 : cond0_0 i) (q1 : cond0_1 i) (q2 : ¬cond0_2 i) :
    out0_A_7 (F := Ideal) c i a0 h0 a1 h1 a2 h2 a3 h3 a4 h4 a5 h5 a6 h6 a7 h7 a8 h8 a9 h9 q0 q1 q2 x0 x1 x2 x3 x4 x5 = rowsB x0 x1 x2 x3 x4 x5 (stat x0 x1 x2 x3) := by
  unfold out0_A_7
  rw [View.read_writes_eq_canon _ _ _ (cover0_A_7 (F := Ideal) c i a0 h0 a1 h1 a2 h2 a3 h3 a4 h4 a5 h5 a6 h6 a7 h7 a8 h8 a9 h9 q0 q1 q2 x0 x1 x2 x3 x4 x5)]
  unfold kernelRun0_A
  dsimp only
  sl_unfold_words
  rw [View.canon_unit_zero z2]
  simp only [View.readAt_eq_ld, h0.read_unread, h1.read_unread, h2.read_unread, h3.read_unread, h4.read_unread, h5.read_unread,
    h8.read_unread, h9.read_unread, View.ld_unit_zero (S := S1024x1024) z2, View.ld_unit_zero (S := S1024x512) z2, View.ld_unit_zero (S := S1024x128) z2]
  rw [View.readCov_eq_canon_ld a9.view (fills x0 x1 x2 x3) rS0 (fills_cover x0 x1 x2 x3),
    View.readCov_eq_canon_ld a9.view (fills x0 x1 x2 x3) rS1 (fills_cover x0 x1 x2 x3),
    View.readCov_eq_canon_ld a9.view (fills x0 x1 x2 x3) rS2 (fills_cover x0 x1 x2 x3),
    View.readCov_eq_canon_ld a9.view (fills x0 x1 x2 x3) rS3 (fills_cover x0 x1 x2 x3), stat_eq]

theorem first8 (q0 : cond0_0 i) (q1 : cond0_1 i) (q2 : ¬cond0_2 i) :
    out0_A_8 (F := Ideal) c i a0 h0 a1 h1 a2 h2 a3 h3 a4 h4 a5 h5 a6 h6 a7 h7 a8 h8 a9 h9 q0 q1 q2 x0 x1 x2 x3 x4 x5 = sums x0 x1 x2 x3 x4 x5 (stat x0 x1 x2 x3) := by
  unfold out0_A_8
  rw [View.read_writes_eq_canon _ _ _ (cover0_A_8 (F := Ideal) c i a0 h0 a1 h1 a2 h2 a3 h3 a4 h4 a5 h5 a6 h6 a7 h7 a8 h8 a9 h9 q0 q1 q2 x0 x1 x2 x3 x4 x5)]
  unfold kernelRun0_A
  dsimp only
  sl_unfold_words
  rw [View.canon_unit_zero z2]
  simp only [View.readAt_eq_ld, h0.read_unread, h1.read_unread, h2.read_unread, h3.read_unread, h4.read_unread, h5.read_unread,
    h8.read_unread, h9.read_unread, View.ld_unit_zero (S := S1024x1024) z2, View.ld_unit_zero (S := S1024x512) z2, View.ld_unit_zero (S := S1024x128) z2]
  rw [View.readCov_eq_canon_ld a9.view (fills x0 x1 x2 x3) rS0 (fills_cover x0 x1 x2 x3),
    View.readCov_eq_canon_ld a9.view (fills x0 x1 x2 x3) rS1 (fills_cover x0 x1 x2 x3),
    View.readCov_eq_canon_ld a9.view (fills x0 x1 x2 x3) rS2 (fills_cover x0 x1 x2 x3),
    View.readCov_eq_canon_ld a9.view (fills x0 x1 x2 x3) rS3 (fills_cover x0 x1 x2 x3), stat_eq]

theorem firstS (q0 : cond0_0 i) (q1 : cond0_1 i) (q2 : ¬cond0_2 i) :
    sout0_A_0 (F := Ideal) c i a0 h0 a1 h1 a2 h2 a3 h3 a4 h4 a5 h5 a6 h6 a7 h7 a8 h8 a9 h9 q0 q1 q2 x0 x1 x2 x3 x4 x5 = stat x0 x1 x2 x3 := by
  unfold sout0_A_0
  unfold kernelRun0_A
  dsimp only
  sl_unfold_words
  simp only [View.readAt_eq_ld, h0.read_unread, h1.read_unread, h2.read_unread, h3.read_unread, h4.read_unread, h5.read_unread,
    h8.read_unread, h9.read_unread, View.ld_unit_zero (S := S1024x1024) z2, View.ld_unit_zero (S := S1024x512) z2, View.ld_unit_zero (S := S1024x128) z2]
  rw [View.read_writes_eq_canon VS0_0 VS0_0.junk (fills x0 x1 x2 x3) (fills_cover x0 x1 x2 x3), stat_eq]

theorem next6 (q0 : ¬cond0_0 i) (q1 : ¬cond0_1 i) (q2 : cond0_2 i) :
    out0_B_6 (F := Ideal) c i a0 h0 a1 h1 a2 h2 a3 h3 a4 h4 a5 h5 a6 h6 a7 h7 a8 h8 a9 h9 q0 q1 q2 x0 x1 x2 x3 x4 x5 xo xs = rows x0 x1 x2 x3 x4 x5 xs := by
  unfold out0_B_6
  rw [View.read_writes_eq_canon _ _ _ (cover0_B_6 (F := Ideal) c i a0 h0 a1 h1 a2 h2 a3 h3 a4 h4 a5 h5 a6 h6 a7 h7 a8 h8 a9 h9 q0 q1 q2 x0 x1 x2 x3 x4 x5 xo xs)]
  unfold kernelRun0_B
  dsimp only
  sl_unfold_words
  rw [View.canon_unit_zero z2]
  simp only [View.readAt_eq_ld, h0.read_unread, h1.read_unread, h2.read_unread, h3.read_unread, h4.read_unread, h5.read_unread,
    h8.read_unread, h9.read_unread, View.ld_unit_zero (S := S1024x1024) z2, View.ld_unit_zero (S := S1024x512) z2, View.ld_unit_zero (S := S1024x128) z2]

theorem next7 (q0 : ¬cond0_0 i) (q1 : ¬cond0_1 i) (q2 : cond0_2 i) :
    out0_B_7 (F := Ideal) c i a0 h0 a1 h1 a2 h2 a3 h3 a4 h4 a5 h5 a6 h6 a7 h7 a8 h8 a9 h9 q0 q1 q2 x0 x1 x2 x3 x4 x5 xo xs = rowsB x0 x1 x2 x3 x4 x5 xs := by
  unfold out0_B_7
  rw [View.read_writes_eq_canon _ _ _ (cover0_B_7 (F := Ideal) c i a0 h0 a1 h1 a2 h2 a3 h3 a4 h4 a5 h5 a6 h6 a7 h7 a8 h8 a9 h9 q0 q1 q2 x0 x1 x2 x3 x4 x5 xo xs)]
  unfold kernelRun0_B
  dsimp only
  sl_unfold_words
  rw [View.canon_unit_zero z2]
  simp only [View.readAt_eq_ld, h0.read_unread, h1.read_unread, h2.read_unread, h3.read_unread, h4.read_unread, h5.read_unread,
    h8.read_unread, h9.read_unread, View.ld_unit_zero (S := S1024x1024) z2, View.ld_unit_zero (S := S1024x512) z2, View.ld_unit_zero (S := S1024x128) z2]

theorem next8 (q0 : ¬cond0_0 i) (q1 : ¬cond0_1 i) (q2 : cond0_2 i) :
    out0_B_8 (F := Ideal) c i a0 h0 a1 h1 a2 h2 a3 h3 a4 h4 a5 h5 a6 h6 a7 h7 a8 h8 a9 h9 q0 q1 q2 x0 x1 x2 x3 x4 x5 xo xs = sumsOn x0 x1 x2 x3 x4 x5 xs xo := by
  unfold out0_B_8
  rw [View.read_writes_eq_canon _ _ _ (cover0_B_8 (F := Ideal) c i a0 h0 a1 h1 a2 h2 a3 h3 a4 h4 a5 h5 a6 h6 a7 h7 a8 h8 a9 h9 q0 q1 q2 x0 x1 x2 x3 x4 x5 xo xs)]
  unfold kernelRun0_B
  dsimp only
  sl_unfold_words
  rw [View.canon_unit_zero z2]
  simp only [View.readAt_eq_ld, h0.read_unread, h1.read_unread, h2.read_unread, h3.read_unread, h4.read_unread, h5.read_unread,
    h8.read_unread, h9.read_unread, View.ld_unit_zero (S := S1024x1024) z2, View.ld_unit_zero (S := S1024x512) z2, View.ld_unit_zero (S := S1024x128) z2]

end Cases

/-- One entry of a block's new rows, given the four factors of its row. -/
def entry (x0 x1 x2 x3 : FVec Ideal S1024x1024 .bf16) (x4 : FVec Ideal S1x4096x512 .bf16) (x5 : FVec Ideal S1024x512 .f32)
    (S : FVec Ideal S4x1024x128 .f32) (p : Fin 1024) (q : Fin 512) : EReal :=
  x5 (ix2 p q) + S (ix3 (0 : Fin 4) p (0 : Fin 128)) * (∑ k : Fin 1024, x0 (ix2 p k) * x4 (ix3 (0 : Fin 1) ⟨k.val, by omega⟩ q))
    + S (ix3 (1 : Fin 4) p (0 : Fin 128)) * (∑ k : Fin 1024, x1 (ix2 p k) * x4 (ix3 (0 : Fin 1) ⟨1024 + k.val, by omega⟩ q))
    + S (ix3 (2 : Fin 4) p (0 : Fin 128)) * (∑ k : Fin 1024, x2 (ix2 p k) * x4 (ix3 (0 : Fin 1) ⟨2048 + k.val, by omega⟩ q))
    + S (ix3 (3 : Fin 4) p (0 : Fin 128)) * (∑ k : Fin 1024, x3 (ix2 p k) * x4 (ix3 (0 : Fin 1) ⟨3072 + k.val, by omega⟩ q))

section Entries
variable (x0 x1 x2 x3 : FVec Ideal S1024x1024 .bf16) (x4 : FVec Ideal S1x4096x512 .bf16) (x5 : FVec Ideal S1024x512 .f32)
    (S : FVec Ideal S4x1024x128 .f32)

theorem ldS0 (p : Fin 1024) : View.ld (Val := Elt Ideal) (e' := .f32) S rS0 (ix3 0 p 0) = S (ix3 (0 : Fin 4) p (0 : Fin 128)) := by
  refine View.ld_unit_apply_of (Val := Elt Ideal) (e := .f32) S _ _ _ _ _ fun a => ?_
  match a with
  | ⟨0, _⟩ => rfl
  | ⟨1, _⟩ => exact (Nat.zero_add _).symm
  | ⟨2, _⟩ => rfl

theorem ldW0 (k : Fin 1024) (q : Fin 512) : View.ld (Val := Elt Ideal) (e' := .bf16) x4 rW0 (ix3 0 k q)
    = x4 (ix3 (0 : Fin 1) ⟨k.val, by omega⟩ q) := by
  refine View.ld_unit_apply_of (Val := Elt Ideal) (e := .bf16) x4 _ _ _ _ _ fun a => ?_
  match a with
  | ⟨0, _⟩ => rfl
  | ⟨1, _⟩ => exact (Nat.zero_add _).symm
  | ⟨2, _⟩ => exact (Nat.zero_add _).symm

theorem ldS1 (p : Fin 1024) : View.ld (Val := Elt Ideal) (e' := .f32) S rS1 (ix3 0 p 0) = S (ix3 (1 : Fin 4) p (0 : Fin 128)) := by
  refine View.ld_unit_apply_of (Val := Elt Ideal) (e := .f32) S _ _ _ _ _ fun a => ?_
  match a with
  | ⟨0, _⟩ => rfl
  | ⟨1, _⟩ => exact (Nat.zero_add _).symm
  | ⟨2, _⟩ => rfl

theorem ldW1 (k : Fin 1024) (q : Fin 512) : View.ld (Val := Elt Ideal) (e' := .bf16) x4 rW1 (ix3 0 k q)
    = x4 (ix3 (0 : Fin 1) ⟨1024 + k.val, by omega⟩ q) := by
  refine View.ld_unit_apply_of (Val := Elt Ideal) (e := .bf16) x4 _ _ _ _ _ fun a => ?_
  match a with
  | ⟨0, _⟩ => rfl
  | ⟨1, _⟩ => exact rfl
  | ⟨2, _⟩ => exact (Nat.zero_add _).symm

theorem ldS2 (p : Fin 1024) : View.ld (Val := Elt Ideal) (e' := .f32) S rS2 (ix3 0 p 0) = S (ix3 (2 : Fin 4) p (0 : Fin 128)) := by
  refine View.ld_unit_apply_of (Val := Elt Ideal) (e := .f32) S _ _ _ _ _ fun a => ?_
  match a with
  | ⟨0, _⟩ => rfl
  | ⟨1, _⟩ => exact (Nat.zero_add _).symm
  | ⟨2, _⟩ => rfl

theorem ldW2 (k : Fin 1024) (q : Fin 512) : View.ld (Val := Elt Ideal) (e' := .bf16) x4 rW2 (ix3 0 k q)
    = x4 (ix3 (0 : Fin 1) ⟨2048 + k.val, by omega⟩ q) := by
  refine View.ld_unit_apply_of (Val := Elt Ideal) (e := .bf16) x4 _ _ _ _ _ fun a => ?_
  match a with
  | ⟨0, _⟩ => rfl
  | ⟨1, _⟩ => exact rfl
  | ⟨2, _⟩ => exact (Nat.zero_add _).symm

theorem ldS3 (p : Fin 1024) : View.ld (Val := Elt Ideal) (e' := .f32) S rS3 (ix3 0 p 0) = S (ix3 (3 : Fin 4) p (0 : Fin 128)) := by
  refine View.ld_unit_apply_of (Val := Elt Ideal) (e := .f32) S _ _ _ _ _ fun a => ?_
  match a with
  | ⟨0, _⟩ => rfl
  | ⟨1, _⟩ => exact (Nat.zero_add _).symm
  | ⟨2, _⟩ => rfl

theorem ldW3 (k : Fin 1024) (q : Fin 512) : View.ld (Val := Elt Ideal) (e' := .bf16) x4 rW3 (ix3 0 k q)
    = x4 (ix3 (0 : Fin 1) ⟨3072 + k.val, by omega⟩ q) := by
  refine View.ld_unit_apply_of (Val := Elt Ideal) (e := .bf16) x4 _ _ _ _ _ fun a => ?_
  match a with
  | ⟨0, _⟩ => rfl
  | ⟨1, _⟩ => exact rfl
  | ⟨2, _⟩ => exact (Nat.zero_add _).symm

theorem rows_apply (p : Fin 1024) (q : Fin 512) : rows x0 x1 x2 x3 x4 x5 S (ix2 p q) = entry x0 x1 x2 x3 x4 x5 S p q := by
  unfold entry
  simp only [← ldS0, ← ldS1, ← ldS2, ← ldS3, ← ldW0, ← ldW1, ← ldW2, ← ldW3]
  unfold rows
  generalize View.ld (Val := Elt Ideal) (e' := .f32) S rS0 = s0
  generalize View.ld (Val := Elt Ideal) (e' := .f32) S rS1 = s1
  generalize View.ld (Val := Elt Ideal) (e' := .f32) S rS2 = s2
  generalize View.ld (Val := Elt Ideal) (e' := .f32) S rS3 = s3
  generalize View.ld (Val := Elt Ideal) (e' := .bf16) x4 rW0 = w0
  generalize View.ld (Val := Elt Ideal) (e' := .bf16) x4 rW1 = w1
  generalize View.ld (Val := Elt Ideal) (e' := .bf16) x4 rW2 = w2
  generalize View.ld (Val := Elt Ideal) (e' := .bf16) x4 rW3 = w3
  unfold k0_pay1 k0_pay10 k0_pay11
  pointwise
  try simp

theorem rowsB_apply (p : Fin 1024) (q : Fin 512) : rowsB x0 x1 x2 x3 x4 x5 S (ix2 p q) = entry x0 x1 x2 x3 x4 x5 S p q := by
  rw [← rows_apply]
  unfold rowsB k0_pay2
  pointwise

theorem sums_apply (p : Fin 1024) (q : Fin 128) :
    sums x0 x1 x2 x3 x4 x5 S (ix2 p q) = ∑ n : Fin 512, entry x0 x1 x2 x3 x4 x5 S p n * entry x0 x1 x2 x3 x4 x5 S p n := by
  simp only [← rows_apply]
  unfold sums k0_pay3 rows
  generalize k0_pay1 (F := Ideal) (k0_pay10 x5 (View.ld (Val := Elt Ideal) (e' := .f32) S rS0) x0 (View.ld (Val := Elt Ideal) (e' := .bf16) x4 rW0)
      (View.ld (Val := Elt Ideal) (e' := .f32) S rS1) x1 (View.ld (Val := Elt Ideal) (e' := .bf16) x4 rW1))
    (k0_pay11 (View.ld (Val := Elt Ideal) (e' := .f32) S rS2)) x2 (View.ld (Val := Elt Ideal) (e' := .bf16) x4 rW2)
    (View.ld (Val := Elt Ideal) (e' := .f32) S rS3) x3 (View.ld (Val := Elt Ideal) (e' := .bf16) x4 rW3) = z
  pointwise
  try simp

theorem sumsOn_apply (xo : FVec Ideal S1024x128 .f32) (p : Fin 1024) (q : Fin 128) :
    sumsOn x0 x1 x2 x3 x4 x5 S xo (ix2 p q) = xo (ix2 p q) + ∑ n : Fin 512, entry x0 x1 x2 x3 x4 x5 S p n * entry x0 x1 x2 x3 x4 x5 S p n := by
  rw [← sums_apply x0 x1 x2 x3 x4 x5 S p q]
  unfold sumsOn k0_pay4 sums
  generalize k0_pay3 (F := Ideal) (k0_pay10 x5 (View.ld (Val := Elt Ideal) (e' := .f32) S rS0) x0 (View.ld (Val := Elt Ideal) (e' := .bf16) x4 rW0)
      (View.ld (Val := Elt Ideal) (e' := .f32) S rS1) x1 (View.ld (Val := Elt Ideal) (e' := .bf16) x4 rW1))
    (k0_pay11 (View.ld (Val := Elt Ideal) (e' := .f32) S rS2)) x2 (View.ld (Val := Elt Ideal) (e' := .bf16) x4 rW2)
    (View.ld (Val := Elt Ideal) (e' := .f32) S rS3) x3 (View.ld (Val := Elt Ideal) (e' := .bf16) x4 rW3) = z
  pointwise
end Entries

end Cert.MixOutRow
-- ==== Proof.MixOutSpec.lean ====
module
public import proofs.«01_k».proof.Proof.Rms
/-! # The output projection with its residual, as a formula over the extended reals

Each of four groups of columns is normalized by its own mean square and goes through its own 1024 rows of layer 0's matrix. -/
@[expose] public section
noncomputable section
namespace Cert.MixOutSpec
open Idealize.ShloMosaic

abbrev A : Shape := ⟨2, ![16384, 1024]⟩
abbrev G : Shape := ⟨3, ![4, 4, 1024]⟩
abbrev W : Shape := ⟨3, ![4, 4096, 4096]⟩
abbrev H : Shape := ⟨2, ![16384, 4096]⟩
abbrev L : Shape := ⟨2, ![16384, 128]⟩

/-- The factor of a group's row `t`. -/
def scale (a : FVec Ideal A .bf16) (t : Fin 16384) : EReal :=
  Rms.factor Rms.len1024 (∑ k : Fin 1024, a (ix2 t k) * a (ix2 t k))

/-- The matrix's row of a group's column. -/
def wrow (i : Fin 4) (k : Fin 1024) : Fin 4096 := ⟨i.val * 1024 + k.val, by omega⟩

/-- Group `i`'s share of row `t`, column `n`. -/
def part (a : FVec Ideal A .bf16) (g : FVec Ideal G .f32) (w : FVec Ideal W .f32) (i : Fin 4) (t : Fin 16384) (n : Fin 4096) : EReal :=
  ∑ k : Fin 1024, a (ix2 t k) * scale a t * g (ix3 (0 : Fin 4) i k) * w (ix3 (0 : Fin 4) (wrow i k) n)

section Cell
variable (a0 a1 a2 a3 : FVec Ideal A .bf16) (g : FVec Ideal G .f32) (w : FVec Ideal W .f32) (h : FVec Ideal H .f32)

/-- The new row `t`, column `n`. -/
def cell (t : Fin 16384) (n : Fin 4096) : EReal :=
  h (ix2 t n) + (part a0 g w 0 t n + part a1 g w 1 t n + part a2 g w 2 t n + part a3 g w 3 t n)

/-- The new rows. -/
def out : FVec Ideal H .f32 := fun y => cell a0 a1 a2 a3 g w h (y 0) (y 1)

/-- The new rows, in the narrower type. -/
def outB : FVec Ideal H .bf16 := fun y => cell a0 a1 a2 a3 g w h (y 0) (y 1)

/-- The sum of the squares of each new row, in all 128 lanes. -/
def squares : FVec Ideal L .f32 :=
  fun y => ∑ n : Fin 4096, cell a0 a1 a2 a3 g w h (y 0) n * cell a0 a1 a2 a3 g w h (y 0) n
end Cell

end Cert.MixOutSpec
-- ==== Proof.MixOutArray.lean ====
module
public import proofs.«01_k».proof.Proof.MixOutBlock
public import proofs.«01_k».proof.Proof.MixOutSpec
public import proofs.«01_k».proof.Proof.RowSums
/-! # The three arrays the output projection's kernel leaves -/
@[expose] public section
set_option maxRecDepth 16384
noncomputable section
namespace Cert.MixOutRow
open Cert.MixOutIdeal Cert.MixOutIdeal.Gen
open Idealize.ShloMosaic Idealize.ShloMosaic.TcCoe

variable (m : (ℓ : Loc nD τ sig) → Buf (Elt Ideal) ℓ) (c : Dev nD) (t : Fin cfg0.N)

theorem e0 : ∀ t : Fin cfg0.N, win0_0.index t = ![t.val / 8, 0] := (by decide +kernel : ∀ t : Fin grid0.N, _)
theorem e1 : ∀ t : Fin cfg0.N, win0_1.index t = ![t.val / 8, 0] := (by decide +kernel : ∀ t : Fin grid0.N, _)
theorem e2 : ∀ t : Fin cfg0.N, win0_2.index t = ![t.val / 8, 0] := (by decide +kernel : ∀ t : Fin grid0.N, _)
theorem e3 : ∀ t : Fin cfg0.N, win0_3.index t = ![t.val / 8, 0] := (by decide +kernel : ∀ t : Fin grid0.N, _)
theorem e4 : ∀ t : Fin cfg0.N, win0_4.index t = ![0, 0, t.val % 8] := (by decide +kernel : ∀ t : Fin grid0.N, _)
theorem e5 : ∀ t : Fin cfg0.N, win0_5.index t = ![t.val / 8, t.val % 8] := (by decide +kernel : ∀ t : Fin grid0.N, _)
theorem e6 : ∀ t : Fin cfg0.N, win0_6.index t = ![t.val / 8, t.val % 8] := (by decide +kernel : ∀ t : Fin grid0.N, _)
theorem e7 : ∀ t : Fin cfg0.N, win0_7.index t = ![t.val / 8, t.val % 8] := (by decide +kernel : ∀ t : Fin grid0.N, _)
theorem e8 : ∀ t : Fin cfg0.N, win0_8.index t = ![t.val / 8, 0] := (by decide +kernel : ∀ t : Fin grid0.N, _)

theorem lt_N (t : Fin cfg0.N) : t.val < 128 := Nat.lt_of_lt_of_eq t.isLt N_0

/-- The array's row of a block's row. -/
def row (p : Fin 1024) : Fin 16384 := ⟨t.val / 8 * 1024 + p.val, by have := lt_N t; omega⟩
/-- The array's column of a block's column. -/
def col (q : Fin 512) : Fin 4096 := ⟨t.val % 8 * 512 + q.val, by omega⟩

/-- The arrays the arguments of a launch on device `c` name: the groups, the gains, the matrix, the stream. -/
abbrev arg0 : FVec Ideal MixOutSpec.A .bf16 := m ((c : Thread nD τ).loc main_arg0)
abbrev arg1 : FVec Ideal MixOutSpec.A .bf16 := m ((c : Thread nD τ).loc main_arg1)
abbrev arg2 : FVec Ideal MixOutSpec.A .bf16 := m ((c : Thread nD τ).loc main_arg2)
abbrev arg3 : FVec Ideal MixOutSpec.A .bf16 := m ((c : Thread nD τ).loc main_arg3)
abbrev argG : FVec Ideal MixOutSpec.G .f32 := m ((c : Thread nD τ).loc main_arg4)
abbrev argW : FVec Ideal MixOutSpec.W .f32 := m ((c : Thread nD τ).loc main_arg5)
abbrev argH : FVec Ideal MixOutSpec.H .f32 := m ((c : Thread nD τ).loc main_arg6)

theorem blk0 (p : Fin 1024) (k : Fin 1024) : iblk m c 0 t (ix2 p k) = arg0 m c (ix2 (row t p) k) := by
  unfold row
  blk_simp [iblk]
  rw [V_main_arg0]
  congr 1
  blk_ext [e0]

theorem blk1 (p : Fin 1024) (k : Fin 1024) : iblk m c 1 t (ix2 p k) = arg1 m c (ix2 (row t p) k) := by
  unfold row
  blk_simp [iblk]
  rw [V_main_arg1]
  congr 1
  blk_ext [e1]

theorem blk2 (p : Fin 1024) (k : Fin 1024) : iblk m c 2 t (ix2 p k) = arg2 m c (ix2 (row t p) k) := by
  unfold row
  blk_simp [iblk]
  rw [V_main_arg2]
  congr 1
  blk_ext [e2]

theorem blk3 (p : Fin 1024) (k : Fin 1024) : iblk m c 3 t (ix2 p k) = arg3 m c (ix2 (row t p) k) := by
  unfold row
  blk_simp [iblk]
  rw [V_main_arg3]
  congr 1
  blk_ext [e3]

theorem h_blk (p : Fin 1024) (q : Fin 512) : iblk m c 5 t (ix2 p q) = argH m c (ix2 (row t p) (col t q)) := by
  unfold row col
  blk_simp [iblk]
  rw [V_main_arg6]
  congr 1
  blk_ext [e5]

/-- The matrix with the gains in it. -/
def folded (g : FVec Ideal MixOutSpec.G .f32) (w : FVec Ideal MixOutSpec.W .f32) : FVec Ideal S4x4096x4096 .bf16 :=
  truncf .bf16 (mulf w (broadcastInDim S4x4096x4096 ![0, 1, 2] bcast_S4x4096x1_S4x4096x4096_0_1_2
    (broadcastInDim S4x4096x1 ![0, 1] bcast_S4x4096_S4x4096x1_0_1 (shapeCast S4x4096 g shapeCasts_S4x4x1024_S4x4096)))) bitsLt_bf16_f32

theorem folded_apply (g : FVec Ideal MixOutSpec.G .f32) (w : FVec Ideal MixOutSpec.W .f32) (l i : Fin 4) (k : Fin 1024) (n : Fin 4096) :
    folded g w (ix3 l (MixOutSpec.wrow i k) n) = w (ix3 l (MixOutSpec.wrow i k) n) * g (ix3 l i k) := by
  unfold folded MixOutSpec.wrow
  pointwise
  try simp

/-- The matrix as the region finds it. -/
theorem V_w : V m c main_v4 = folded (argG m c) (argW m c) := by
  unfold V folded
  after_results <;> rfl

theorem w_blk (k : Fin 4096) (q : Fin 512) : iblk m c 4 t (ix3 0 k q) = folded (argG m c) (argW m c) (ix3 (0 : Fin 4) k (col t q)) := by
  unfold col
  blk_simp [iblk]
  rw [V_w]
  congr 1
  blk_ext [e4]

theorem w_row (i : Fin 4) (k : Fin 1024) (j : Fin 4096) (h : j.val = i.val * 1024 + k.val) (q : Fin 512) :
    iblk m c 4 t (ix3 0 j q) = argW m c (ix3 (0 : Fin 4) (MixOutSpec.wrow i k) (col t q)) * argG m c (ix3 (0 : Fin 4) i k) := by
  obtain rfl : j = MixOutSpec.wrow i k := Fin.ext h
  exact (w_blk m c t _ q).trans (folded_apply _ _ _ _ _ _)

theorem fac0 (p : Fin 1024) : fac (iblk m c 0 t) p = MixOutSpec.scale (arg0 m c) (row t p) := by
  unfold fac MixOutSpec.scale
  refine congrArg _ (Finset.sum_congr rfl fun k _ => ?_)
  exact congrArg₂ (· * ·) (blk0 m c t p k) (blk0 m c t p k)

theorem fac1 (p : Fin 1024) : fac (iblk m c 1 t) p = MixOutSpec.scale (arg1 m c) (row t p) := by
  unfold fac MixOutSpec.scale
  refine congrArg _ (Finset.sum_congr rfl fun k _ => ?_)
  exact congrArg₂ (· * ·) (blk1 m c t p k) (blk1 m c t p k)

theorem fac2 (p : Fin 1024) : fac (iblk m c 2 t) p = MixOutSpec.scale (arg2 m c) (row t p) := by
  unfold fac MixOutSpec.scale
  refine congrArg _ (Finset.sum_congr rfl fun k _ => ?_)
  exact congrArg₂ (· * ·) (blk2 m c t p k) (blk2 m c t p k)

theorem fac3 (p : Fin 1024) : fac (iblk m c 3 t) p = MixOutSpec.scale (arg3 m c) (row t p) := by
  unfold fac MixOutSpec.scale
  refine congrArg _ (Finset.sum_congr rfl fun k _ => ?_)
  exact congrArg₂ (· * ·) (blk3 m c t p k) (blk3 m c t p k)

/-- A group's share of an entry, from its block's rows, its rows of the matrix's block, and its factor. -/
theorem share (a : FVec Ideal MixOutSpec.A .bf16) (i : Fin 4) (x : FVec Ideal S1024x1024 .bf16) (p : Fin 1024) (q : Fin 512) (f : Fin 1024 → EReal)
    (hx : ∀ k, x (ix2 p k) = a (ix2 (row t p) k))
    (hf : ∀ k, f k = argW m c (ix3 (0 : Fin 4) (MixOutSpec.wrow i k) (col t q)) * argG m c (ix3 (0 : Fin 4) i k)) :
    MixOutSpec.scale a (row t p) * (∑ k : Fin 1024, x (ix2 p k) * f k)
      = MixOutSpec.part a (argG m c) (argW m c) i (row t p) (col t q) := by
  simp only [hx, hf]
  rw [mul_comm]
  unfold MixOutSpec.part
  have hb := Rms.factor_bounds Rms.len1024_pos (Rms.sum_sq_nonneg fun k : Fin 1024 => a (ix2 (row t p) k))
  exact Rms.fold (fun k : Fin 1024 => a (ix2 (row t p) k)) (fun k => argG m c (ix3 (0 : Fin 4) i k))
    (fun k => argW m c (ix3 (0 : Fin 4) (MixOutSpec.wrow i k) (col t q))) hb.1 hb.2

/-- A scratch that holds the factors of a point's rows. -/
def holds (S : FVec Ideal S4x1024x128 .f32) : Prop := ∀ p : Fin 1024,
  S (ix3 (0 : Fin 4) p (0 : Fin 128)) = MixOutSpec.scale (arg0 m c) (row t p)
  ∧ S (ix3 (1 : Fin 4) p (0 : Fin 128)) = MixOutSpec.scale (arg1 m c) (row t p)
  ∧ S (ix3 (2 : Fin 4) p (0 : Fin 128)) = MixOutSpec.scale (arg2 m c) (row t p)
  ∧ S (ix3 (3 : Fin 4) p (0 : Fin 128)) = MixOutSpec.scale (arg3 m c) (row t p)

theorem stat_holds : holds m c t (stat (iblk m c 0 t) (iblk m c 1 t) (iblk m c 2 t) (iblk m c 3 t)) :=
  fun p => ⟨fac0 m c t p, fac1 m c t p, fac2 m c t p, fac3 m c t p⟩

/-- The formula's entry. -/
abbrev cellAt (r : Fin 16384) (n : Fin 4096) : EReal :=
  MixOutSpec.cell (arg0 m c) (arg1 m c) (arg2 m c) (arg3 m c) (argG m c) (argW m c) (argH m c) r n

/-- A block's entry is the formula at the array's row and column. -/
theorem entry_eq (S : FVec Ideal S4x1024x128 .f32) (hS : holds m c t S) (p : Fin 1024) (q : Fin 512) :
    entry (iblk m c 0 t) (iblk m c 1 t) (iblk m c 2 t) (iblk m c 3 t) (iblk m c 4 t) (iblk m c 5 t) S p q = cellAt m c (row t p) (col t q) := by
  obtain ⟨s0, s1, s2, s3⟩ := hS p
  unfold entry cellAt MixOutSpec.cell
  rw [s0, s1, s2, s3, ← add_assoc, ← add_assoc, ← add_assoc]
  refine congrArg₂ (· + ·) (congrArg₂ (· + ·) (congrArg₂ (· + ·) (congrArg₂ (· + ·) (h_blk m c t p q) ?_) ?_) ?_) ?_
  · exact share m c t _ 0 _ p q _ (blk0 m c t p) fun k => w_row m c t 0 k _ (by show k.val = 0 * 1024 + k.val; omega) q
  · exact share m c t _ 1 _ p q _ (blk1 m c t p) fun k => w_row m c t 1 k _ (by show 1024 + k.val = 1 * 1024 + k.val; omega) q
  · exact share m c t _ 2 _ p q _ (blk2 m c t p) fun k => w_row m c t 2 k _ (by show 2048 + k.val = 2 * 1024 + k.val; omega) q
  · exact share m c t _ 3 _ p q _ (blk3 m c t p) fun k => w_row m c t 3 k _ (by show 3072 + k.val = 3 * 1024 + k.val; omega) q

/-- The scratch a point leaves holds the factors of its rows. -/
theorem scratch : ∀ (n : ℕ) (h : n < cfg0.N), holds m c ⟨n, h⟩ (outsAt0 m c n h).2.2.2 := by
  intro n
  induction n with
  | zero =>
    intro h
    rw [show outsAt0 m c 0 h = outsAt0 m c (⟨0, h⟩ : Fin cfg0.N).val (⟨0, h⟩ : Fin cfg0.N).isLt from rfl,
      outsAt0_A m c ⟨0, h⟩ (Nat.zero_mod _) (Nat.zero_mod _) (by show ¬1 ≤ 0 % 8; decide)]
    dsimp only
    rw [firstS]
    exact stat_holds m c ⟨0, h⟩
  | succ n ih =>
    intro h
    rw [show outsAt0 m c (n + 1) h = outsAt0 m c (⟨n + 1, h⟩ : Fin cfg0.N).val (⟨n + 1, h⟩ : Fin cfg0.N).isLt from rfl]
    by_cases h0 : (n + 1) % 8 = 0
    · rw [outsAt0_A m c ⟨n + 1, h⟩ h0 h0 (by show ¬1 ≤ (n + 1) % 8; omega)]
      dsimp only
      rw [firstS]
      exact stat_holds m c ⟨n + 1, h⟩
    · rw [outsAt0_B m c ⟨n + 1, h⟩ h0 h0 (by show 1 ≤ (n + 1) % 8; omega)]
      dsimp only
      have hr : ∀ p, row ⟨n, Nat.lt_of_succ_lt h⟩ p = row ⟨n + 1, h⟩ p := fun p => Fin.ext (by unfold row; dsimp only; omega)
      show holds m c ⟨n + 1, h⟩ (outsAt0 m c n _).2.2.2
      intro p
      rw [← hr p]
      exact ih (Nat.lt_of_succ_lt h) p

/-- The scratch the point before left, at a point that continues a row of blocks. -/
theorem before (h : t.val % 8 ≠ 0) (hl : t.val - 1 < cfg0.N) : holds m c t (outsAt0 m c (t.val - 1) hl).2.2.2 := by
  intro p
  have hr : row ⟨t.val - 1, hl⟩ p = row t p := Fin.ext (by unfold row; dsimp only; omega)
  rw [← hr]
  exact scratch m c _ hl p

theorem left6 (p : Fin 1024) (q : Fin 512) : (outsAt0 m c t.val t.isLt).1 (ix2 p q) = cellAt m c (row t p) (col t q) := by
  by_cases h : t.val % 8 = 0
  · rw [outsAt0_A m c t h h (by omega)]
    dsimp only
    rw [first6]
    exact (rows_apply _ _ _ _ _ _ _ p q).trans (entry_eq m c t _ (stat_holds m c t) p q)
  · rw [outsAt0_B m c t h h (by omega)]
    dsimp only
    rw [next6]
    exact (rows_apply _ _ _ _ _ _ _ p q).trans (entry_eq m c t _ (before m c t h _) p q)

theorem left7 (p : Fin 1024) (q : Fin 512) : (outsAt0 m c t.val t.isLt).2.1 (ix2 p q) = cellAt m c (row t p) (col t q) := by
  by_cases h : t.val % 8 = 0
  · rw [outsAt0_A m c t h h (by omega)]
    dsimp only
    rw [first7]
    exact (rowsB_apply _ _ _ _ _ _ _ p q).trans (entry_eq m c t _ (stat_holds m c t) p q)
  · rw [outsAt0_B m c t h h (by omega)]
    dsimp only
    rw [next7]
    exact (rowsB_apply _ _ _ _ _ _ _ p q).trans (entry_eq m c t _ (before m c t h _) p q)

/-- The sum of the squares of a row's columns in the block `n`. -/
def part (r : Fin 16384) (n : ℕ) : EReal :=
  ∑ q : Fin 512, cellAt m c r ⟨n % 8 * 512 + q.val, by omega⟩ * cellAt m c r ⟨n % 8 * 512 + q.val, by omega⟩

theorem part_eq (S : FVec Ideal S4x1024x128 .f32) (hS : holds m c t S) (p : Fin 1024) :
    ∑ n : Fin 512, entry (iblk m c 0 t) (iblk m c 1 t) (iblk m c 2 t) (iblk m c 3 t) (iblk m c 4 t) (iblk m c 5 t) S p n
        * entry (iblk m c 0 t) (iblk m c 1 t) (iblk m c 2 t) (iblk m c 3 t) (iblk m c 4 t) (iblk m c 5 t) S p n
      = part m c (row t p) (t.val % 8) := by
  unfold part
  refine Finset.sum_congr rfl fun q _ => ?_
  rw [entry_eq m c t S hS]
  have : col t q = ⟨t.val % 8 % 8 * 512 + q.val, by omega⟩ := Fin.ext (by unfold col; dsimp only; omega)
  rw [this]

/-- The running sum a point leaves: the blocks of columns up to its own. -/
theorem left8 (p : Fin 1024) (q : Fin 128) : ∀ (n : ℕ) (h : n < cfg0.N),
    (outsAt0 m c n h).2.2.1 (ix2 p q) = ∑ j ∈ Finset.range (n % 8 + 1), part m c (row ⟨n, h⟩ p) j := by
  intro n
  induction n with
  | zero =>
    intro h
    rw [show outsAt0 m c 0 h = outsAt0 m c (⟨0, h⟩ : Fin cfg0.N).val (⟨0, h⟩ : Fin cfg0.N).isLt from rfl,
      outsAt0_A m c ⟨0, h⟩ (Nat.zero_mod _) (Nat.zero_mod _) (by show ¬1 ≤ 0 % 8; decide)]
    dsimp only
    rw [first8]
    refine (sums_apply _ _ _ _ _ _ _ p q).trans ((part_eq m c ⟨0, h⟩ _ (stat_holds m c ⟨0, h⟩) p).trans ?_)
    simp
  | succ n ih =>
    intro h
    rw [show outsAt0 m c (n + 1) h = outsAt0 m c (⟨n + 1, h⟩ : Fin cfg0.N).val (⟨n + 1, h⟩ : Fin cfg0.N).isLt from rfl]
    by_cases h0 : (n + 1) % 8 = 0
    · rw [outsAt0_A m c ⟨n + 1, h⟩ h0 h0 (by show ¬1 ≤ (n + 1) % 8; omega)]
      dsimp only
      rw [first8]
      refine (sums_apply _ _ _ _ _ _ _ p q).trans ((part_eq m c ⟨n + 1, h⟩ _ (stat_holds m c ⟨n + 1, h⟩) p).trans ?_)
      show part m c _ ((n + 1) % 8) = _
      rw [h0]
      simp
    · rw [outsAt0_B m c ⟨n + 1, h⟩ h0 h0 (by show 1 ≤ (n + 1) % 8; omega)]
      dsimp only
      rw [next8]
      refine (sumsOn_apply _ _ _ _ _ _ _ _ p q).trans ?_
      rw [part_eq m c ⟨n + 1, h⟩ _ (before m c ⟨n + 1, h⟩ h0 _) p]
      have hm : (n + 1) % 8 = n % 8 + 1 := by omega
      have hr : row ⟨n, Nat.lt_of_succ_lt h⟩ p = row ⟨n + 1, h⟩ p := Fin.ext (by unfold row; dsimp only; omega)
      show (outsAt0 m c n _).2.2.1 (ix2 p q) + part m c _ ((n + 1) % 8) = _
      rw [ih (Nat.lt_of_succ_lt h), hm, Finset.sum_range_succ _ (n % 8 + 1), hr]

/-- The new rows. -/
theorem final6 : (dats m 0 c).arrAt 6 cfg0.N = MixOutSpec.out (arg0 m c) (arg1 m c) (arg2 m c) (arg3 m c) (argG m c) (argW m c) (argH m c) := by
  refine (dats m 0 c).arrAt_eq_of_covers 6 _ (by decide +kernel) fun t hf y => ?_
  blk_simp
  rw [after0_6]
  obtain ⟨p, q, rfl⟩ : ∃ (p : Fin 1024) (q : Fin 512), y = ix2 p q := ⟨y 0, y 1, by
    funext a
    match a with
    | ⟨0, _⟩ => rfl
    | ⟨1, _⟩ => rfl⟩
  have e : (win0_6.blk t).view.emb (ix2 p q) = ix2 (row t p) (col t q) := by
    unfold row col
    blk_ext [e6]
  rw [e]
  exact left6 m c t p q

/-- The new rows, in the narrower type. -/
theorem final7 : (dats m 0 c).arrAt 7 cfg0.N = MixOutSpec.outB (arg0 m c) (arg1 m c) (arg2 m c) (arg3 m c) (argG m c) (argW m c) (argH m c) := by
  refine (dats m 0 c).arrAt_eq_of_covers 7 _ (by decide +kernel) fun t hf y => ?_
  blk_simp
  rw [after0_7]
  obtain ⟨p, q, rfl⟩ : ∃ (p : Fin 1024) (q : Fin 512), y = ix2 p q := ⟨y 0, y 1, by
    funext a
    match a with
    | ⟨0, _⟩ => rfl
    | ⟨1, _⟩ => rfl⟩
  have e : (win0_7.blk t).view.emb (ix2 p q) = ix2 (row t p) (col t q) := by
    unfold row col
    blk_ext [e7]
  rw [e]
  exact left7 m c t p q

/-- The sums of squares. -/
theorem final8 : (dats m 0 c).arrAt 8 cfg0.N = MixOutSpec.squares (arg0 m c) (arg1 m c) (arg2 m c) (arg3 m c) (argG m c) (argW m c) (argH m c) := by
  refine (dats m 0 c).arrAt_eq_of_covers 8 _ (by decide +kernel) fun t hf y => ?_
  have h7 : t.val % 8 = 7 := by have := (flush0_8 t).mp hf; omega
  blk_simp
  rw [after0_8]
  obtain ⟨p, q, rfl⟩ : ∃ (p : Fin 1024) (q : Fin 128), y = ix2 p q := ⟨y 0, y 1, by
    funext a
    match a with
    | ⟨0, _⟩ => rfl
    | ⟨1, _⟩ => rfl⟩
  have e : (win0_8.blk t).view.emb (ix2 p q) = ix2 (row t p) q := by
    unfold row
    blk_ext [e8]
  rw [e]
  refine (left8 m c p q t.val t.isLt).trans ?_
  rw [h7]
  show _ = ∑ n : Fin 4096, cellAt m c (row t p) n * cellAt m c (row t p) n
  rw [RowSums.split 8 512 rfl, ← Fin.sum_univ_eq_sum_range (fun j => part m c (row t p) j) 8]
  refine Finset.sum_congr rfl fun j _ => ?_
  unfold part
  refine Finset.sum_congr rfl fun q _ => ?_
  have : (⟨j.val % 8 * 512 + q.val, by omega⟩ : Fin 4096) = ⟨j.val * 512 + q.val, by omega⟩ := Fin.ext (by dsimp only; omega)
  rw [this]

end Cert.MixOutRow
-- ==== Proof.MixOutRefValue.lean ====
module
public import proofs.«01_k».proof.Proof.Gen.MixOutRefIdeal.Read
public import proofs.«01_k».proof.Proof.MixOutSpec
public import proofs.«01_k».proof.Proof.RowSums
/-! # The reference's output projection is the formula -/
@[expose] public section
noncomputable section
namespace Cert.MixOutRefIdeal.Merge
open Cert.MixOutRefIdeal Cert.MixOutRefIdeal.Read
open Idealize.ShloMosaic

variable (x0 x1 x2 x3 : FVec Ideal MixOutSpec.A .bf16) (x4 : FVec Ideal MixOutSpec.G .f32) (x5 : FVec Ideal MixOutSpec.W .f32)
    (x6 : FVec Ideal MixOutSpec.H .f32)

theorem scale0 (t : Fin 16384) : val_main_v12 (F := Ideal) x0 (ix2 t 0) = MixOutSpec.scale x0 t := by
  unfold MixOutSpec.scale Rms.factor
  unfold val_main_v12 val_main_v11 val_main_v10 val_main_v9 val_main_v8 val_main_v7 val_main_v6 val_main_v5 val_main_v0 val_main_cst val_main_cst_0 val_main_cst_1
  pointwise
  try simp

theorem norm0 (t : Fin 16384) (k : Fin 1024) :
    val_main_v17 (F := Ideal) x0 x4 (ix2 t k) = x0 (ix2 t k) * MixOutSpec.scale x0 t * x4 (ix3 (0 : Fin 4) (0 : Fin 4) k) := by
  rw [← scale0]
  unfold val_main_v17 val_main_v16 val_main_v15 val_main_v14 val_main_v13 val_main_v4 val_main_v3 val_main_v2 val_main_v1 val_main_v0
  generalize val_main_v12 (F := Ideal) x0 = z
  pointwise
  try simp

theorem merged0 (t : Fin 16384) (k : Fin 1024) :
    val_main_v72 (F := Ideal) x0 x1 x2 x3 x4 (ix2 t (MixOutSpec.wrow (0 : Fin 4) k))
      = x0 (ix2 t k) * MixOutSpec.scale x0 t * x4 (ix3 (0 : Fin 4) (0 : Fin 4) k) := by
  rw [← norm0]
  have e : MixOutSpec.wrow (0 : Fin 4) k = ⟨k.val, by omega⟩ := Fin.ext (by show 0 * 1024 + k.val = k.val; omega)
  rw [e]
  unfold val_main_v72
  generalize val_main_v17 (F := Ideal) x0 x4 = z0
  generalize val_main_v35 (F := Ideal) x1 x4 = z1
  generalize val_main_v53 (F := Ideal) x2 x4 = z2
  generalize val_main_v71 (F := Ideal) x3 x4 = z3
  pointwise

theorem scale1 (t : Fin 16384) : val_main_v30 (F := Ideal) x1 (ix2 t 0) = MixOutSpec.scale x1 t := by
  unfold MixOutSpec.scale Rms.factor
  unfold val_main_v30 val_main_v29 val_main_v28 val_main_v27 val_main_v26 val_main_v25 val_main_v24 val_main_v23 val_main_v18 val_main_cst_2 val_main_cst_3 val_main_cst_4
  pointwise
  try simp

theorem norm1 (t : Fin 16384) (k : Fin 1024) :
    val_main_v35 (F := Ideal) x1 x4 (ix2 t k) = x1 (ix2 t k) * MixOutSpec.scale x1 t * x4 (ix3 (0 : Fin 4) (1 : Fin 4) k) := by
  rw [← scale1]
  unfold val_main_v35 val_main_v34 val_main_v33 val_main_v32 val_main_v31 val_main_v22 val_main_v21 val_main_v20 val_main_v19 val_main_v18
  generalize val_main_v30 (F := Ideal) x1 = z
  pointwise
  try simp

theorem merged1 (t : Fin 16384) (k : Fin 1024) :
    val_main_v72 (F := Ideal) x0 x1 x2 x3 x4 (ix2 t (MixOutSpec.wrow (1 : Fin 4) k))
      = x1 (ix2 t k) * MixOutSpec.scale x1 t * x4 (ix3 (0 : Fin 4) (1 : Fin 4) k) := by
  rw [← norm1]
  have e : MixOutSpec.wrow (1 : Fin 4) k = ⟨1024 + k.val, by omega⟩ := Fin.ext (by show 1 * 1024 + k.val = 1024 + k.val; omega)
  rw [e]
  unfold val_main_v72
  generalize val_main_v17 (F := Ideal) x0 x4 = z0
  generalize val_main_v35 (F := Ideal) x1 x4 = z1
  generalize val_main_v53 (F := Ideal) x2 x4 = z2
  generalize val_main_v71 (F := Ideal) x3 x4 = z3
  pointwise

theorem scale2 (t : Fin 16384) : val_main_v48 (F := Ideal) x2 (ix2 t 0) = MixOutSpec.scale x2 t := by
  unfold MixOutSpec.scale Rms.factor
  unfold val_main_v48 val_main_v47 val_main_v46 val_main_v45 val_main_v44 val_main_v43 val_main_v42 val_main_v41 val_main_v36 val_main_cst_5 val_main_cst_6 val_main_cst_7
  pointwise
  try simp

theorem norm2 (t : Fin 16384) (k : Fin 1024) :
    val_main_v53 (F := Ideal) x2 x4 (ix2 t k) = x2 (ix2 t k) * MixOutSpec.scale x2 t * x4 (ix3 (0 : Fin 4) (2 : Fin 4) k) := by
  rw [← scale2]
  unfold val_main_v53 val_main_v52 val_main_v51 val_main_v50 val_main_v49 val_main_v40 val_main_v39 val_main_v38 val_main_v37 val_main_v36
  generalize val_main_v48 (F := Ideal) x2 = z
  pointwise
  try simp

theorem merged2 (t : Fin 16384) (k : Fin 1024) :
    val_main_v72 (F := Ideal) x0 x1 x2 x3 x4 (ix2 t (MixOutSpec.wrow (2 : Fin 4) k))
      = x2 (ix2 t k) * MixOutSpec.scale x2 t * x4 (ix3 (0 : Fin 4) (2 : Fin 4) k) := by
  rw [← norm2]
  have e : MixOutSpec.wrow (2 : Fin 4) k = ⟨2048 + k.val, by omega⟩ := Fin.ext (by show 2 * 1024 + k.val = 2048 + k.val; omega)
  rw [e]
  unfold val_main_v72
  generalize val_main_v17 (F := Ideal) x0 x4 = z0
  generalize val_main_v35 (F := Ideal) x1 x4 = z1
  generalize val_main_v53 (F := Ideal) x2 x4 = z2
  generalize val_main_v71 (F := Ideal) x3 x4 = z3
  pointwise
  rw [dif_neg (by omega)]
  rw [dif_neg (by omega)]
  rw [dif_pos (by omega)]
  exact congrArg (fun j => z2 (ix2 t j)) (Fin.ext (by show 2048 + k.val - 1024 - 1024 = k.val; omega))

theorem scale3 (t : Fin 16384) : val_main_v66 (F := Ideal) x3 (ix2 t 0) = MixOutSpec.scale x3 t := by
  unfold MixOutSpec.scale Rms.factor
  unfold val_main_v66 val_main_v65 val_main_v64 val_main_v63 val_main_v62 val_main_v61 val_main_v60 val_main_v59 val_main_v54 val_main_cst_8 val_main_cst_9 val_main_cst_10
  pointwise
  try simp

theorem norm3 (t : Fin 16384) (k : Fin 1024) :
    val_main_v71 (F := Ideal) x3 x4 (ix2 t k) = x3 (ix2 t k) * MixOutSpec.scale x3 t * x4 (ix3 (0 : Fin 4) (3 : Fin 4) k) := by
  rw [← scale3]
  unfold val_main_v71 val_main_v70 val_main_v69 val_main_v68 val_main_v67 val_main_v58 val_main_v57 val_main_v56 val_main_v55 val_main_v54
  generalize val_main_v66 (F := Ideal) x3 = z
  pointwise
  try simp

theorem merged3 (t : Fin 16384) (k : Fin 1024) :
    val_main_v72 (F := Ideal) x0 x1 x2 x3 x4 (ix2 t (MixOutSpec.wrow (3 : Fin 4) k))
      = x3 (ix2 t k) * MixOutSpec.scale x3 t * x4 (ix3 (0 : Fin 4) (3 : Fin 4) k) := by
  rw [← norm3]
  have e : MixOutSpec.wrow (3 : Fin 4) k = ⟨3072 + k.val, by omega⟩ := Fin.ext (by show 3 * 1024 + k.val = 3072 + k.val; omega)
  rw [e]
  unfold val_main_v72
  generalize val_main_v17 (F := Ideal) x0 x4 = z0
  generalize val_main_v35 (F := Ideal) x1 x4 = z1
  generalize val_main_v53 (F := Ideal) x2 x4 = z2
  generalize val_main_v71 (F := Ideal) x3 x4 = z3
  pointwise
  rw [dif_neg (by omega)]
  rw [dif_neg (by omega)]
  rw [dif_neg (by omega)]
  exact congrArg (fun j => z3 (ix2 t j)) (Fin.ext (by show 3072 + k.val - 1024 - 1024 - 1024 = k.val; omega))

theorem dot_eq (t : Fin 16384) (n : Fin 4096) : val_main_v75 (F := Ideal) x0 x1 x2 x3 x4 x5 (ix2 t n)
    = ∑ k : Fin 4096, val_main_v72 (F := Ideal) x0 x1 x2 x3 x4 (ix2 t k) * x5 (ix3 (0 : Fin 4) k n) := by
  unfold val_main_v75 val_main_v74 val_main_v73
  generalize val_main_v72 (F := Ideal) x0 x1 x2 x3 x4 = z
  pointwise
  try simp

theorem out_eq : val_main_v76 (F := Ideal) x0 x1 x2 x3 x4 x5 x6 = MixOutSpec.out x0 x1 x2 x3 x4 x5 x6 := by
  funext y
  obtain ⟨t, n, rfl⟩ : ∃ (t : Fin 16384) (n : Fin 4096), y = ix2 t n := ⟨y 0, y 1, by
    funext a
    match a with
    | ⟨0, _⟩ => rfl
    | ⟨1, _⟩ => rfl⟩
  show x6 (ix2 t n) + val_main_v75 (F := Ideal) x0 x1 x2 x3 x4 x5 (ix2 t n) = MixOutSpec.cell x0 x1 x2 x3 x4 x5 x6 t n
  rw [dot_eq, RowSums.split 4 1024 rfl, Fin.sum_univ_four]
  unfold MixOutSpec.cell MixOutSpec.part
  simp only [← merged0 x0 x1 x2 x3, ← merged1 x0 x1 x2 x3, ← merged2 x0 x1 x2 x3, ← merged3 x0 x1 x2 x3]
  rfl

theorem outB_eq : val_main_v77 (F := Ideal) x0 x1 x2 x3 x4 x5 x6 = MixOutSpec.outB x0 x1 x2 x3 x4 x5 x6 := by
  funext y
  exact congrFun (out_eq x0 x1 x2 x3 x4 x5 x6) y

theorem squares_eq : val_main_v81 (F := Ideal) x0 x1 x2 x3 x4 x5 x6 = MixOutSpec.squares x0 x1 x2 x3 x4 x5 x6 := by
  funext y
  obtain ⟨t, n, rfl⟩ : ∃ (t : Fin 16384) (n : Fin 128), y = ix2 t n := ⟨y 0, y 1, by
    funext a
    match a with
    | ⟨0, _⟩ => rfl
    | ⟨1, _⟩ => rfl⟩
  show _ = ∑ k : Fin 4096, MixOutSpec.out x0 x1 x2 x3 x4 x5 x6 (ix2 t k) * MixOutSpec.out x0 x1 x2 x3 x4 x5 x6 (ix2 t k)
  rw [← out_eq]
  unfold val_main_v81 val_main_v80 val_main_v79 val_main_v78 val_main_cst_11
  generalize val_main_v76 (F := Ideal) x0 x1 x2 x3 x4 x5 x6 = z
  pointwise
  try simp

end Cert.MixOutRefIdeal.Merge
-- ==== Proof.lean ====
module

public import proofs.«01_k».proof.Defs
public import proofs.«01_k».proof.Proof.Gen.Na
public import proofs.«01_k».proof.Proof.Gen.Na.Skeleton
public import proofs.«01_k».proof.Proof.Gen.Na.Loops
public import proofs.«01_k».proof.Proof.Gen.Na.Launch
public import proofs.«01_k».proof.Proof.Gen.Na.Points
public import proofs.«01_k».proof.Proof.Gen.Na.Frame
public import proofs.«01_k».proof.Proof.Gen.NaIdeal
public import proofs.«01_k».proof.Proof.Gen.NaIdeal.Skeleton
public import proofs.«01_k».proof.Proof.Gen.NaIdeal.Loops
public import proofs.«01_k».proof.Proof.Gen.NaIdeal.Launch
public import proofs.«01_k».proof.Proof.Gen.NaIdeal.Points
public import proofs.«01_k».proof.Proof.Gen.NaIdeal.Frame
public import proofs.«01_k».proof.Proof.Gen.NaRefIdeal
public import proofs.«01_k».proof.Proof.Gen.NaIdeal.Value
public import proofs.«01_k».proof.Proof.Gen.NaRefIdeal.Run
public import proofs.«01_k».proof.Proof.Gen.NaRefIdeal.Read
public import proofs.«01_k».proof.Proof.NaArray
public import proofs.«01_k».proof.Proof.NaRefValue
public import proofs.«01_k».proof.Proof.NaEq
public import proofs.«01_k».proof.Proof.FfnRun
public import proofs.«01_k».proof.Proof.FinalRun
public import proofs.«01_k».proof.Proof.SwaRun
public import proofs.«01_k».proof.Proof.SwaArray
public import proofs.«01_k».proof.Proof.SwaRefValue
public import proofs.«01_k».proof.Proof.ConvRun
public import proofs.«01_k».proof.Proof.FinalArray
public import proofs.«01_k».proof.Proof.FinalRefValue
public import proofs.«01_k».proof.Proof.ConvArray
public import proofs.«01_k».proof.Proof.ConvRefValue
public import proofs.«01_k».proof.Proof.FfnValue
public import proofs.«01_k».proof.Proof.FfnRefValue
public import proofs.«01_k».proof.Proof.ResArray
public import proofs.«01_k».proof.Proof.ResRefValue
public import proofs.«01_k».proof.Proof.MixInValue
public import proofs.«01_k».proof.Proof.MixInRefValue
public import proofs.«01_k».proof.Proof.MixOutArray
public import proofs.«01_k».proof.Proof.MixOutRefValue
public import Idealize.ShloMosaic.Adequacy
public import Idealize.ShloMosaic.Init

@[expose] public section

noncomputable section

namespace Cert.Proof

open Idealize.ShloMosaic Idealize.SL.Sem Idealize.ShloMosaic.TcCoe

/-- The shapes of the precondition fit. -/
theorem preFacts : Cert.Pre_scores_finite.Facts :=
  ⟨by decide, by decide, by decide, by decide⟩

/-- The reference's result is the attention, where the scores are finite. -/
theorem ref_out (u : FVec Ideal NaSpec.U .bf16) (b : FVec Ideal NaSpec.B .f32)
    (h : ∀ (h n : Fin 8) (r : Fin 32) (c : Fin 64) (w : Fin 512), NaSpec.IsFin (NaSpec.S u b h n r c w)) :
    Cert.NaRefIdeal.Read.val_main_v70 (F := Ideal) u b = NaSpec.out u b := by
  funext y
  obtain ⟨n, p, l, rfl⟩ : ∃ (n : Fin 8) (p : Fin 2048) (l : Fin 1024), y = ix3 n p l := ⟨y 0, y 1, y 2, by
    funext a
    match a with
    | ⟨0, _⟩ => rfl
    | ⟨1, _⟩ => rfl
    | ⟨2, _⟩ => rfl⟩
  rw [NaRef.out_apply, NaRef.o_apply, ← NaSpec.soft_eq _ _ (h _ _ _ _)]
  rfl

/-- The frame of the reference. -/
theorem frame_r : Cert.quiescent_NaRefIdeal := by
  intro m ρ _
  exact (θ_run Cert.NaRefIdeal.defs _ _).mono (fun r h => ⟨fun c => (h c).2,
      Idealize.ShloMosaic.sem_eq_zero_of_no_sems (by decide) r.2⟩) (Cert.NaRefIdeal.Value.run (F := Ideal) m ρ)

theorem algebraic : Cert.algebraic_NaIdeal_NaRefIdeal_pre_scores_finite (hPre_scores_finite := preFacts) := by
  intro m g m' g' hpre hagree
  refine ⟨fun c => NaSpec.out (m ((c.tc : Thread Cert.NaIdeal.nD Cert.NaIdeal.τ).loc Cert.NaIdeal.main_arg0)) (m ((c.tc : Thread Cert.NaIdeal.nD Cert.NaIdeal.τ).loc Cert.NaIdeal.main_arg1)), ?_, ?_⟩
  · exact (θ_run (Cert.NaIdeal.defs (F := Ideal)) _ _).mono (fun r h c => ⟨(h c).1.trans (NaRow.final m c), (h c).2⟩)
      (Cert.NaIdeal.Value.run_blocks (F := Ideal) m g)
  · refine (θ_run (Cert.NaRefIdeal.defs (F := Ideal)) _ _).mono (fun r h c => ⟨(h c).1.trans ?_, (h c).2⟩)
      (Cert.NaRefIdeal.Value.run (F := Ideal) m' g')
    rw [Cert.NaRefIdeal.Read.val_main_v70_eq, (hagree c).1, (hagree c).2]
    letI := preFacts
    exact ref_out _ _ (NaSpec.S_fin _ _ (NaSpec.pre_u _ _ (hpre c).1) (NaSpec.pre_b _ _ (hpre c).2))

/-- The frame of the reference of the half step's first part. -/
theorem frame_Ffn : Cert.quiescent_FfnRefIdeal := by
  intro m ρ _
  exact (θ_run Cert.FfnRefIdeal.defs _ _).mono (fun r h => ⟨fun c => (h c).2,
      Idealize.ShloMosaic.sem_eq_zero_of_no_sems (by decide) r.2⟩) (Cert.FfnRefIdeal.Value.run (F := Ideal) m ρ)

/-- Norm, gate and up projection. -/
theorem algebraic_Ffn : Cert.algebraic_FfnIdeal_FfnRefIdeal := by
  intro m g m' g' _ hagree
  refine ⟨fun c => FfnSpec.out (Cert.FfnRow.argX m c) (Cert.FfnRow.argG m c) (Cert.FfnRow.argW m c), ?_, ?_⟩
  · exact Cert.FfnRow.run m g
  · refine (θ_run (Cert.FfnRefIdeal.defs (F := Ideal)) _ _).mono (fun r h c => ⟨(h c).1.trans ?_, (h c).2⟩)
      (Cert.FfnRefIdeal.Value.run (F := Ideal) m' g')
    · rw [Cert.FfnRefIdeal.Read.val_main_v22_eq, (hagree c).1, (hagree c).2.1, (hagree c).2.2]
      exact Cert.FfnRefIdeal.Act.out_eq _ _ _

/-- The frame of the reference of the half step's second part. -/
theorem frame_Res : Cert.quiescent_ResRefIdeal := by
  intro m ρ _
  exact (θ_run Cert.ResRefIdeal.defs _ _).mono (fun r h => ⟨fun c => (h c).2.2.2,
      Idealize.ShloMosaic.sem_eq_zero_of_no_sems (by decide) r.2⟩) (Cert.ResRefIdeal.Value.run (F := Ideal) m ρ)

/-- Down projection and half-step residual. -/
theorem algebraic_Res : Cert.algebraic_ResIdeal_ResRefIdeal := by
  intro m g m' g' _ hagree
  refine ⟨fun c => ResSpec.out (Cert.ResRow.argA m c) (Cert.ResRow.argW m c) (Cert.ResRow.argH m c), fun c => ResSpec.outB (Cert.ResRow.argA m c) (Cert.ResRow.argW m c) (Cert.ResRow.argH m c), fun c => ResSpec.squares (Cert.ResRow.argA m c) (Cert.ResRow.argW m c) (Cert.ResRow.argH m c), ?_, ?_⟩
  · exact (θ_run (Cert.ResIdeal.defs (F := Ideal)) _ _).mono (fun r h c => ⟨(h c).1.trans (Cert.ResRow.final3 m c), (h c).2.1.trans (Cert.ResRow.final4 m c), (h c).2.2.1.trans (Cert.ResRow.final5 m c), (h c).2.2.2⟩)
      (Cert.ResIdeal.Value.run_blocks (F := Ideal) m g)
  · refine (θ_run (Cert.ResRefIdeal.defs (F := Ideal)) _ _).mono (fun r h c => ⟨(h c).1.trans ?_, (h c).2.1.trans ?_, (h c).2.2.1.trans ?_, (h c).2.2.2⟩)
      (Cert.ResRefIdeal.Value.run (F := Ideal) m' g')
    · rw [Cert.ResRefIdeal.Read.val_main_v6_eq, (hagree c).1, (hagree c).2.1, (hagree c).2.2]
      exact Cert.ResRefIdeal.Half.out_eq _ _ _
    · rw [Cert.ResRefIdeal.Read.val_main_v7_eq, (hagree c).1, (hagree c).2.1, (hagree c).2.2]
      exact Cert.ResRefIdeal.Half.outB_eq _ _ _
    · rw [Cert.ResRefIdeal.Read.val_main_v11_eq, (hagree c).1, (hagree c).2.1, (hagree c).2.2]
      exact Cert.ResRefIdeal.Half.squares_eq _ _ _

/-- The frame of the reference of the combined projection. -/
theorem frame_MixIn : Cert.quiescent_MixInRefIdeal := by
  intro m ρ _
  exact (θ_run Cert.MixInRefIdeal.defs _ _).mono (fun r h => ⟨fun c => (h c).2.2,
      Idealize.ShloMosaic.sem_eq_zero_of_no_sems (by decide) r.2⟩) (Cert.MixInRefIdeal.Value.run (F := Ideal) m ρ)

/-- Norm and combined projection. -/
theorem algebraic_MixIn : Cert.algebraic_MixInIdeal_MixInRefIdeal := by
  intro m g m' g' _ hagree
  refine ⟨fun c => MixInSpec.heads (Cert.MixInRow.argX m c) (Cert.MixInRow.argG m c) (Cert.MixInRow.argW m c), fun c => MixInSpec.conv (Cert.MixInRow.argX m c) (Cert.MixInRow.argG m c) (Cert.MixInRow.argW m c), ?_, ?_⟩
  · exact Cert.MixInRow.run m g
  · refine (θ_run (Cert.MixInRefIdeal.defs (F := Ideal)) _ _).mono (fun r h c => ⟨(h c).1.trans ?_, (h c).2.1.trans ?_, (h c).2.2⟩)
      (Cert.MixInRefIdeal.Value.run (F := Ideal) m' g')
    · rw [Cert.MixInRefIdeal.Read.val_main_v23_eq, (hagree c).1, (hagree c).2.1, (hagree c).2.2]
      exact Cert.MixInRefIdeal.Proj.heads_eq _ _ _
    · rw [Cert.MixInRefIdeal.Read.val_main_v24_eq, (hagree c).1, (hagree c).2.1, (hagree c).2.2]
      exact Cert.MixInRefIdeal.Proj.conv_eq _ _ _

/-- The frame of the reference of the output projection. -/
theorem frame_MixOut : Cert.quiescent_MixOutRefIdeal := by
  intro m ρ _
  exact (θ_run Cert.MixOutRefIdeal.defs _ _).mono (fun r h => ⟨fun c => (h c).2.2.2,
      Idealize.ShloMosaic.sem_eq_zero_of_no_sems (by decide) r.2⟩) (Cert.MixOutRefIdeal.Value.run (F := Ideal) m ρ)

/-- Groups' norms, output projection and residual. -/
theorem algebraic_MixOut : Cert.algebraic_MixOutIdeal_MixOutRefIdeal := by
  intro m g m' g' _ hagree
  refine ⟨fun c => MixOutSpec.out (Cert.MixOutRow.arg0 m c) (Cert.MixOutRow.arg1 m c) (Cert.MixOutRow.arg2 m c) (Cert.MixOutRow.arg3 m c) (Cert.MixOutRow.argG m c) (Cert.MixOutRow.argW m c) (Cert.MixOutRow.argH m c), fun c => MixOutSpec.outB (Cert.MixOutRow.arg0 m c) (Cert.MixOutRow.arg1 m c) (Cert.MixOutRow.arg2 m c) (Cert.MixOutRow.arg3 m c) (Cert.MixOutRow.argG m c) (Cert.MixOutRow.argW m c) (Cert.MixOutRow.argH m c), fun c => MixOutSpec.squares (Cert.MixOutRow.arg0 m c) (Cert.MixOutRow.arg1 m c) (Cert.MixOutRow.arg2 m c) (Cert.MixOutRow.arg3 m c) (Cert.MixOutRow.argG m c) (Cert.MixOutRow.argW m c) (Cert.MixOutRow.argH m c), ?_, ?_⟩
  · exact (θ_run (Cert.MixOutIdeal.defs (F := Ideal)) _ _).mono (fun r h c => ⟨(h c).1.trans (Cert.MixOutRow.final6 m c), (h c).2.1.trans (Cert.MixOutRow.final7 m c), (h c).2.2.1.trans (Cert.MixOutRow.final8 m c), (h c).2.2.2⟩)
      (Cert.MixOutIdeal.Value.run_blocks (F := Ideal) m g)
  · refine (θ_run (Cert.MixOutRefIdeal.defs (F := Ideal)) _ _).mono (fun r h c => ⟨(h c).1.trans ?_, (h c).2.1.trans ?_, (h c).2.2.1.trans ?_, (h c).2.2.2⟩)
      (Cert.MixOutRefIdeal.Value.run (F := Ideal) m' g')
    · rw [Cert.MixOutRefIdeal.Read.val_main_v76_eq, (hagree c).1, (hagree c).2.1, (hagree c).2.2.1, (hagree c).2.2.2.1, (hagree c).2.2.2.2.1, (hagree c).2.2.2.2.2.1, (hagree c).2.2.2.2.2.2]
      exact Cert.MixOutRefIdeal.Merge.out_eq _ _ _ _ _ _ _
    · rw [Cert.MixOutRefIdeal.Read.val_main_v77_eq, (hagree c).1, (hagree c).2.1, (hagree c).2.2.1, (hagree c).2.2.2.1, (hagree c).2.2.2.2.1, (hagree c).2.2.2.2.2.1, (hagree c).2.2.2.2.2.2]
      exact Cert.MixOutRefIdeal.Merge.outB_eq _ _ _ _ _ _ _
    · rw [Cert.MixOutRefIdeal.Read.val_main_v81_eq, (hagree c).1, (hagree c).2.1, (hagree c).2.2.1, (hagree c).2.2.2.1, (hagree c).2.2.2.2.1, (hagree c).2.2.2.2.2.1, (hagree c).2.2.2.2.2.2]
      exact Cert.MixOutRefIdeal.Merge.squares_eq _ _ _ _ _ _ _

/-- The frame of the reference of the last norm. -/
theorem frame_Final : Cert.quiescent_FinalRefIdeal := by
  intro m ρ _
  exact (θ_run Cert.FinalRefIdeal.defs _ _).mono (fun r h => ⟨fun c => (h c).2,
      Idealize.ShloMosaic.sem_eq_zero_of_no_sems (by decide) r.2⟩) (Cert.FinalRefIdeal.Value.run (F := Ideal) m ρ)

/-- The last norm. -/
theorem algebraic_Final : Cert.algebraic_FinalIdeal_FinalRefIdeal := by
  intro m g m' g' _ hagree
  refine ⟨fun c => FinalSpec.out (Cert.FinalRow.argX m c) (Cert.FinalRow.argG m c), ?_, ?_⟩
  · exact (θ_run (Cert.FinalIdeal.defs (F := Ideal)) _ _).mono (fun r h c => ⟨(h c).1.trans (Cert.FinalRow.final2 m c), (h c).2⟩)
      (Cert.FinalIdeal.Value.run_blocks (F := Ideal) m g)
  · refine (θ_run (Cert.FinalRefIdeal.defs (F := Ideal)) _ _).mono (fun r h c => ⟨(h c).1.trans ?_, (h c).2⟩)
      (Cert.FinalRefIdeal.Value.run (F := Ideal) m' g')
    rw [Cert.FinalRefIdeal.Read.val_main_v12_eq, (hagree c).1, (hagree c).2]
    exact Cert.FinalRefIdeal.Last.out_eq _ _

/-- The frame of the reference of the convolution module. -/
theorem frame_Conv : Cert.quiescent_ConvRefIdeal := by
  intro m ρ _
  exact (θ_run Cert.ConvRefIdeal.defs _ _).mono (fun r h => ⟨fun c => (h c).2,
      Idealize.ShloMosaic.sem_eq_zero_of_no_sems (by decide) r.2⟩) (Cert.ConvRefIdeal.Value.run (F := Ideal) m ρ)

/-- The convolution module. -/
theorem algebraic_Conv : Cert.algebraic_ConvIdeal_ConvRefIdeal := by
  intro m g m' g' _ hagree
  refine ⟨fun c => ConvSpec.out (Cert.ConvRow.argU m c) (Cert.ConvRow.argW m c) (Cert.ConvRow.argB m c) (Cert.ConvRow.argG m c) (Cert.ConvRow.argH m c), ?_, ?_⟩
  · exact (θ_run (Cert.ConvIdeal.defs (F := Ideal)) _ _).mono (fun r h c => ⟨(h c).1.trans (Cert.ConvRow.final10 m c), (h c).2⟩)
      (Cert.ConvIdeal.Value.run_blocks (F := Ideal) m g)
  · refine (θ_run (Cert.ConvRefIdeal.defs (F := Ideal)) _ _).mono (fun r h c => ⟨(h c).1.trans ?_, (h c).2⟩)
      (Cert.ConvRefIdeal.Value.run (F := Ideal) m' g')
    rw [Cert.ConvRefIdeal.Read.val_main_v56_eq, (hagree c).1, (hagree c).2.1, (hagree c).2.2.1, (hagree c).2.2.2.1, (hagree c).2.2.2.2]
    exact Cert.ConvRefIdeal.Mod.out_eq _ _ _ _ _

/-- The frame of the reference of the windowed attention. -/
theorem frame_Swa : Cert.quiescent_SwaRefIdeal := by
  intro m ρ _
  exact (θ_run Cert.SwaRefIdeal.defs _ _).mono (fun r h => ⟨fun c => (h c).2,
      Idealize.ShloMosaic.sem_eq_zero_of_no_sems (by decide) r.2⟩) (Cert.SwaRefIdeal.Value.run (F := Ideal) m ρ)

/-- The windowed attention. -/
theorem algebraic_Swa : Cert.algebraic_SwaIdeal_SwaRefIdeal := by
  intro m g m' g' _ hagree
  refine ⟨fun c => SwaSpec.out (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)), ?_, ?_⟩
  · exact (θ_run (Cert.SwaIdeal.defs (F := Ideal)) _ _).mono (fun r h c => ⟨(h c).1.trans (Cert.SwaRow.final m c), (h c).2⟩)
      (Cert.SwaIdeal.Value.run_blocks (F := Ideal) m g)
  · refine (θ_run (Cert.SwaRefIdeal.defs (F := Ideal)) _ _).mono (fun r h c => ⟨(h c).1.trans ?_, (h c).2⟩)
      (Cert.SwaRefIdeal.Value.run (F := Ideal) m' g')
    rw [Cert.SwaRefIdeal.Read.val_main_v99_eq, (hagree c).1, (hagree c).2.1, (hagree c).2.2]
    exact SwaRef.out_eq _ _ _

theorem claim : Cert.Claim :=
  ⟨Cert.Na.Gen.facts, Cert.NaIdeal.Gen.facts, Cert.NaRefIdeal.Gen.facts, Cert.Ffn.Gen.facts, Cert.FfnIdeal.Gen.facts, Cert.FfnRefIdeal.Gen.facts, Cert.Res.Gen.facts, Cert.ResIdeal.Gen.facts, Cert.ResRefIdeal.Gen.facts, Cert.MixIn.Gen.facts, Cert.MixInIdeal.Gen.facts, Cert.MixInRefIdeal.Gen.facts, Cert.MixOut.Gen.facts, Cert.MixOutIdeal.Gen.facts, Cert.MixOutRefIdeal.Gen.facts, Cert.Final.Gen.facts, Cert.FinalIdeal.Gen.facts, Cert.FinalRefIdeal.Gen.facts, Cert.Conv.Gen.facts, Cert.ConvIdeal.Gen.facts, Cert.ConvRefIdeal.Gen.facts, Cert.Swa.Gen.facts, Cert.SwaIdeal.Gen.facts, Cert.SwaRefIdeal.Gen.facts, preFacts,
    fun m ρ _ => Cert.Na.Gen.frame m ρ, fun m ρ _ => Cert.NaIdeal.Gen.frame m ρ, fun m ρ _ => Cert.NaIdeal.Gen.frame m ρ,
    frame_r, fun m ρ _ => frame_r m ρ trivial,
    fun m ρ _ => Cert.Ffn.Gen.frame m ρ, fun m ρ _ => Cert.FfnIdeal.Gen.frame m ρ, frame_Ffn,
    fun m ρ _ => Cert.Res.Gen.frame m ρ, fun m ρ _ => Cert.ResIdeal.Gen.frame m ρ, frame_Res,
    fun m ρ _ => Cert.MixIn.Gen.frame m ρ, fun m ρ _ => Cert.MixInIdeal.Gen.frame m ρ, frame_MixIn,
    fun m ρ _ => Cert.MixOut.Gen.frame m ρ, fun m ρ _ => Cert.MixOutIdeal.Gen.frame m ρ, frame_MixOut,
    fun m ρ _ => Cert.Final.Gen.frame m ρ, fun m ρ _ => Cert.FinalIdeal.Gen.frame m ρ, frame_Final,
    fun m ρ _ => Cert.Conv.Gen.frame m ρ, fun m ρ _ => Cert.ConvIdeal.Gen.frame m ρ, frame_Conv,
    fun m ρ _ => Cert.Swa.Gen.frame m ρ, fun m ρ _ => Cert.SwaIdeal.Gen.frame m ρ, frame_Swa,
    trivial, algebraic, trivial, algebraic_Ffn, trivial, algebraic_Res, trivial, algebraic_MixIn, trivial, algebraic_MixOut, trivial, algebraic_Final, trivial, algebraic_Conv, trivial, algebraic_Swa⟩

end Cert.Proof

end
